-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 [hPre_regions : Cert.Pre_regions.Facts] (m : (ℓ : Loc Cert.Kernel2.nD Cert.Kernel2.τ Cert.Kernel2.sig) → Buf (Elt Bits) ℓ) : Prop :=
  ∀ c : Dev Cert.Kernel2.nD,
    (Cert.Pre_regions.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_regions.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.1 = (fun _ => 1#1)
    ∧ (Cert.Pre_regions.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.1 = (fun _ => 1#1)
    ∧ (Cert.Pre_regions.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.2 = (fun _ => 1#1)

def Pre_Kernel2Ideal [hPre_regions : Cert.Pre_regions.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_regions.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_regions.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_regions.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_regions.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_regions [hPre_regions : Cert.Pre_regions.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_regions.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_regions.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_regions.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_regions.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_regions : Cert.Pre_regions.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_regions : Cert.Pre_regions.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_regions [hReference2Ideal : Cert.Reference2Ideal.Facts] [hPre_regions : Cert.Pre_regions.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_regions m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_regions : Cert.Pre_regions.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v45_0)) (v1 : (c : Dev Cert.Kernel4Ideal.nD) → Buf (Elt Ideal) ((c.tc : Thread Cert.Kernel4Ideal.nD Cert.Kernel4Ideal.τ).loc Cert.Kernel4Ideal.main_v45_1)) (v2 : (c : Dev Cert.Kernel4Ideal.nD) → Buf (Elt Ideal) ((c.tc : Thread Cert.Kernel4Ideal.nD Cert.Kernel4Ideal.τ).loc Cert.Kernel4Ideal.main_v45_2)) (v3 : (c : Dev Cert.Kernel4Ideal.nD) → Buf (Elt Ideal) ((c.tc : Thread Cert.Kernel4Ideal.nD Cert.Kernel4Ideal.τ).loc Cert.Kernel4Ideal.main_v45_3)) (v4 : (c : Dev Cert.Kernel4Ideal.nD) → Buf (Elt Ideal) ((c.tc : Thread Cert.Kernel4Ideal.nD Cert.Kernel4Ideal.τ).loc Cert.Kernel4Ideal.main_v45_4)) (v5 : (c : Dev Cert.Kernel4Ideal.nD) → Buf (Elt Ideal) ((c.tc : Thread Cert.Kernel4Ideal.nD Cert.Kernel4Ideal.τ).loc Cert.Kernel4Ideal.main_v45_5)) (v6 : (c : Dev Cert.Kernel4Ideal.nD) → Buf (Elt Ideal) ((c.tc : Thread Cert.Kernel4Ideal.nD Cert.Kernel4Ideal.τ).loc Cert.Kernel4Ideal.main_v45_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45_0) = v0 c
          ∧ r.2.mem ((c.tc : Thread Cert.Kernel4Ideal.nD Cert.Kernel4Ideal.τ).loc Cert.Kernel4Ideal.main_v45_1) = v1 c
          ∧ r.2.mem ((c.tc : Thread Cert.Kernel4Ideal.nD Cert.Kernel4Ideal.τ).loc Cert.Kernel4Ideal.main_v45_2) = v2 c
          ∧ r.2.mem ((c.tc : Thread Cert.Kernel4Ideal.nD Cert.Kernel4Ideal.τ).loc Cert.Kernel4Ideal.main_v45_3) = v3 c
          ∧ r.2.mem ((c.tc : Thread Cert.Kernel4Ideal.nD Cert.Kernel4Ideal.τ).loc Cert.Kernel4Ideal.main_v45_4) = v4 c
          ∧ r.2.mem ((c.tc : Thread Cert.Kernel4Ideal.nD Cert.Kernel4Ideal.τ).loc Cert.Kernel4Ideal.main_v45_5) = v5 c
          ∧ r.2.mem ((c.tc : Thread Cert.Kernel4Ideal.nD Cert.Kernel4Ideal.τ).loc Cert.Kernel4Ideal.main_v45_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v86) = v4 c
          ∧ r.2.mem ((c.tc : Thread Cert.Reference4Ideal.nD Cert.Reference4Ideal.τ).loc Cert.Reference4Ideal.main_v87) = v5 c
          ∧ r.2.mem ((c.tc : Thread Cert.Reference4Ideal.nD Cert.Reference4Ideal.τ).loc Cert.Reference4Ideal.main_v47) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_regions : Cert.Pre_regions.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_regions := hPre_regions)
    ∧ quiescent_Kernel2Ideal (hKernel2Ideal := hKernel2Ideal) (hPre_regions := hPre_regions)
    ∧ quiescent_Reference2Ideal (hReference2Ideal := hReference2Ideal)
    ∧ quiescent_Reference2Ideal_pre_regions (hReference2Ideal := hReference2Ideal) (hPre_regions := hPre_regions)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_regions := hPre_regions)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x4x2x32 : Shape := ⟨5, ![8, 4096, 4, 2, 32]⟩
abbrev S8x4096x4x64 : Shape := ⟨4, ![8, 4096, 4, 64]⟩
abbrev S32 : Shape := ⟨1, ![32]⟩
abbrev S64 : Shape := ⟨1, ![64]⟩
abbrev S_ : Shape := ⟨0, ![]⟩

class Facts : Prop where
  bcast_S_S8x4096x4x2x32 : S_.BroadcastsInDim S8x4096x4x2x32 (![] : Fin 0 → Fin S8x4096x4x2x32.rank)
  bcast_S_S8x4096x4x64 : S_.BroadcastsInDim S8x4096x4x64 (![] : Fin 0 → Fin S8x4096x4x64.rank)
  bcast_S_S32 : S_.BroadcastsInDim S32 (![] : Fin 0 → Fin S32.rank)

variable [Facts]

def fn_part1 {F : FTy → Type} [FloatOps F] (main_arg6 : FVec F S32 .f32) (main_v2 : IVec S8x4096x4x2x32 1) (main_v5 : IVec S8x4096x4x2x32 1) (main_v8 : IVec S8x4096x4x64 1) (main_v11 : IVec S32 1) (main_v14 : IVec S32 1) (main_v17 : IVec S32 1) : IVec S8x4096x4x2x32 1 × IVec S8x4096x4x2x32 1 × IVec S8x4096x4x64 1 × IVec S32 1 × IVec S32 1 × IVec S32 1 × IVec S32 1 :=
  let main_v18 : FVec F S32 .f32 := Host.absf main_arg6
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  (main_v2, main_v5, main_v8, main_v11, main_v14, main_v17, main_v20)

def fn {F : FTy → Type} [FloatOps F] (main_arg0 : FVec F S8x4096x4x2x32 .f32) (main_arg1 : FVec F S8x4096x4x2x32 .f32) (main_arg2 : FVec F S8x4096x4x64 .f32) (main_arg3 : FVec F S32 .f32) (main_arg4 : FVec F S32 .f32) (main_arg5 : FVec F S32 .f32) (main_arg6 : FVec F S32 .f32) (main_arg7 : FVec F S64 .f32) : IVec S8x4096x4x2x32 1 × IVec S8x4096x4x2x32 1 × IVec S8x4096x4x64 1 × IVec S32 1 × IVec S32 1 × IVec S32 1 × IVec S32 1 :=
  let main_v0 : FVec F S8x4096x4x2x32 .f32 := Host.absf main_arg0
  let main_cst : FVec F S_ .f32 := constant S_ .f32 0x7F800000#32
  let main_v1 : FVec F S8x4096x4x2x32 .f32 := broadcastInDim S8x4096x4x2x32 ![] bcast_S_S8x4096x4x2x32 main_cst
  let main_v2 : IVec S8x4096x4x2x32 1 := cmpf .olt main_v0 main_v1
  let main_v3 : FVec F S8x4096x4x2x32 .f32 := Host.absf main_arg1
  let main_cst_0 : FVec F S_ .f32 := constant S_ .f32 0x7F800000#32
  let main_v4 : FVec F S8x4096x4x2x32 .f32 := broadcastInDim S8x4096x4x2x32 ![] bcast_S_S8x4096x4x2x32 main_cst_0
  let main_v5 : IVec S8x4096x4x2x32 1 := cmpf .olt main_v3 main_v4
  let main_v6 : FVec F S8x4096x4x64 .f32 := Host.absf main_arg2
  let main_cst_1 : FVec F S_ .f32 := constant S_ .f32 0x7F800000#32
  let main_v7 : FVec F S8x4096x4x64 .f32 := broadcastInDim S8x4096x4x64 ![] bcast_S_S8x4096x4x64 main_cst_1
  let main_v8 : IVec S8x4096x4x64 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg6 main_v2 main_v5 main_v8 main_v11 main_v14 main_v17
-- ==== Pre_regions.lean ====
abbrev S16 : Shape := ⟨1, ![16]⟩
abbrev S88064x1024 : Shape := ⟨2, ![88064, 1024]⟩
abbrev S4x16x1024x512 : Shape := ⟨4, ![4, 16, 1024, 512]⟩
abbrev S4x16x512x1024 : Shape := ⟨4, ![4, 16, 512, 1024]⟩
abbrev S_ : Shape := ⟨0, ![]⟩
abbrev S15 : Shape := ⟨1, ![15]⟩
abbrev S1 : Shape := ⟨1, ![1]⟩

class Facts : Prop where
  bcast_S_S16 : S_.BroadcastsInDim S16 (![] : Fin 0 → Fin S16.rank)
  slices_S16_S15_0 : S16.Slices ![0] S15
  slices_S16_S15_1 : S16.Slices ![1] S15
  slices_S16_S1_15 : S16.Slices ![15] S1
  bcast_S_S1 : S_.BroadcastsInDim S1 (![] : Fin 0 → Fin S1.rank)

variable [Facts]

def fn {F : FTy → Type} [FloatOps F] (main_arg0 : IVec S16 32) (main_arg1 : FVec F S88064x1024 .bf16) (main_arg2 : FVec F S4x16x1024x512 .f32) (main_arg3 : FVec F S4x16x1024x512 .f32) (main_arg4 : FVec F S4x16x512x1024 .f32) : IVec S16 1 × IVec S15 1 × IVec S16 1 × IVec S1 1 :=
  let main_c : IVec S_ 32 := constantI S_ 32 0#32
  let main_v0 : IVec S16 32 := broadcastInDim S16 ![] bcast_S_S16 main_c
  let main_v1 : IVec S16 1 := cmpi .sge main_arg0 main_v0
  let main_v2 : IVec S15 32 := (extractStridedSlice S15 ![0] · slices_S16_S15_0) main_arg0
  let main_v3 : IVec S15 32 := (extractStridedSlice S15 ![1] · slices_S16_S15_1) main_arg0
  let main_v4 : IVec S15 1 := cmpi .sle main_v2 main_v3
  let main_c_0 : IVec S_ 32 := constantI S_ 32 511#32
  let main_v5 : IVec S16 32 := broadcastInDim S16 ![] bcast_S_S16 main_c_0
  let main_v6 : IVec S16 32 := andi main_arg0 main_v5
  let main_c_1 : IVec S_ 32 := constantI S_ 32 0#32
  let main_v7 : IVec S16 32 := broadcastInDim S16 ![] bcast_S_S16 main_c_1
  let main_v8 : IVec S16 1 := cmpi .eq main_v6 main_v7
  let main_v9 : IVec S1 32 := (extractStridedSlice S1 ![15] · slices_S16_S1_15) main_arg0
  let main_c_2 : IVec S_ 32 := constantI S_ 32 1#32
  let main_v10 : IVec S1 32 := broadcastInDim S1 ![] bcast_S_S1 main_c_2
  let main_v11 : IVec S1 1 := cmpi .sge main_v9 main_v10
  (main_v1, main_v4, main_v8, main_v11)
-- ==== Kernel.lean ====
abbrev S8x4096x4x2x32 : Shape := ⟨5, ![8, 4096, 4, 2, 32]⟩
abbrev S8x4096x4x64 : Shape := ⟨4, ![8, 4096, 4, 64]⟩
abbrev S32 : Shape := ⟨1, ![32]⟩
abbrev S64 : Shape := ⟨1, ![64]⟩
abbrev S_ : Shape := ⟨0, ![]⟩
abbrev S32768x256 : Shape := ⟨2, ![32768, 256]⟩
abbrev S256x32768 : Shape := ⟨2, ![256, 32768]⟩
abbrev S64x32768 : Shape := ⟨2, ![64, 32768]⟩
abbrev S512x32768 : Shape := ⟨2, ![512, 32768]⟩
abbrev S1x32 : Shape := ⟨2, ![1, 32]⟩
abbrev S1x128 : Shape := ⟨2, ![1, 128]⟩
abbrev S4x128 : Shape := ⟨2, ![4, 128]⟩
abbrev S1x64 : Shape := ⟨2, ![1, 64]⟩
abbrev S512x256 : Shape := ⟨2, ![512, 256]⟩
abbrev S4096x256 : Shape := ⟨2, ![4096, 256]⟩
abbrev S512x4096 : Shape := ⟨2, ![512, 4096]⟩
abbrev S8x512x128 : Shape := ⟨3, ![8, 512, 128]⟩
abbrev S8x8x512 : Shape := ⟨3, ![8, 8, 512]⟩
abbrev S8x128x512 : Shape := ⟨3, ![8, 128, 512]⟩
abbrev S8x512x512 : Shape := ⟨3, ![8, 512, 512]⟩
abbrev S512x128 : Shape := ⟨2, ![512, 128]⟩
abbrev S1x512x128 : Shape := ⟨3, ![1, 512, 128]⟩
abbrev S512x512 : Shape := ⟨2, ![512, 512]⟩
abbrev S1x512x512 : Shape := ⟨3, ![1, 512, 512]⟩
abbrev S128x512 : Shape := ⟨2, ![128, 512]⟩
abbrev S64x8x512 : Shape := ⟨3, ![64, 8, 512]⟩
abbrev S1x8x512 : Shape := ⟨3, ![1, 8, 512]⟩
abbrev S8x512 : Shape := ⟨2, ![8, 512]⟩
abbrev S1x128x512 : Shape := ⟨3, ![1, 128, 512]⟩
abbrev S16x8x512 : Shape := ⟨3, ![16, 8, 512]⟩
abbrev S1 : Shape := ⟨1, ![1]⟩
abbrev S1x1 : Shape := ⟨2, ![1, 1]⟩
abbrev S64x512 : Shape := ⟨2, ![64, 512]⟩
abbrev S1x512 : Shape := ⟨2, ![1, 512]⟩
abbrev S512 : Shape := ⟨1, ![512]⟩
abbrev S512x64 : Shape := ⟨2, ![512, 64]⟩

abbrev nBuf : Space → Nat
  | .hbm => 59
  | .vmem => 14
  | .smem => 0
  | _ => 0

abbrev bufTy : (tb : Table) → Fin (tcTables nBuf tb) → BufTy
  | .hbm, ⟨0, _⟩ => ⟨S8x4096x4x2x32, .f32⟩
  | .hbm, ⟨1, _⟩ => ⟨S8x4096x4x2x32, .f32⟩
  | .hbm, ⟨2, _⟩ => ⟨S8x4096x4x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x4x2x32, .f32⟩
  | .hbm, ⟨14, _⟩ => ⟨S8x4096x4x2x32, .f32⟩
  | .hbm, ⟨15, _⟩ => ⟨S8x4096x4x2x32, .bf16⟩
  | .hbm, ⟨16, _⟩ => ⟨S32768x256, .bf16⟩
  | .hbm, ⟨17, _⟩ => ⟨S8x4096x4x2x32, .bf16⟩
  | .hbm, ⟨18, _⟩ => ⟨S32768x256, .bf16⟩
  | .hbm, ⟨19, _⟩ => ⟨S32768x256, .f32⟩
  | .hbm, ⟨20, _⟩ => ⟨S256x32768, .f32⟩
  | .hbm, ⟨21, _⟩ => ⟨S64x32768, .i32⟩
  | .hbm, ⟨22, _⟩ => ⟨S_, .i32⟩
  | .hbm, ⟨23, _⟩ => ⟨S64x32768, .i32⟩
  | .hbm, ⟨24, _⟩ => ⟨S64x32768, .i1⟩
  | .hbm, ⟨25, _⟩ => ⟨S_, .f32⟩
  | .hbm, ⟨26, _⟩ => ⟨S_, .f32⟩
  | .hbm, ⟨27, _⟩ => ⟨S64x32768, .f32⟩
  | .hbm, ⟨28, _⟩ => ⟨S64x32768, .f32⟩
  | .hbm, ⟨29, _⟩ => ⟨S64x32768, .f32⟩
  | .hbm, ⟨30, _⟩ => ⟨S64x32768, .f32⟩
  | .hbm, ⟨31, _⟩ => ⟨S64x32768, .f32⟩
  | .hbm, ⟨32, _⟩ => ⟨S64x32768, .f32⟩
  | .hbm, ⟨33, _⟩ => ⟨S64x32768, .f32⟩
  | .hbm, ⟨34, _⟩ => ⟨S64x32768, .f32⟩
  | .hbm, ⟨35, _⟩ => ⟨S64x32768, .f32⟩
  | .hbm, ⟨36, _⟩ => ⟨S64x32768, .f32⟩
  | .hbm, ⟨37, _⟩ => ⟨S64x32768, .f32⟩
  | .hbm, ⟨38, _⟩ => ⟨S512x32768, .f32⟩
  | .hbm, ⟨39, _⟩ => ⟨S512x32768, .bf16⟩
  | .hbm, ⟨40, _⟩ => ⟨S1x32, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S1x32, .f32⟩
  | .hbm, ⟨45, _⟩ => ⟨S_, .i32⟩
  | .hbm, ⟨46, _⟩ => ⟨S_, .f32⟩
  | .hbm, ⟨47, _⟩ => ⟨S1x128, .f32⟩
  | .hbm, ⟨48, _⟩ => ⟨S1x32, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S1x32, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S4x128, .f32⟩
  | .hbm, ⟨57, _⟩ => ⟨S1x64, .f32⟩
  | .hbm, ⟨58, _⟩ => ⟨S32768x256, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S512x4096, .bf16⟩
  | .local _ .vmem, ⟨5, _⟩ => ⟨S512x4096, .bf16⟩
  | .local _ .vmem, ⟨6, _⟩ => ⟨S4x128, .f32⟩
  | .local _ .vmem, ⟨7, _⟩ => ⟨S1x64, .f32⟩
  | .local _ .vmem, ⟨8, _⟩ => ⟨S512x256, .bf16⟩
  | .local _ .vmem, ⟨9, _⟩ => ⟨S512x256, .bf16⟩
  | .local _ .vmem, ⟨10, _⟩ => ⟨S8x512x128, .bf16⟩
  | .local _ .vmem, ⟨11, _⟩ => ⟨S8x8x512, .f32⟩
  | .local _ .vmem, ⟨12, _⟩ => ⟨S8x128x512, .f32⟩
  | .local _ .vmem, ⟨13, _⟩ => ⟨S8x512x512, .f32⟩
  | _, _ => ⟨S8x4096x4x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_call3_v0 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_call4_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_59 : BitVec 32 := 1#32
  ⟨c0_i32_58, v125, c1_i32_59⟩
def k0_mult1 (i : grid0.Coords) (k0_t1 : Fin (k0_t1_loop i).trips) : BitVec 32 :=
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  v667
def k0_off1 (i : grid0.Coords) (k0_t1 : Fin (k0_t1_loop i).trips) : Fin 2 → Nat :=
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v669 : Index := Scalar.indexCast v668
  let c0_344 : Index := 0#32
  ![v669.toNat, 0]
def k0_off2 (i : grid0.Coords) (k0_t1 : Fin (k0_t1_loop i).trips) : Fin 2 → Nat :=
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v705 : Index := Scalar.indexCast v668
  let c128_376 : Index := 128#32
  ![v705.toNat, 128]
def k0_off3 (i : grid0.Coords) (k0_t1 : Fin (k0_t1_loop i).trips) : Fin 2 → Nat :=
  let c0_408 : Index := 0#32
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v741 : Index := Scalar.indexCast v668
  ![0, v741.toNat]
def k0_off4 (i : grid0.Coords) (k0_t1 : Fin (k0_t1_loop i).trips) : Fin 2 → Nat :=
  let c128_450 : Index := 128#32
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v819 : Index := Scalar.indexCast v668
  ![128, v819.toNat]
def k0_off5 (i : grid0.Coords) (k0_t1 : Fin (k0_t1_loop i).trips) : Fin 2 → Nat :=
  let c256_492 : Index := 256#32
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v897 : Index := Scalar.indexCast v668
  ![256, v897.toNat]
def k0_off6 (i : grid0.Coords) (k0_t1 : Fin (k0_t1_loop i).trips) : Fin 2 → Nat :=
  let c384_534 : Index := 384#32
  let c0_i32_58 : BitVec 32 := 0#32
  let c1_i32_59 : BitVec 32 := 1#32
  let arg12 : BitVec 32 := Scf.iv c0_i32_58 c1_i32_59 k0_t1
  let c512_i32_343 : BitVec 32 := 512#32
  let v667 : BitVec 32 := Scalar.muli arg12 c512_i32_343
  let v668 : BitVec 32 := v667
  let v975 : Index := Scalar.indexCast v668
  ![384, v975.toNat]
@[reducible] def k0_t2_loop (i : grid0.Coords) : Scf.Loop 32 :=
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let v122 : BitVec 32 := Scalar.addi c0_i32_58 v121
  let c1_i32_60 : BitVec 32 := 1#32
  ⟨v125, v122, c1_i32_60⟩
def k0_mult2 (i : grid0.Coords) (k0_t2 : Fin (k0_t2_loop i).trips) : BitVec 32 :=
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  v667
def k0_off7 (i : grid0.Coords) (k0_t2 : Fin (k0_t2_loop i).trips) : Fin 2 → Nat :=
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v669 : Index := Scalar.indexCast v668
  let c0_344 : Index := 0#32
  ![v669.toNat, 0]
def k0_off8 (i : grid0.Coords) (k0_t2 : Fin (k0_t2_loop i).trips) : Fin 2 → Nat :=
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v705 : Index := Scalar.indexCast v668
  let c128_376 : Index := 128#32
  ![v705.toNat, 128]
def k0_off9 (i : grid0.Coords) (k0_t2 : Fin (k0_t2_loop i).trips) : Fin 2 → Nat :=
  let c0_408 : Index := 0#32
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v741 : Index := Scalar.indexCast v668
  ![0, v741.toNat]
def k0_off10 (i : grid0.Coords) (k0_t2 : Fin (k0_t2_loop i).trips) : Fin 2 → Nat :=
  let c128_450 : Index := 128#32
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v819 : Index := Scalar.indexCast v668
  ![128, v819.toNat]
def k0_off11 (i : grid0.Coords) (k0_t2 : Fin (k0_t2_loop i).trips) : Fin 2 → Nat :=
  let c256_492 : Index := 256#32
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v897 : Index := Scalar.indexCast v668
  ![256, v897.toNat]
def k0_off12 (i : grid0.Coords) (k0_t2 : Fin (k0_t2_loop i).trips) : Fin 2 → Nat :=
  let c384_534 : Index := 384#32
  let c0_i32_58 : BitVec 32 := 0#32
  let arg1 : BitVec 32 := BitVec.ofNat 32 (i 1).val
  let v121 : BitVec 32 := Scalar.subi arg1 c0_i32_58
  let c1_i32 : BitVec 32 := 1#32
  let v123 : BitVec 32 := Scalar.divsi v121 c1_i32
  let v124 : BitVec 32 := Scalar.muli v123 c1_i32
  let v125 : BitVec 32 := Scalar.addi c0_i32_58 v124
  let c1_i32_60 : BitVec 32 := 1#32
  let arg12 : BitVec 32 := Scf.iv v125 c1_i32_60 k0_t2
  let c512_i32_343 : BitVec 32 := 512#32
  let v667 : BitVec 32 := Scalar.muli arg12 c512_i32_343
  let v668 : BitVec 32 := v667
  let v975 : Index := Scalar.indexCast v668
  ![384, v975.toNat]
def k0_mult3 (i : grid0.Coords) : BitVec 32 :=
  let arg1 : BitVec 32 := BitVec.ofNat 32 (i 1).val
  let c512_i32 : BitVec 32 := 512#32
  let v129 : BitVec 32 := Scalar.muli arg1 c512_i32
  v129
def k0_off13 (i : grid0.Coords) : Fin 2 → Nat :=
  let arg1 : BitVec 32 := BitVec.ofNat 32 (i 1).val
  let c512_i32 : BitVec 32 := 512#32
  let v129 : BitVec 32 := Scalar.muli arg1 c512_i32
  let v130 : BitVec 32 := v129
  let v131 : Index := Scalar.indexCast v130
  let c0_61 : Index := 0#32
  ![v131.toNat, 0]
def k0_off14 (i : grid0.Coords) : Fin 2 → Nat :=
  let arg1 : BitVec 32 := BitVec.ofNat 32 (i 1).val
  let c512_i32 : BitVec 32 := 512#32
  let v129 : BitVec 32 := Scalar.muli arg1 c512_i32
  let v130 : BitVec 32 := v129
  let v167 : Index := Scalar.indexCast v130
  let c128_93 : Index := 128#32
  ![v167.toNat, 128]
def k0_off15 (i : grid0.Coords) : Fin 2 → Nat :=
  let c0_125 : Index := 0#32
  let arg1 : BitVec 32 := BitVec.ofNat 32 (i 1).val
  let c512_i32 : BitVec 32 := 512#32
  let v129 : BitVec 32 := Scalar.muli arg1 c512_i32
  let v130 : BitVec 32 := v129
  let v203 : Index := Scalar.indexCast v130
  ![0, v203.toNat]
def k0_off16 (i : grid0.Coords) : Fin 2 → Nat :=
  let c128_167 : Index := 128#32
  let arg1 : BitVec 32 := BitVec.ofNat 32 (i 1).val
  let c512_i32 : BitVec 32 := 512#32
  let v129 : BitVec 32 := Scalar.muli arg1 c512_i32
  let v130 : BitVec 32 := v129
  let v285 : Index := Scalar.indexCast v130
  ![128, v285.toNat]
def k0_off17 (i : grid0.Coords) : Fin 2 → Nat :=
  let c256 : Index := 256#32
  let arg1 : BitVec 32 := BitVec.ofNat 32 (i 1).val
  let c512_i32 : BitVec 32 := 512#32
  let v129 : BitVec 32 := Scalar.muli arg1 c512_i32
  let v130 : BitVec 32 := v129
  let v367 : Index := Scalar.indexCast v130
  ![256, v367.toNat]
def k0_off18 (i : grid0.Coords) : Fin 2 → Nat :=
  let c384 : Index := 384#32
  let arg1 : BitVec 32 := BitVec.ofNat 32 (i 1).val
  let c512_i32 : BitVec 32 := 512#32
  let v129 : BitVec 32 := Scalar.muli arg1 c512_i32
  let v130 : BitVec 32 := v129
  let v449 : Index := Scalar.indexCast v130
  ![384, v449.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x4x2x32 : Shape := ⟨5, ![8, 4096, 4, 2, 32]⟩
abbrev S8x4096x4x64 : Shape := ⟨4, ![8, 4096, 4, 64]⟩
abbrev S32 : Shape := ⟨1, ![32]⟩
abbrev S64 : Shape := ⟨1, ![64]⟩
abbrev S_ : Shape := ⟨0, ![]⟩
abbrev S8x4x2x4096x32 : Shape := ⟨5, ![8, 4, 2, 4096, 32]⟩
abbrev S8x4x4096x64 : Shape := ⟨4, ![8, 4, 4096, 64]⟩
abbrev S4096 : Shape := ⟨1, ![4096]⟩
abbrev S8x4x2x4096x4096 : Shape := ⟨5, ![8, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S32768x256 : Shape := ⟨2, ![32768, 256]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x4x2x32, .f32⟩
  | .hbm, ⟨1, _⟩ => ⟨S8x4096x4x2x32, .f32⟩
  | .hbm, ⟨2, _⟩ => ⟨S8x4096x4x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x4x2x4096x32, .f32⟩
  | .hbm, ⟨20, _⟩ => ⟨S8x4x2x4096x32, .f32⟩
  | .hbm, ⟨21, _⟩ => ⟨S8x4x4096x64, .f32⟩
  | .hbm, ⟨22, _⟩ => ⟨S4096, .i32⟩
  | .hbm, ⟨23, _⟩ => ⟨S8x4x2x4096x4096, .f32⟩
  | .hbm, ⟨24, _⟩ => ⟨S_, .f32⟩
  | .hbm, ⟨25, _⟩ => ⟨S_, .f32⟩
  | .hbm, ⟨26, _⟩ => ⟨S8x4x2x4096x4096, .f32⟩
  | .hbm, ⟨27, _⟩ => ⟨S8x4x2x4096x4096, .f32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4x2x4096x4096, .i1⟩
  | .hbm, ⟨36, _⟩ => ⟨S8x4x2x4096x4096, .f32⟩
  | .hbm, ⟨37, _⟩ => ⟨S8x4x2x4096x4096, .f32⟩
  | .hbm, ⟨38, _⟩ => ⟨S_, .f32⟩
  | .hbm, ⟨39, _⟩ => ⟨S8x4x2x4096, .f32⟩
  | .hbm, ⟨40, _⟩ => ⟨S_, .f32⟩
  | .hbm, ⟨41, _⟩ => ⟨S8x4x2x4096, .f32⟩
  | .hbm, ⟨42, _⟩ => ⟨S8x4x2x4096, .f32⟩
  | .hbm, ⟨43, _⟩ => ⟨S8x4x2x4096x1, .f32⟩
  | .hbm, ⟨44, _⟩ => ⟨S8x4x2x4096x4096, .f32⟩
  | .hbm, ⟨45, _⟩ => ⟨S8x4x2x4096x4096, .f32⟩
  | .hbm, ⟨46, _⟩ => ⟨S8x4x2x4096x4096, .f32⟩
  | .hbm, ⟨47, _⟩ => ⟨S_, .f32⟩
  | .hbm, ⟨48, _⟩ => ⟨S8x4x2x4096, .f32⟩
  | .hbm, ⟨49, _⟩ => ⟨S8x4x2x4096x1, .f32⟩
  | .hbm, ⟨50, _⟩ => ⟨S8x4x2x4096x4096, .f32⟩
  | .hbm, ⟨51, _⟩ => ⟨S8x4x2x4096x4096, .f32⟩
  | .hbm, ⟨52, _⟩ => ⟨S8x4x1x4096x4096, .f32⟩
  | .hbm, ⟨53, _⟩ => ⟨S8x4x4096x4096, .f32⟩
  | .hbm, ⟨54, _⟩ => ⟨S8x4x1x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S8x4x4096x64, .f32⟩
  | .hbm, ⟨60, _⟩ => ⟨S8x4096x4x64, .f32⟩
  | .hbm, ⟨61, _⟩ => ⟨S8x4096x4x64, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x64, .f32⟩
  | .hbm, ⟨73, _⟩ => ⟨S8x4096x4x64, .f32⟩
  | .hbm, ⟨74, _⟩ => ⟨S1x1x1x64, .f32⟩
  | .hbm, ⟨75, _⟩ => ⟨S8x4096x4x64, .f32⟩
  | .hbm, ⟨76, _⟩ => ⟨S8x4096x4x64, .f32⟩
  | .hbm, ⟨77, _⟩ => ⟨S_, .f32⟩
  | .hbm, ⟨78, _⟩ => ⟨S8x4096x4x64, .f32⟩
  | .hbm, ⟨79, _⟩ => ⟨S8x4096x4x64, .f32⟩
  | .hbm, ⟨80, _⟩ => ⟨S32768x256, .f32⟩
  | .hbm, ⟨81, _⟩ => ⟨S32768x256, .bf16⟩
  | _, _ => ⟨S8x4096x4x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel2.lean ====
abbrev S16 : Shape := ⟨1, ![16]⟩
abbrev S88064x1024 : Shape := ⟨2, ![88064, 1024]⟩
abbrev S4x16x1024x512 : Shape := ⟨4, ![4, 16, 1024, 512]⟩
abbrev S4x16x512x1024 : Shape := ⟨4, ![4, 16, 512, 1024]⟩
abbrev S172 : Shape := ⟨1, ![172]⟩
abbrev S172x1 : Shape := ⟨2, ![172, 1]⟩
abbrev S_ : Shape := ⟨0, ![]⟩
abbrev S1x16 : Shape := ⟨2, ![1, 16]⟩
abbrev S172x16 : Shape := ⟨2, ![172, 16]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 53
  | .vmem => 13
  | .smem => 2
  | _ => 0

abbrev bufTy : (tb : Table) → Fin (tcTables nBuf tb) → BufTy
  | .hbm, ⟨0, _⟩ => ⟨S16, .i32⟩
  | .hbm, ⟨1, _⟩ => ⟨S88064x1024, .bf16⟩
  | .hbm, ⟨2, _⟩ => ⟨S4x16x1024x512, .f32⟩
  | .hbm, ⟨3, _⟩ => ⟨S4x16x1024x512, .f32⟩
  | .hbm, ⟨4, _⟩ => ⟨S4x16x512x1024, .f32⟩
  | .hbm, ⟨5, _⟩ => ⟨S172, .i32⟩
  | .hbm, ⟨6, _⟩ => ⟨S172x1, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S1x16, .i32⟩
  | .hbm, ⟨26, _⟩ => ⟨S172x16, .i32⟩
  | .hbm, ⟨27, _⟩ => ⟨S172x16, .i32⟩
  | .hbm, ⟨28, _⟩ => ⟨S172x16, .i1⟩
  | .hbm, ⟨29, _⟩ => ⟨S172x16, .i32⟩
  | .hbm, ⟨30, _⟩ => ⟨S_, .i32⟩
  | .hbm, ⟨31, _⟩ => ⟨S172, .i32⟩
  | .hbm, ⟨32, _⟩ => ⟨S_, .i32⟩
  | .hbm, ⟨33, _⟩ => ⟨S172, .i32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i1⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i1⟩
  | .hbm, ⟨48, _⟩ => ⟨S1, .i1⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S88064x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S172, .i32⟩
  | .local _ .smem, ⟨1, _⟩ => ⟨S1, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v11 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v10 : Ref sig .tc := ⟨.smem, 0, rfl⟩
abbrev main_v12 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![172], ![false]⟩

abbrev pre0 : Pipeline.Prefetch sig := ⟨2, ![main_v10.idx, main_v12.idx], fun | 0 => main_v10.names | 1 => main_v12.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S172.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S172) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S172.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S172) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S172.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S172) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16 : Shape := ⟨1, ![16]⟩
abbrev S88064x1024 : Shape := ⟨2, ![88064, 1024]⟩
abbrev S4x16x1024x512 : Shape := ⟨4, ![4, 16, 1024, 512]⟩
abbrev S4x16x512x1024 : Shape := ⟨4, ![4, 16, 512, 1024]⟩
abbrev S88064 : Shape := ⟨1, ![88064]⟩
abbrev S88064x1 : Shape := ⟨2, ![88064, 1]⟩
abbrev S_ : Shape := ⟨0, ![]⟩
abbrev S1 : Shape := ⟨1, ![1]⟩
abbrev S15 : Shape := ⟨1, ![15]⟩
abbrev S1x16 : Shape := ⟨2, ![1, 16]⟩
abbrev S88064x16 : Shape := ⟨2, ![88064, 16]⟩
abbrev S1x16x1024x512 : Shape := ⟨4, ![1, 16, 1024, 512]⟩
abbrev S16x1024x512 : Shape := ⟨3, ![16, 1024, 512]⟩
abbrev S16x512x88064 : Shape := ⟨3, ![16, 512, 88064]⟩
abbrev S16x88064x512 : Shape := ⟨3, ![16, 88064, 512]⟩
abbrev S1x16x512x1024 : Shape := ⟨4, ![1, 16, 512, 1024]⟩
abbrev S16x512x1024 : Shape := ⟨3, ![16, 512, 1024]⟩
abbrev S16x88064x1024 : Shape := ⟨3, ![16, 88064, 1024]⟩
abbrev S16x88064 : Shape := ⟨2, ![16, 88064]⟩
abbrev S16x88064x1 : Shape := ⟨3, ![16, 88064, 1]⟩

abbrev nBuf : Space → Nat
  | .hbm => 55
  | .vmem => 0
  | .smem => 0
  | _ => 0

abbrev bufTy : (tb : Table) → Fin (tcTables nBuf tb) → BufTy
  | .hbm, ⟨0, _⟩ => ⟨S16, .i32⟩
  | .hbm, ⟨1, _⟩ => ⟨S88064x1024, .bf16⟩
  | .hbm, ⟨2, _⟩ => ⟨S4x16x1024x512, .f32⟩
  | .hbm, ⟨3, _⟩ => ⟨S4x16x1024x512, .f32⟩
  | .hbm, ⟨4, _⟩ => ⟨S4x16x512x1024, .f32⟩
  | .hbm, ⟨5, _⟩ => ⟨S88064, .i32⟩
  | .hbm, ⟨6, _⟩ => ⟨S88064x1, .i32⟩
  | .hbm, ⟨7, _⟩ => ⟨S_, .i32⟩
  | .hbm, ⟨8, _⟩ => ⟨S1, .i32⟩
  | .hbm, ⟨9, _⟩ => ⟨S15, .i32⟩
  | .hbm, ⟨10, _⟩ => ⟨S16, .i32⟩
  | .hbm, ⟨11, _⟩ => ⟨S1x16, .i32⟩
  | .hbm, ⟨12, _⟩ => ⟨S88064x16, .i32⟩
  | .hbm, ⟨13, _⟩ => ⟨S88064x16, .i32⟩
  | .hbm, ⟨14, _⟩ => ⟨S88064x16, .i1⟩
  | .hbm, ⟨15, _⟩ => ⟨S1x16, .i32⟩
  | .hbm, ⟨16, _⟩ => ⟨S88064x16, .i32⟩
  | .hbm, ⟨17, _⟩ => ⟨S88064x16, .i32⟩
  | .hbm, ⟨18, _⟩ => ⟨S88064x16, .i1⟩
  | .hbm, ⟨19, _⟩ => ⟨S88064x16, .i1⟩
  | .hbm, ⟨20, _⟩ => ⟨S_, .f32⟩
  | .hbm, ⟨21, _⟩ => ⟨S_, .f32⟩
  | .hbm, ⟨22, _⟩ => ⟨S88064x16, .f32⟩
  | .hbm, ⟨23, _⟩ => ⟨S88064x16, .f32⟩
  | .hbm, ⟨24, _⟩ => ⟨S88064x16, .f32⟩
  | .hbm, ⟨25, _⟩ => ⟨S88064x1024, .f32⟩
  | .hbm, ⟨26, _⟩ => ⟨S1x16x1024x512, .f32⟩
  | .hbm, ⟨27, _⟩ => ⟨S16x1024x512, .f32⟩
  | .hbm, ⟨28, _⟩ => ⟨S16x512x88064, .f32⟩
  | .hbm, ⟨29, _⟩ => ⟨S16x88064x512, .f32⟩
  | .hbm, ⟨30, _⟩ => ⟨S16x88064x512, .f32⟩
  | .hbm, ⟨31, _⟩ => ⟨S16x88064x512, .f32⟩
  | .hbm, ⟨32, _⟩ => ⟨S_, .f32⟩
  | .hbm, ⟨33, _⟩ => ⟨S16x88064x512, .f32⟩
  | .hbm, ⟨34, _⟩ => ⟨S16x88064x512, .f32⟩
  | .hbm, ⟨35, _⟩ => ⟨S_, .f32⟩
  | .hbm, ⟨36, _⟩ => ⟨S16x88064x512, .f32⟩
  | .hbm, ⟨37, _⟩ => ⟨S16x88064x512, .f32⟩
  | .hbm, ⟨38, _⟩ => ⟨S16x88064x512, .f32⟩
  | .hbm, ⟨39, _⟩ => ⟨S1x16x1024x512, .f32⟩
  | .hbm, ⟨40, _⟩ => ⟨S16x1024x512, .f32⟩
  | .hbm, ⟨41, _⟩ => ⟨S16x512x88064, .f32⟩
  | .hbm, ⟨42, _⟩ => ⟨S16x88064x512, .f32⟩
  | .hbm, ⟨43, _⟩ => ⟨S16x88064x512, .f32⟩
  | .hbm, ⟨44, _⟩ => ⟨S1x16x512x1024, .f32⟩
  | .hbm, ⟨45, _⟩ => ⟨S16x512x1024, .f32⟩
  | .hbm, ⟨46, _⟩ => ⟨S16x88064x1024, .f32⟩
  | .hbm, ⟨47, _⟩ => ⟨S16x88064, .f32⟩
  | .hbm, ⟨48, _⟩ => ⟨S16x88064x1, .f32⟩
  | .hbm, ⟨49, _⟩ => ⟨S16x88064x1, .f32⟩
  | .hbm, ⟨50, _⟩ => ⟨S16x88064x1024, .f32⟩
  | .hbm, ⟨51, _⟩ => ⟨S16x88064x1024, .f32⟩
  | .hbm, ⟨52, _⟩ => ⟨S_, .f32⟩
  | .hbm, ⟨53, _⟩ => ⟨S88064x1024, .f32⟩
  | .hbm, ⟨54, _⟩ => ⟨S88064x1024, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel3.lean ====
abbrev S8x1024 : Shape := ⟨2, ![8, 1024]⟩
abbrev S4x1024x6144 : Shape := ⟨3, ![4, 1024, 6144]⟩
abbrev S4x6144 : Shape := ⟨2, ![4, 6144]⟩
abbrev S4x6x1x1024 : Shape := ⟨4, ![4, 6, 1, 1024]⟩
abbrev S4x6x8x1024 : Shape := ⟨4, ![4, 6, 8, 1024]⟩
abbrev S1x1024x1024 : Shape := ⟨3, ![1, 1024, 1024]⟩
abbrev S1x1x1x1024 : Shape := ⟨4, ![1, 1, 1, 1024]⟩
abbrev S1x1x8x1024 : Shape := ⟨4, ![1, 1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x6x1x1024, .f32⟩
  | .hbm, ⟨4, _⟩ => ⟨S4x6x8x1024, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x8x1024, .f32⟩
  | .local _ .vmem, ⟨6, _⟩ => ⟨S1x1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩
abbrev S4x8x6x1024 : Shape := ⟨4, ![4, 8, 6, 1024]⟩
abbrev S4x6x8x1024 : Shape := ⟨4, ![4, 6, 8, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | .hbm, ⟨17, _⟩ => ⟨S4x8x6x1024, .f32⟩
  | .hbm, ⟨18, _⟩ => ⟨S4x6x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x6x1024 : Shape := ⟨3, ![8, 6, 1024]⟩
abbrev S8x4096 : Shape := ⟨2, ![8, 4096]⟩
abbrev S1024x3608 : Shape := ⟨2, ![1024, 3608]⟩
abbrev S256 : Shape := ⟨1, ![256]⟩
abbrev S4 : Shape := ⟨1, ![4]⟩
abbrev S_ : Shape := ⟨0, ![]⟩
abbrev S32768x1 : Shape := ⟨2, ![32768, 1]⟩
abbrev S1x4 : Shape := ⟨2, ![1, 4]⟩
abbrev S32768x4 : Shape := ⟨2, ![32768, 4]⟩
abbrev S256x1 : Shape := ⟨2, ![256, 1]⟩
abbrev S32768x256 : Shape := ⟨2, ![32768, 256]⟩
abbrev S32768x1024 : Shape := ⟨2, ![32768, 1024]⟩
abbrev S1024x1024 : Shape := ⟨2, ![1024, 1024]⟩
abbrev S1024x2560 : Shape := ⟨2, ![1024, 2560]⟩
abbrev S1024x8 : Shape := ⟨2, ![1024, 8]⟩
abbrev S1024x16 : Shape := ⟨2, ![1024, 16]⟩
abbrev S1024x104 : Shape := ⟨2, ![1024, 104]⟩
abbrev S1024x3712 : Shape := ⟨2, ![1024, 3712]⟩
abbrev S32768x768 : Shape := ⟨2, ![32768, 768]⟩
abbrev S512x32768 : Shape := ⟨2, ![512, 32768]⟩
abbrev S32768x128 : Shape := ⟨2, ![32768, 128]⟩
abbrev S1x6x1024 : Shape := ⟨3, ![1, 6, 1024]⟩
abbrev S1024x256 : Shape := ⟨2, ![1024, 256]⟩
abbrev S1024x768 : Shape := ⟨2, ![1024, 768]⟩
abbrev S512x1024 : Shape := ⟨2, ![512, 1024]⟩
abbrev S1024x128 : Shape := ⟨2, ![1024, 128]⟩
abbrev S6x1024 : Shape := ⟨2, ![6, 1024]⟩
abbrev S1x1024 : Shape := ⟨2, ![1, 1024]⟩
abbrev S1x256 : Shape := ⟨2, ![1, 256]⟩
abbrev S256x1024 : Shape := ⟨2, ![256, 1024]⟩
abbrev S64x1024 : Shape := ⟨2, ![64, 1024]⟩

abbrev nBuf : Space → Nat
  | .hbm => 80
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x4096, .i32⟩
  | .hbm, ⟨3, _⟩ => ⟨S1024x3608, .f32⟩
  | .hbm, ⟨4, _⟩ => ⟨S256, .i32⟩
  | .hbm, ⟨5, _⟩ => ⟨S256, .i1⟩
  | .hbm, ⟨6, _⟩ => ⟨S256, .i1⟩
  | .hbm, ⟨7, _⟩ => ⟨S256, .i1⟩
  | .hbm, ⟨8, _⟩ => ⟨S256, .i1⟩
  | .hbm, ⟨9, _⟩ => ⟨S256, .i1⟩
  | .hbm, ⟨10, _⟩ => ⟨S256, .i1⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S8x4096, .f32⟩
  | .hbm, ⟨26, _⟩ => ⟨S32768x1, .f32⟩
  | .hbm, ⟨27, _⟩ => ⟨S1x4, .f32⟩
  | .hbm, ⟨28, _⟩ => ⟨S32768x4, .f32⟩
  | .hbm, ⟨29, _⟩ => ⟨S32768x4, .f32⟩
  | .hbm, ⟨30, _⟩ => ⟨S32768x4, .f32⟩
  | .hbm, ⟨31, _⟩ => ⟨S32768x4, .f32⟩
  | .hbm, ⟨32, _⟩ => ⟨S32768x4, .f32⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S32768x256, .f32⟩
  | .hbm, ⟨39, _⟩ => ⟨S_, .f32⟩
  | .hbm, ⟨40, _⟩ => ⟨S_, .f32⟩
  | .hbm, ⟨41, _⟩ => ⟨S32768x256, .i1⟩
  | .hbm, ⟨42, _⟩ => ⟨S32768x256, .f32⟩
  | .hbm, ⟨43, _⟩ => ⟨S32768x256, .f32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S32768x256, .f32⟩
  | .hbm, ⟨50, _⟩ => ⟨S32768x256, .f32⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S32768x256, .f32⟩
  | .hbm, ⟨57, _⟩ => ⟨S_, .f32⟩
  | .hbm, ⟨58, _⟩ => ⟨S_, .f32⟩
  | .hbm, ⟨59, _⟩ => ⟨S32768x256, .i1⟩
  | .hbm, ⟨60, _⟩ => ⟨S32768x256, .f32⟩
  | .hbm, ⟨61, _⟩ => ⟨S32768x256, .f32⟩
  | .hbm, ⟨62, _⟩ => ⟨S32768x256, .i1⟩
  | .hbm, ⟨63, _⟩ => ⟨S32768x256, .f32⟩
  | .hbm, ⟨64, _⟩ => ⟨S32768x1024, .f32⟩
  | .hbm, ⟨65, _⟩ => ⟨S1024x1024, .f32⟩
  | .hbm, ⟨66, _⟩ => ⟨S1024x2560, .f32⟩
  | .hbm, ⟨67, _⟩ => ⟨S1024x8, .f32⟩
  | .hbm, ⟨68, _⟩ => ⟨S1024x16, .f32⟩
  | .hbm, ⟨69, _⟩ => ⟨S_, .f32⟩
  | .hbm, ⟨70, _⟩ => ⟨S1024x104, .f32⟩
  | .hbm, ⟨71, _⟩ => ⟨S1024x3712, .f32⟩
  | .hbm, ⟨72, _⟩ => ⟨S1024x3712, .bf16⟩
  | .hbm, ⟨73, _⟩ => ⟨S32768x1024, .bf16⟩
  | .hbm, ⟨74, _⟩ => ⟨S32768x768, .bf16⟩
  | .hbm, ⟨75, _⟩ => ⟨S32768x256, .bf16⟩
  | .hbm, ⟨76, _⟩ => ⟨S32768x256, .bf16⟩
  | .hbm, ⟨77, _⟩ => ⟨S512x32768, .bf16⟩
  | .hbm, ⟨78, _⟩ => ⟨S32768x1024, .bf16⟩
  | .hbm, ⟨79, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3712, .bf16⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x1024, .bf16⟩
  | .local _ .vmem, ⟨10, _⟩ => ⟨S1024x1024, .bf16⟩
  | .local _ .vmem, ⟨11, _⟩ => ⟨S1024x768, .bf16⟩
  | .local _ .vmem, ⟨12, _⟩ => ⟨S1024x768, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x128, .f32⟩
  | .local _ .vmem, ⟨22, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_6 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_7 : Ref sig .tc := ⟨.hbm, 19, rfl⟩
abbrev main_v6 : Ref sig .tc := ⟨.hbm, 20, rfl⟩
abbrev main_v7 : Ref sig .tc := ⟨.hbm, 21, rfl⟩
abbrev main_cst_8 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_9 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_10 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v23 : Ref sig .tc := ⟨.hbm, 43, rfl⟩
abbrev main_c_11 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45_0 : Ref sig .tc := ⟨.hbm, 73, rfl⟩
abbrev main_v45_1 : Ref sig .tc := ⟨.hbm, 74, rfl⟩
abbrev main_v45_2 : Ref sig .tc := ⟨.hbm, 75, rfl⟩
abbrev main_v45_3 : Ref sig .tc := ⟨.hbm, 76, rfl⟩
abbrev main_v45_4 : Ref sig .tc := ⟨.hbm, 77, rfl⟩
abbrev main_v45_5 : Ref sig .tc := ⟨.hbm, 78, rfl⟩
abbrev main_v45_6 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x4096x1024 : Shape := ⟨3, ![8, 4096, 1024]⟩
abbrev S8x6x1024 : Shape := ⟨3, ![8, 6, 1024]⟩
abbrev S8x4096 : Shape := ⟨2, ![8, 4096]⟩
abbrev S1024x3608 : Shape := ⟨2, ![1024, 3608]⟩
abbrev S8x1x1024 : Shape := ⟨3, ![8, 1, 1024]⟩
abbrev S8x1024 : Shape := ⟨2, ![8, 1024]⟩
abbrev S_ : Shape := ⟨0, ![]⟩
abbrev S8x4096x3608 : Shape := ⟨3, ![8, 4096, 3608]⟩
abbrev S32768x3608 : Shape := ⟨2, ![32768, 3608]⟩
abbrev S32768x1024 : Shape := ⟨2, ![32768, 1024]⟩
abbrev S32768x8 : Shape := ⟨2, ![32768, 8]⟩
abbrev S32768x768 : Shape := ⟨2, ![32768, 768]⟩
abbrev S32768x256 : Shape := ⟨2, ![32768, 256]⟩
abbrev S32768x16 : Shape := ⟨2, ![32768, 16]⟩
abbrev S4 : Shape := ⟨1, ![4]⟩
abbrev S32768x1x1 : Shape := ⟨3, ![32768, 1, 1]⟩
abbrev S1x1x4 : Shape := ⟨3, ![1, 1, 4]⟩
abbrev S32768x1x4 : Shape := ⟨3, ![32768, 1, 4]⟩
abbrev S256x32768 : Shape := ⟨2, ![256, 32768]⟩
abbrev S4x64x32768 : Shape := ⟨3, ![4, 64, 32768]⟩
abbrev S4x1x32768 : Shape := ⟨3, ![4, 1, 32768]⟩
abbrev S4x63x32768 : Shape := ⟨3, ![4, 63, 32768]⟩
abbrev S4x128x32768 : Shape := ⟨3, ![4, 128, 32768]⟩
abbrev S512x32768 : Shape := ⟨2, ![512, 32768]⟩
abbrev S32768x104 : Shape := ⟨2, ![32768, 104]⟩
abbrev S32768x128 : Shape := ⟨2, ![32768, 128]⟩
abbrev S32768x8x32 : Shape := ⟨3, ![32768, 8, 32]⟩
abbrev S32768x8x4 : Shape := ⟨3, ![32768, 8, 4]⟩
abbrev S32768x8x24 : Shape := ⟨3, ![32768, 8, 24]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x4096, .i32⟩
  | .hbm, ⟨3, _⟩ => ⟨S1024x3608, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x3608, .f32⟩
  | .hbm, ⟨18, _⟩ => ⟨S32768x3608, .f32⟩
  | .hbm, ⟨19, _⟩ => ⟨S32768x1024, .f32⟩
  | .hbm, ⟨20, _⟩ => ⟨S32768x8, .f32⟩
  | .hbm, ⟨21, _⟩ => ⟨S32768x768, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x1024, .f32⟩
  | .hbm, ⟨26, _⟩ => ⟨S32768x16, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S8x4096, .f32⟩
  | .hbm, ⟨42, _⟩ => ⟨S32768x1x1, .f32⟩
  | .hbm, ⟨43, _⟩ => ⟨S1x1x4, .f32⟩
  | .hbm, ⟨44, _⟩ => ⟨S32768x1x4, .f32⟩
  | .hbm, ⟨45, _⟩ => ⟨S32768x1x4, .f32⟩
  | .hbm, ⟨46, _⟩ => ⟨S32768x1x4, .f32⟩
  | .hbm, ⟨47, _⟩ => ⟨S32768x1x4, .f32⟩
  | .hbm, ⟨48, _⟩ => ⟨S32768x1x4, .f32⟩
  | .hbm, ⟨49, _⟩ => ⟨S256x32768, .f32⟩
  | .hbm, ⟨50, _⟩ => ⟨S4x64x32768, .f32⟩
  | .hbm, ⟨51, _⟩ => ⟨S_, .f32⟩
  | .hbm, ⟨52, _⟩ => ⟨S4x1x32768, .f32⟩
  | .hbm, ⟨53, _⟩ => ⟨S_, .f32⟩
  | .hbm, ⟨54, _⟩ => ⟨S4x63x32768, .f32⟩
  | .hbm, ⟨55, _⟩ => ⟨S4x128x32768, .f32⟩
  | .hbm, ⟨56, _⟩ => ⟨S512x32768, .f32⟩
  | .hbm, ⟨57, _⟩ => ⟨S_, .f32⟩
  | .hbm, ⟨58, _⟩ => ⟨S32768x104, .f32⟩
  | .hbm, ⟨59, _⟩ => ⟨S32768x128, .f32⟩
  | .hbm, ⟨60, _⟩ => ⟨S32768x1024, .bf16⟩
  | .hbm, ⟨61, _⟩ => ⟨S32768x768, .bf16⟩
  | .hbm, ⟨62, _⟩ => ⟨S32768x8x32, .f32⟩
  | .hbm, ⟨63, _⟩ => ⟨S32768x8x4, .f32⟩
  | .hbm, ⟨64, _⟩ => ⟨S32768x8x4, .f32⟩
  | .hbm, ⟨65, _⟩ => ⟨S32768x8x24, .f32⟩
  | .hbm, ⟨66, _⟩ => ⟨S32768x8x4, .f32⟩
  | .hbm, ⟨67, _⟩ => ⟨S32768x8x4, .f32⟩
  | .hbm, ⟨68, _⟩ => ⟨S32768x8x4, .f32⟩
  | .hbm, ⟨69, _⟩ => ⟨S32768x8x4, .f32⟩
  | .hbm, ⟨70, _⟩ => ⟨S32768x8x4, .f32⟩
  | .hbm, ⟨71, _⟩ => ⟨S32768x8x4, .f32⟩
  | .hbm, ⟨72, _⟩ => ⟨S32768x8x4, .f32⟩
  | .hbm, ⟨73, _⟩ => ⟨S32768x8x4, .f32⟩
  | .hbm, ⟨74, _⟩ => ⟨S32768x8x4, .f32⟩
  | .hbm, ⟨75, _⟩ => ⟨S32768x8x4, .f32⟩
  | .hbm, ⟨76, _⟩ => ⟨S32768x8x32, .f32⟩
  | .hbm, ⟨77, _⟩ => ⟨S32768x256, .f32⟩
  | .hbm, ⟨78, _⟩ => ⟨S_, .f32⟩
  | .hbm, ⟨79, _⟩ => ⟨S32768x256, .f32⟩
  | .hbm, ⟨80, _⟩ => ⟨S32768x256, .f32⟩
  | .hbm, ⟨81, _⟩ => ⟨S32768x256, .bf16⟩
  | .hbm, ⟨82, _⟩ => ⟨S32768x8x32, .f32⟩
  | .hbm, ⟨83, _⟩ => ⟨S32768x8x4, .f32⟩
  | .hbm, ⟨84, _⟩ => ⟨S32768x8x4, .f32⟩
  | .hbm, ⟨85, _⟩ => ⟨S32768x8x24, .f32⟩
  | .hbm, ⟨86, _⟩ => ⟨S32768x8x4, .f32⟩
  | .hbm, ⟨87, _⟩ => ⟨S32768x8x4, .f32⟩
  | .hbm, ⟨88, _⟩ => ⟨S32768x8x4, .f32⟩
  | .hbm, ⟨89, _⟩ => ⟨S32768x8x4, .f32⟩
  | .hbm, ⟨90, _⟩ => ⟨S32768x8x4, .f32⟩
  | .hbm, ⟨91, _⟩ => ⟨S32768x8x4, .f32⟩
  | .hbm, ⟨92, _⟩ => ⟨S32768x8x4, .f32⟩
  | .hbm, ⟨93, _⟩ => ⟨S32768x8x4, .f32⟩
  | .hbm, ⟨94, _⟩ => ⟨S32768x8x4, .f32⟩
  | .hbm, ⟨95, _⟩ => ⟨S32768x8x4, .f32⟩
  | .hbm, ⟨96, _⟩ => ⟨S32768x8x32, .f32⟩
  | .hbm, ⟨97, _⟩ => ⟨S32768x256, .f32⟩
  | .hbm, ⟨98, _⟩ => ⟨S32768x256, .bf16⟩
  | .hbm, ⟨99, _⟩ => ⟨S512x32768, .bf16⟩
  | .hbm, ⟨100, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.ExpRun.lean ====
/-
  One grid point of the experts' body on any buffers: it loads an expert's weights when they change, multiplies a tile of rows through
  them, or stores noughts past the last tile in use.
-/
module

public import proofs.«01_k».proof.Proof.Gen.Kernel2Ideal.Launch
public import proofs.«01_k».proof.Proof.Gen.Kernel2Ideal.Skeleton
public import Idealize.ShloMosaic.Lib.Pipeline.TableIdle
public import Idealize.ShloMosaic.Lib.Claim
public import Idealize.ShloMosaic.Lib.VecWindow

@[expose] public section

set_option maxRecDepth 16384

noncomputable section

namespace Cert.Kernel2Ideal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.Rounds

variable {F : FTy → Type} [FloatOps F]

local notation "𝕄" => MT nD τ sig Unit (Elt F) ℕ (UR sig nD τ) ℕ

/-- The two tables where the body reads them. -/
abbrev tab0 : Memref sig .tc .smem S172 .i32 := Memref.whole main_v10
abbrev tab1 : Memref sig .tc .smem S1 .i32 := Memref.whole main_v12

/-- The number of tiles in use, as the body reads it. -/
abbrev useW (T1 : S1.Idx → Elt F .i32) : BitVec 32 :=
  View.readAt (Elt F) tab1.view (Rect.unit (s := S1) ![0] S1.size inb_S1_S1_0).toLoadRect T1 (Shape.Idx.first (numel1_S1.symm ▸ Nat.one_pos))

/-- The expert of this tile and of the tile before, as the body reads them. -/
abbrev hereW (T0 : S172.Idx → Elt F .i32) (i : grid0.Coords) : BitVec 32 :=
  View.readAt (Elt F) tab0.view (Rect.unit (s := S172) (k0_off1 i) S1.size (k0_off1_inb i)).toLoadRect T0 (Shape.Idx.first (numel1_S1.symm ▸ Nat.one_pos))
abbrev lastW (T0 : S172.Idx → Elt F .i32) (i : grid0.Coords) : BitVec 32 :=
  View.readAt (Elt F) tab0.view (Rect.unit (s := S172) (k0_off2 i) S1.size (k0_off2_inb i)).toLoadRect T0 (Shape.Idx.first (numel1_S1.symm ▸ Nat.one_pos))

/-- Whether the point loads weights. -/
abbrev loadsW (T0 : S172.Idx → Elt F .i32) (T1 : S1.Idx → Elt F .i32) (i : grid0.Coords) : BitVec 1 :=
  Scalar.cmpi .ne (Scalar.extui (Scalar.andi (Scalar.cmpi .slt (BitVec.ofNat 32 (i 0).val) (useW (F := F) T1))
    (Scalar.ori (Scalar.cmpi .eq (BitVec.ofNat 32 (i 0).val) 0#32) (Scalar.cmpi .ne (hereW (F := F) T0 i) (lastW (F := F) T0 i)))) : BitVec 32) 0#32

section
variable (c : Dev nD) (i : grid0.Coords) (arg3 : Memref sig .tc .vmem S512x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
  (T0 : S172.Idx → Elt F .i32) (T1 : S1.Idx → Elt F .i32)
  (x0 : Vec F S512x1024 .bf16) (x1 : Vec F S1x1x1024x512 .f32) (x2 : Vec F S1x1x1024x512 .f32) (x3 : Vec F S1x1x512x1024 .f32)
  (d0 d1 : Vec F S1024x512 .bf16) (d2 : Vec F S512x1024 .bf16)

/-- What the body holds at a point: its inputs' buffers, the tables, the result's buffer at `y` (if named) and the kept weights. -/
def held (y : Option (Vec F S512x1024 .bf16)) (w0 w1 : Vec F S1024x512 .bf16) (w2 : Vec F S512x1024 .bf16) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3
    ∗ (tab0.view.loc (c : Thread nD τ) ↦{fullShare.right} T0) ∗ (tab1.view.loc (c : Thread nD τ) ↦{fullShare.right} T1)
    ∗ (∃ d, ⌜∀ z, y = some z → d = z⌝ ∗ owns (c : Thread nD τ) arg7 fullShare d)
    ∗ owns (c : Thread nD τ) arg8 fullShare w0 ∗ owns (c : Thread nD τ) arg9 fullShare w1 ∗ owns (c : Thread nD τ) arg10 fullShare w2)

/-- The body on these buffers. -/
abbrev theBody : Prog (TpuEff nD τ sig (Elt F) Λ₀ .tc) PUnit :=
  cc0_experts i tab0 (Memref.isWhole_whole _) tab1 (Memref.isWhole_whole _) arg3 harg3 arg4 harg4 arg5 harg5 arg6 harg6 arg7 harg7 arg8 harg8 arg9 harg9 arg10 harg10

theorem load_full {s : Shape} {e : EltTy} {sp : Space} (a : Memref sig .tc sp s e) (ha : a.IsWhole) (x : s.Idx → Elt F e) (off : Fin s.rank → ℕ)
    (h : ∀ b, off b + s.size b ≤ s.size b) :
    a.view.readAt (Elt F) (Rect.unit (s := s) off s.size h).toLoadRect (ha.unread x) = x := by
  exact (View.readAt_full (s := s) a.view _ h).trans (ha.read_unread x)

/-- A buffer read whole right after it was stored whole. -/
theorem kept_full {s : Shape} {e : EltTy} {sp : Space} (v : View sig .tc sp s e) (w : s.Idx → Elt F e) (off off' : Fin s.rank → ℕ)
    (h : ∀ b, off b + s.size b ≤ s.size b) (h' : ∀ b, off' b + s.size b ≤ s.size b) :
    v.readCov (Val := Elt F) [⟨Rect.unit (s := s) off s.size h, w⟩] (Rect.unit (s := s) off' s.size h').toLoadRect = w := by
  unfold View.readCov
  exact (View.readAt_full (s := s) v _ h').trans (View.read_writes_full (s := s) v _ h _ [])

set_option maxHeartbeats 4000000 in
/-- Past the tiles in use the body stores noughts. -/
theorem run_none (K : PUnit → sProp 𝕄) (E : Set ℕ) (hc0 : ¬ loadsW (F := F) T0 T1 i = 1#1) (k0_h2 : ¬ k0_cond2 i (useW (F := F) T1) = 1#1) (k0_h3 : k0_cond3 i (useW (F := F) T1) = 1#1) :
    iprop(held c arg3 arg4 arg5 arg6 arg7 arg8 arg9 arg10 T0 T1 x0 x1 x2 x3 none d0 d1 d2
        ∗ (held c arg3 arg4 arg5 arg6 arg7 arg8 arg9 arg10 T0 T1 x0 x1 x2 x3 (some k0_pay5) d0 d1 d2 -∗ K ⟨⟩))
      ⊢ wp frame (wpE (defs₀ (F := F)) Variants.none c none) E
        (theBody i arg3 harg3 arg4 harg4 arg5 harg5 arg6 harg6 arg7 harg7 arg8 harg8 arg9 harg9 arg10 harg10) K := by
  unfold held theBody
  rw [cc0_experts_eq_skeleton]; unfold cc0_experts_skel owns
  iintro ⟨⟨⟨%f0, %hf0, H0⟩, ⟨%f1, %hf1, H1⟩, ⟨%f2, %hf2, H2⟩, ⟨%f3, %hf3, H3⟩, HT0, HT1, ⟨%d4, -, ⟨%f4, -, H4⟩⟩, ⟨%g0, %hg0, HS0⟩, ⟨%g1, %hg1, HS1⟩, ⟨%g2, %hg2, HS2⟩⟩, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  have hT0 : tab0.IsWhole := Memref.isWhole_whole _
  have hT1 : tab1.IsWhole := Memref.isWhole_whole _
  sl_exec! (disch := first | (guard_target = ¬(Scalar.cmpi _ _ _ = _); exact hc0) | (guard_target = ¬(k0_cond2 _ _ = _); exact k0_h2) | (guard_target = k0_cond3 _ _ = _; exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists k0_pay5; isplitr
    · ipureintro; rintro _ ⟨⟩; rfl
    iexists _; isplitr; swap; · iexact H4
    ipureintro
    exact View.read_writes_full (s := S512x1024) arg7.view _ inb_S512x1024_S512x1024_0_0 _ []
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

set_option maxHeartbeats 4000000 in
/-- With the expert of the tile before, the body multiplies the tile through the weights it kept. -/
theorem run_keep (K : PUnit → sProp 𝕄) (E : Set ℕ) (hc0 : ¬ loadsW (F := F) T0 T1 i = 1#1) (k0_h2 : k0_cond2 i (useW (F := F) T1) = 1#1) (k0_h3 : ¬ k0_cond3 i (useW (F := F) T1) = 1#1) :
    iprop(held c arg3 arg4 arg5 arg6 arg7 arg8 arg9 arg10 T0 T1 x0 x1 x2 x3 none d0 d1 d2
        ∗ (held c arg3 arg4 arg5 arg6 arg7 arg8 arg9 arg10 T0 T1 x0 x1 x2 x3 (some (k0_pay4 x0 d0 d1 d2)) d0 d1 d2 -∗ K ⟨⟩))
      ⊢ wp frame (wpE (defs₀ (F := F)) Variants.none c none) E
        (theBody i arg3 harg3 arg4 harg4 arg5 harg5 arg6 harg6 arg7 harg7 arg8 harg8 arg9 harg9 arg10 harg10) K := by
  unfold held theBody
  rw [cc0_experts_eq_skeleton]; unfold cc0_experts_skel owns
  iintro ⟨⟨⟨%f0, %hf0, H0⟩, ⟨%f1, %hf1, H1⟩, ⟨%f2, %hf2, H2⟩, ⟨%f3, %hf3, H3⟩, HT0, HT1, ⟨%d4, -, ⟨%f4, -, H4⟩⟩, ⟨%g0, %hg0, HS0⟩, ⟨%g1, %hg1, HS1⟩, ⟨%g2, %hg2, HS2⟩⟩, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  have hT0 : tab0.IsWhole := Memref.isWhole_whole _
  have hT1 : tab1.IsWhole := Memref.isWhole_whole _
  sl_exec! (disch := first | (guard_target = ¬(Scalar.cmpi _ _ _ = _); exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    · ipureintro; intro z hz; exact Option.some.inj hz
    iexists _; isplitr; swap; · iexact H4
    ipureintro
    refine (View.read_writes_full (s := S512x1024) arg7.view _ inb_S512x1024_S512x1024_0_0 _ []).trans ?_
    rw [load_full arg3 harg3 x0 _, load_full arg8 harg8 d0 _, load_full arg9 harg9 d1 _, load_full arg10 harg10 d2 _]
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

set_option maxHeartbeats 4000000 in
/-- At a new expert the body keeps its weights, rounded, and multiplies the tile through them. -/
theorem run_load (K : PUnit → sProp 𝕄) (E : Set ℕ) (hc0 : loadsW (F := F) T0 T1 i = 1#1) (k0_h2 : k0_cond2 i (useW (F := F) T1) = 1#1) (k0_h3 : ¬ k0_cond3 i (useW (F := F) T1) = 1#1) :
    iprop(held c arg3 arg4 arg5 arg6 arg7 arg8 arg9 arg10 T0 T1 x0 x1 x2 x3 none d0 d1 d2
        ∗ (held c arg3 arg4 arg5 arg6 arg7 arg8 arg9 arg10 T0 T1 x0 x1 x2 x3 (some (k0_pay4 x0 (k0_pay1 x1) (k0_pay2 x2) (k0_pay3 x3))) (k0_pay1 x1) (k0_pay2 x2) (k0_pay3 x3) -∗ K ⟨⟩))
      ⊢ wp frame (wpE (defs₀ (F := F)) Variants.none c none) E
        (theBody i arg3 harg3 arg4 harg4 arg5 harg5 arg6 harg6 arg7 harg7 arg8 harg8 arg9 harg9 arg10 harg10) K := by
  unfold held theBody
  rw [cc0_experts_eq_skeleton]; unfold cc0_experts_skel owns
  iintro ⟨⟨⟨%f0, %hf0, H0⟩, ⟨%f1, %hf1, H1⟩, ⟨%f2, %hf2, H2⟩, ⟨%f3, %hf3, H3⟩, HT0, HT1, ⟨%d4, -, ⟨%f4, -, H4⟩⟩, ⟨%g0, %hg0, HS0⟩, ⟨%g1, %hg1, HS1⟩, ⟨%g2, %hg2, HS2⟩⟩, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  have hT0 : tab0.IsWhole := Memref.isWhole_whole _
  have hT1 : tab1.IsWhole := Memref.isWhole_whole _
  sl_exec! (disch := first | (guard_target = Scalar.cmpi _ _ _ = _; exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    · ipureintro; intro z hz; exact Option.some.inj hz
    iexists _; isplitr; swap; · iexact H4
    ipureintro
    refine (View.read_writes_full (s := S512x1024) arg7.view _ inb_S512x1024_S512x1024_0_0 _ []).trans ?_
    unfold run_load.sl.v20 run_load.sl.v22 run_load.sl.v34 run_load.sl.HS0_1 run_load.sl.HS1_1 run_load.sl.HS2_1
    rw [kept_full, kept_full, kept_full, load_full arg3 harg3 x0 _, load_full arg4 harg4 x1 _, load_full arg5 harg5 x2 _, load_full arg6 harg6 x3 _]
  isplitl [HS0]
  · iexists _; isplitr; swap; · iexact HS0
    ipureintro
    refine (View.read_writes_full (s := S1024x512) arg8.view _ inb_S1024x512_S1024x512_0_0 _ []).trans ?_
    rw [load_full arg4 harg4 x1 _]
  isplitl [HS1]
  · iexists _; isplitr; swap; · iexact HS1
    ipureintro
    refine (View.read_writes_full (s := S1024x512) arg9.view _ inb_S1024x512_S1024x512_0_0 _ []).trans ?_
    rw [load_full arg5 harg5 x2 _]
  iexists _; isplitr; swap; · iexact HS2
  ipureintro
  refine (View.read_writes_full (s := S512x1024) arg10.view _ inb_S512x1024_S512x1024_0_0 _ []).trans ?_
  rw [load_full arg6 harg6 x3 _]

end

end Cert.Kernel2Ideal.Ex

end

end
-- ==== Proof.ExpTab.lean ====
/-
  What the experts' index maps and conditions read off the two tables: the tile's expert, and whether the tile is in use.
-/
module

public import proofs.«01_k».proof.Proof.ExpRun

@[expose] public section

set_option maxRecDepth 16384

noncomputable section

namespace Cert.Kernel2Ideal.Ex

open Idealize.ShloMosaic Idealize.ShloMosaic.TcCoe
open Cert.Kernel2Ideal Cert.Kernel2Ideal.Gen

variable {F : FTy → Type} [FloatOps F]

/-- The words of the tables, and where they are in range. -/
structure Fit (T0 : S172.Idx → BitVec 32) (T1 : S1.Idx → BitVec 32) : Prop where
  expert : ∀ j, (T0 j).toNat < 16
  used : ∀ j, 1 ≤ (T1 j).toInt

/-- A tile's place in the table. -/
def place (k : ℕ) (h : k < 172) : S172.Idx := fun a => match a with | 0 => ⟨k, h⟩
/-- The one place of the table of the tiles in use. -/
def only : S1.Idx := fun a => match a with | 0 => ⟨0, Nat.one_pos⟩

theorem coord_lt (i : grid0.Coords) : (i 0).val < 172 := (i 0).isLt

/-- A tile's expert. -/
def expertOf (T0 : S172.Idx → BitVec 32) (i : grid0.Coords) : ℕ := (T0 (place (i 0).val (coord_lt i))).toNat
/-- How many tiles are in use. -/
def usedOf (T1 : S1.Idx → BitVec 32) : ℕ := (T1 only).toInt.toNat

theorem off1_eq : ∀ i : grid0.Coords, k0_off1 i = ![(i 0).val] := by decide +kernel
theorem off2_eq : ∀ i : grid0.Coords, k0_off2 i = ![(i 0).val - 1] := by decide +kernel

theorem here_eq (T0 : S172.Idx → Elt F .i32) (i : grid0.Coords) : hereW (F := F) T0 i = T0 (place (i 0).val (coord_lt i)) := by
  have h : k0_off1 i 0 = (i 0).val := by rw [off1_eq]; rfl
  refine congrArg T0 (funext fun a => ?_)
  match a with
  | 0 => exact Fin.ext (by show k0_off1 i 0 + 0 * 1 = (i 0).val; omega)

theorem last_eq (T0 : S172.Idx → Elt F .i32) (i : grid0.Coords) :
    lastW (F := F) T0 i = T0 (place ((i 0).val - 1) (lt_of_le_of_lt (Nat.sub_le _ _) (coord_lt i))) := by
  have h : k0_off2 i 0 = (i 0).val - 1 := by rw [off2_eq]; rfl
  refine congrArg T0 (funext fun a => ?_)
  match a with
  | 0 => exact Fin.ext (by show k0_off2 i 0 + 0 * 1 = (i 0).val - 1; omega)

theorem use_eq (T1 : S1.Idx → Elt F .i32) : useW (F := F) T1 = T1 only := by
  refine congrArg T1 (funext fun a => ?_)
  match a with
  | 0 => exact Fin.ext rfl

theorem ofBool_one (b : Bool) : BitVec.ofBool b = 1#1 ↔ b = true := by cases b <;> decide

theorem word_pos {w : BitVec 32} (h : 1 ≤ w.toInt) : w.toInt.toNat = w.toNat ∧ 1 ≤ w.toNat ∧ w.toNat < 2 ^ 31 := by
  have e := BitVec.toInt_eq_toNat_cond w
  have l := w.isLt
  split at e <;> omega

theorem small_int (k : ℕ) (h : k < 172) : (BitVec.ofNat 32 k).toInt = k := by
  rw [BitVec.toInt_eq_toNat_cond, BitVec.toNat_ofNat, Nat.mod_eq_of_lt (by omega), if_pos (by omega)]

theorem min_word (k : ℕ) (hk : k < 172) {w : BitVec 32} (h : 1 ≤ w.toInt) :
    (Scalar.minsi (BitVec.ofNat 32 k) (Scalar.subi w 1#32)).toNat = min k (w.toInt.toNat - 1) := by
  obtain ⟨e, h1, h2⟩ := word_pos h
  have hs : (Scalar.subi w 1#32).toNat = w.toNat - 1 := by
    show (w - 1#32).toNat = _
    rw [BitVec.toNat_sub]
    show (2 ^ 32 - 1 + w.toNat) % 2 ^ 32 = _
    omega
  have hi : (Scalar.subi w 1#32).toInt = ((w.toNat - 1 : ℕ) : ℤ) := by
    rw [BitVec.toInt_eq_toNat_cond, hs, if_pos (by omega)]
  have hk' : (BitVec.ofNat 32 k).toNat = k := by rw [BitVec.toNat_ofNat]; omega
  unfold Scalar.minsi IntOp.minsi
  by_cases hlt : k < w.toNat - 1
  · rw [if_pos (by rw [BitVec.slt_iff_toInt_lt, hi, small_int k hk]; omega), hk']; omega
  · rw [if_neg (by rw [BitVec.slt_iff_toInt_lt, hi, small_int k hk]; omega), hs]; omega

theorem slt_word (k : ℕ) (hk : k < 172) {w : BitVec 32} (h : 1 ≤ w.toInt) :
    Scalar.cmpi .slt (BitVec.ofNat 32 k) w = 1#1 ↔ k < w.toInt.toNat := by
  have e := small_int k hk
  obtain ⟨e', h1, h2⟩ := word_pos h
  have hw : w.toInt = (w.toNat : ℤ) := by rw [← e']; omega
  show BitVec.ofBool ((BitVec.ofNat 32 k).slt w) = 1#1 ↔ _
  rw [ofBool_one, BitVec.slt_iff_toInt_lt, e, e']
  omega

/-- The tile is in use exactly where the second condition holds, and the third holds exactly where it is not. -/
theorem cond2_iff (T1 : S1.Idx → Elt F .i32) (h : ∀ j, 1 ≤ (T1 j : BitVec 32).toInt) (i : grid0.Coords) :
    k0_cond2 i (useW (F := F) T1) = 1#1 ↔ (i 0).val < usedOf T1 := by
  rw [use_eq]
  refine Iff.trans ?_ (slt_word (i 0).val (coord_lt i) (h only))
  unfold k0_cond2
  clear h
  show Scalar.cmpi .ne (Scalar.extui (Scalar.cmpi .slt (BitVec.ofNat 32 (i 0).val) (T1 only))) 0#32 = 1#1 ↔ _
  generalize Scalar.cmpi .slt (BitVec.ofNat 32 (i 0).val) (T1 only) = b
  revert b; decide

theorem cond3_iff (T1 : S1.Idx → Elt F .i32) (h : ∀ j, 1 ≤ (T1 j : BitVec 32).toInt) (i : grid0.Coords) :
    k0_cond3 i (useW (F := F) T1) = 1#1 ↔ ¬ (i 0).val < usedOf T1 := by
  rw [use_eq]
  refine Iff.trans ?_ (not_congr (slt_word (i 0).val (coord_lt i) (h only)))
  unfold k0_cond3
  clear h
  show Scalar.cmpi .ne (Scalar.extui (Scalar.xori (Scalar.cmpi .slt (BitVec.ofNat 32 (i 0).val) (T1 only)) 1#1)) 0#32 = 1#1 ↔ _
  generalize Scalar.cmpi .slt (BitVec.ofNat 32 (i 0).val) (T1 only) = b
  revert b; decide

/-- The weights are loaded at a used tile that is the first or whose expert is not the tile before's. -/
theorem loads_iff (T0 : S172.Idx → Elt F .i32) (T1 : S1.Idx → Elt F .i32) (h : ∀ j, 1 ≤ (T1 j : BitVec 32).toInt) (i : grid0.Coords) :
    loadsW (F := F) T0 T1 i = 1#1 ↔ (i 0).val < usedOf T1 ∧ ((i 0).val = 0 ∨
      (T0 (place (i 0).val (coord_lt i)) : BitVec 32) ≠ T0 (place ((i 0).val - 1) (lt_of_le_of_lt (Nat.sub_le _ _) (coord_lt i)))) := by
  unfold loadsW
  rw [use_eq, here_eq, last_eq, show ((i 0).val < usedOf T1) = ((i 0).val < (T1 only : BitVec 32).toInt.toNat) from rfl, ← slt_word (i 0).val (coord_lt i) (h only)]
  generalize (Scalar.cmpi .slt (BitVec.ofNat 32 (i 0).val) (T1 only) : BitVec 1) = b
  have e0 : Scalar.cmpi .eq (BitVec.ofNat 32 (i 0).val) 0#32 = 1#1 ↔ (i 0).val = 0 := by
    show BitVec.ofBool (BitVec.ofNat 32 (i 0).val == 0#32) = 1#1 ↔ _
    have hi := coord_lt i
    rw [ofBool_one, beq_iff_eq, ← BitVec.toNat_inj, BitVec.toNat_ofNat]
    show (i 0).val % 2 ^ 32 = 0 ↔ _
    omega
  have e1 : Scalar.cmpi .ne (T0 (place (i 0).val (coord_lt i)) : BitVec 32) (T0 (place ((i 0).val - 1) (lt_of_le_of_lt (Nat.sub_le _ _) (coord_lt i)))) = 1#1 ↔
      (T0 (place (i 0).val (coord_lt i)) : BitVec 32) ≠ T0 (place ((i 0).val - 1) (lt_of_le_of_lt (Nat.sub_le _ _) (coord_lt i))) := by
    show BitVec.ofBool (_ != _) = 1#1 ↔ _
    rw [ofBool_one, bne_iff_ne]
  rw [← e0, ← e1]
  generalize Scalar.cmpi .eq (BitVec.ofNat 32 (i 0).val) 0#32 = b0
  generalize Scalar.cmpi .ne (T0 (place (i 0).val (coord_lt i)) : BitVec 32) _ = b1
  revert b b0 b1; decide

/-- The rows that a point reads are its tile's, or the last used tile's past it. -/
theorem map0_eq (pf : pre0.Contents (Elt F)) (h : ∀ j, 1 ≤ (pf 1 j : BitVec 32).toInt) (i : grid0.Coords) :
    cc0_transform_0 inb_S1_S1_0 numel1_S1 pf i = ![min (i 0).val (usedOf (pf 1) - 1), 0] := by
  have e : pf.at 1 (Rect.unit (s := S1) ![0] S1.size inb_S1_S1_0) numel1_S1 = pf 1 only := use_eq (F := F) (pf 1)
  unfold cc0_transform_0
  rw [e]
  funext a
  match a with
  | 0 => exact min_word (i 0).val (coord_lt i) (h only)
  | 1 => rfl

theorem map1_eq (pf : pre0.Contents (Elt F)) (i : grid0.Coords) :
    cc0_transform_1 k0_off1_inb numel1_S1 pf i = ![0, expertOf (pf 0) i, 0, 0] := by
  have e : pf.at 0 (Rect.unit (s := S172) ![(Scalar.indexCast (BitVec.ofNat 32 (i 0).val)).toNat] S1.size (k0_off1_inb i)) numel1_S1 = pf 0 (place (i 0).val (coord_lt i)) := here_eq (F := F) (pf 0) i
  show ![0, BitVec.toNat (pf.at 0 (Rect.unit (s := S172) ![(Scalar.indexCast (BitVec.ofNat 32 (i 0).val)).toNat] S1.size (k0_off1_inb i)) numel1_S1), 0, 0] = _
  exact congrArg (fun w : BitVec 32 => (![0, w.toNat, 0, 0] : Fin 4 → ℕ)) e

theorem rows_packed (k : Fin 172) (h : ∀ a, (![k.val, 0] a + 1) * S512x1024.size a ≤ S88064x1024.size a) :
    (Rect.block (s := S88064x1024) S512x1024.size ![k.val, 0] h).PackedRows (EltTy.packing .bf16) := by
  revert h; revert k; decide +kernel

/-- The pipeline's side condition of the tables. -/
theorem tables_ok (pf : pre0.Contents (Elt F)) (h : Fit (pf 0) (pf 1)) : ok0 pf := by
  have h1 : ∀ i : grid0.Coords, expertOf (pf 0) i < 16 := fun i => h.expert _
  have w : ∀ i : grid0.Coords, ∃ hb : (∀ a, (cc0_transform_1 k0_off1_inb numel1_S1 pf i a + 1) * S1x1x1024x512.size a ≤ S4x16x1024x512.size a), EltTy.bits .f32 = 32 ∨ (Rect.block (s := S4x16x1024x512) S1x1x1024x512.size (cc0_transform_1 k0_off1_inb numel1_S1 pf i) hb).WholeWords (EltTy.packing .f32) := fun i => by
    refine ⟨fun a => ?_, .inl rfl⟩
    have := h1 i
    rw [map1_eq]
    match a with
    | 0 => show (0 + 1) * 1 ≤ 4; omega
    | 1 => show (expertOf (pf 0) i + 1) * 1 ≤ 16; omega
    | 2 => show (0 + 1) * 1024 ≤ 1024; omega
    | 3 => show (0 + 1) * 512 ≤ 512; omega
  refine ⟨fun i => ?_, w, w, fun i => ?_⟩
  · have hi := coord_lt i
    rw [map0_eq pf h.used]
    refine ⟨fun a => ?_, .inr ?_⟩
    · match a with
      | 0 => show (min (i 0).val (usedOf (pf 1) - 1) + 1) * 512 ≤ 88064; omega
      | 1 => show (0 + 1) * 1024 ≤ 1024; omega
    · exact Rect.PackedRows.wholeWords (rows_packed ⟨min (i 0).val (usedOf (pf 1) - 1), by omega⟩ _)
  · refine ⟨fun a => ?_, .inl rfl⟩
    have := h1 i
    rw [show cc0_transform_3 k0_off1_inb numel1_S1 pf i = ![0, expertOf (pf 0) i, 0, 0] from map1_eq pf i]
    match a with
    | 0 => show (0 + 1) * 1 ≤ 4; omega
    | 1 => show (expertOf (pf 0) i + 1) * 1 ≤ 16; omega
    | 2 => show (0 + 1) * 512 ≤ 512; omega
    | 3 => show (0 + 1) * 1024 ≤ 1024; omega

end Cert.Kernel2Ideal.Ex

end

end
-- ==== Proof.ExpFlow.lean ====
/-
  The experts' run: what each tile leaves in its block of the result, what the scratch keeps between tiles, and that every execution ends
  with the arguments unchanged and the result block by block at what the tiles stored.
-/
module

public import proofs.«01_k».proof.Proof.ExpTab
public import Idealize.ShloMosaic.Lib.Pipeline.Value

@[expose] public section

set_option maxRecDepth 16384

noncomputable section

namespace Cert.Kernel2Ideal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds when the call is entered: after the host operations that make the tables. -/
@[irreducible] def V (c : Dev nD) (b : Ref sig .tc) : Buf (Elt F) ((c.tc : Thread nD τ).loc b) :=
  StableHlo.after (List.flatten [hostOps0, hostOps0_1, hostOps0_2, hostOps0_3]) (fun b => m (c, b)) b

/-- The tables that the host makes. -/
def tabs : pre0.Contents (Elt F) := fun k => V m 0 (pre0.ref k)

/-- The tables are in range. -/
def Good : Prop := Fit (tabs m 0) (tabs m 1)

variable (hg : Good m)

/-- The tables, admitted. -/
def adm : (p : Fin 1) → (pcfgs (F := F) p).Adm := fun _ => ⟨tabs m, tables_ok _ hg⟩

/-- The pipeline at these tables. -/
abbrev cfgT : Pipeline.Cfg sig Λ₀ := cfg0 (adm m hg 0)

theorem tabs_eq (c : Dev nD) (k : Fin 2) : V m c (pre0.ref k) = tabs m k := by
  obtain rfl : c = 0 := Subsingleton.elim _ _
  rfl

/-- An input's block at a point. -/
def iblk (c : Dev nD) (w : Fin (cfgT m hg).W) (t : Fin (cfgT m hg).N) : ((cfgT m hg).win w).block.Idx → Elt F ((cfgT m hg).win w).elt :=
  (((cfgT m hg).win w).blk t).view.read (Elt F) (V m c (Pipeline.arrRef spec0 w))

theorem crd_val : ∀ t : Fin grid0.N, ((grid0.coords t) 0).val = t.val := by decide +kernel

/-- Tile `t` is in use. -/
abbrev inUse (t : ℕ) : Prop := t < usedOf (tabs m 1)

/-- The block that tile `t` stores. -/
def outAt (c : Dev nD) (t : Fin (cfgT m hg).N) : Vec F S512x1024 .bf16 :=
  if inUse m t.val then k0_pay4 (iblk m hg c 0 t) (k0_pay1 (iblk m hg c 1 t)) (k0_pay2 (iblk m hg c 2 t)) (k0_pay3 (iblk m hg c 3 t))
  else k0_pay5

/-- What the scratch keeps after `n` tiles: the weights of the last, if it was in use. -/
def Kept (c : Dev nD) (n : ℕ) (w0 w1 : Vec F S1024x512 .bf16) (w2 : Vec F S512x1024 .bf16) : Prop :=
  ∀ k : Fin (cfgT m hg).N, n = k.val + 1 → inUse m k.val →
    w0 = k0_pay1 (iblk m hg c 1 k) ∧ w1 = k0_pay2 (iblk m hg c 2 k) ∧ w2 = k0_pay3 (iblk m hg c 3 k)

abbrev scr0 : Memref sig .tc .vmem S1024x512 .bf16 := Memref.whole cc0_scratch0
abbrev scr1 : Memref sig .tc .vmem S1024x512 .bf16 := Memref.whole cc0_scratch1
abbrev scr2 : Memref sig .tc .vmem S512x1024 .bf16 := Memref.whole cc0_scratch2

/-- What is carried between tiles. -/
def Phi (c : Dev nD) (n : ℕ) : sProp 𝕄 :=
  iprop((∃ w0 w1 w2, ⌜Kept m hg c n w0 w1 w2⌝ ∗ owns (c : Thread nD τ) scr0 fullShare w0 ∗ owns (c : Thread nD τ) scr1 fullShare w1
      ∗ owns (c : Thread nD τ) scr2 fullShare w2)
    ∗ (tab0.view.loc (c : Thread nD τ) ↦{fullShare.right} tabs m 0) ∗ (tab1.view.loc (c : Thread nD τ) ↦{fullShare.right} tabs m 1)
    ∗ (∃ r, prngReg c r))

/-- The run's data. -/
def runDat (_ : Fin 1) (c : Dev nD) : Dat τ (Elt F) Unit ℕ (UR sig nD τ) ℕ (cfgT m hg) c where
  A w := V m c (Pipeline.arrRef spec0 w)
  after w t := match w with
    | ⟨0, _⟩ => iblk m hg c 0 t
    | ⟨1, _⟩ => iblk m hg c 1 t
    | ⟨2, _⟩ => iblk m hg c 2 t
    | ⟨3, _⟩ => iblk m hg c 3 t
    | ⟨4, _⟩ => outAt m hg c t
  Φ t := Phi m hg c t.val
  q _ := fullShare
  owed _ := 0

theorem left0 (c : Dev nD) (t : Fin (cfgT m hg).N) : (runDat m hg 0 c).after 0 t = iblk m hg c 0 t := by dsimp only [runDat]; rfl
theorem left1 (c : Dev nD) (t : Fin (cfgT m hg).N) : (runDat m hg 0 c).after 1 t = iblk m hg c 1 t := by dsimp only [runDat]; rfl
theorem left2 (c : Dev nD) (t : Fin (cfgT m hg).N) : (runDat m hg 0 c).after 2 t = iblk m hg c 2 t := by dsimp only [runDat]; rfl
theorem left3 (c : Dev nD) (t : Fin (cfgT m hg).N) : (runDat m hg 0 c).after 3 t = iblk m hg c 3 t := by dsimp only [runDat]; rfl
theorem left4 (c : Dev nD) (t : Fin (cfgT m hg).N) : (runDat m hg 0 c).after 4 t = outAt m hg c t := by dsimp only [runDat]; rfl

theorem found0 (c : Dev nD) (t : Fin (cfgT m hg).N) (d) : (runDat m hg 0 c).before 0 t d = iblk m hg c 0 t :=
  ((runDat m hg 0 c).before_in_eq_fetched 0 rfl (fun _ => rfl) (fun _ _ _ => rfl) (fun t => by rw [left0]; unfold Dat.blockOf iblk; rfl) t d).trans
    (by unfold Dat.fetched Dat.blockOf iblk; rfl)
theorem found1 (c : Dev nD) (t : Fin (cfgT m hg).N) (d) : (runDat m hg 0 c).before 1 t d = iblk m hg c 1 t :=
  ((runDat m hg 0 c).before_in_eq_fetched 1 rfl (fun _ => rfl) (fun _ _ _ => rfl) (fun t => by rw [left1]; unfold Dat.blockOf iblk; rfl) t d).trans
    (by unfold Dat.fetched Dat.blockOf iblk; rfl)
theorem found2 (c : Dev nD) (t : Fin (cfgT m hg).N) (d) : (runDat m hg 0 c).before 2 t d = iblk m hg c 2 t :=
  ((runDat m hg 0 c).before_in_eq_fetched 2 rfl (fun _ => rfl) (fun _ _ _ => rfl) (fun t => by rw [left2]; unfold Dat.blockOf iblk; rfl) t d).trans
    (by unfold Dat.fetched Dat.blockOf iblk; rfl)
theorem found3 (c : Dev nD) (t : Fin (cfgT m hg).N) (d) : (runDat m hg 0 c).before 3 t d = iblk m hg c 3 t :=
  ((runDat m hg 0 c).before_in_eq_fetched 3 rfl (fun _ => rfl) (fun _ _ _ => rfl) (fun t => by rw [left3]; unfold Dat.blockOf iblk; rfl) t d).trans
    (by unfold Dat.fetched Dat.blockOf iblk; rfl)

/-- The windows' current staging buffers at a point. -/
abbrev ms0_0 (t : Fin (cfgT m hg).N) : Memref sig .tc .vmem S512x1024 .bf16 := spec0_0.stage ((cfgT m hg).slots t 0)
abbrev ms0_1 (t : Fin (cfgT m hg).N) : Memref sig .tc .vmem S1x1x1024x512 .f32 := spec0_1.stage ((cfgT m hg).slots t 1)
abbrev ms0_2 (t : Fin (cfgT m hg).N) : Memref sig .tc .vmem S1x1x1024x512 .f32 := spec0_2.stage ((cfgT m hg).slots t 2)
abbrev ms0_3 (t : Fin (cfgT m hg).N) : Memref sig .tc .vmem S1x1x512x1024 .f32 := spec0_3.stage ((cfgT m hg).slots t 3)
abbrev ms0_4 (t : Fin (cfgT m hg).N) : Memref sig .tc .vmem S512x1024 .bf16 := spec0_4.stage ((cfgT m hg).slots t 4)

/-- The body at a point. -/
abbrev bodyAt (t : Fin (cfgT m hg).N) : Prog (TpuEff nD τ sig (Elt F) Λ₀ .tc) PUnit :=
  theBody (F := F) (grid0.coords t) (ms0_0 m hg t) (hstage0_0 (((cfgT m hg).slots t 0).cast nbuf0_0)) (ms0_1 m hg t) (hstage0_1 (((cfgT m hg).slots t 1).cast nbuf0_1))
    (ms0_2 m hg t) (hstage0_2 (((cfgT m hg).slots t 2).cast nbuf0_2)) (ms0_3 m hg t) (hstage0_3 (((cfgT m hg).slots t 3).cast nbuf0_3))
    (ms0_4 m hg t) (hstage0_4 (((cfgT m hg).slots t 4).cast nbuf0_4)) scr0 (Memref.isWhole_whole _) scr1 (Memref.isWhole_whole _) scr2 (Memref.isWhole_whole _)

def pointPre (c : Dev nD) (t : Fin (cfgT m hg).N) : sProp 𝕄 :=
  iprop((runDat m hg 0 c).Φ t.castSucc ∗ (runDat m hg 0 c).owesAt () t.castSucc
    ∗ (∃ d, owns (c : Thread nD τ) (ms0_0 m hg t) fullShare ((runDat m hg 0 c).before 0 t d))
    ∗ (∃ d, owns (c : Thread nD τ) (ms0_1 m hg t) fullShare ((runDat m hg 0 c).before 1 t d))
    ∗ (∃ d, owns (c : Thread nD τ) (ms0_2 m hg t) fullShare ((runDat m hg 0 c).before 2 t d))
    ∗ (∃ d, owns (c : Thread nD τ) (ms0_3 m hg t) fullShare ((runDat m hg 0 c).before 3 t d))
    ∗ (∃ d, owns (c : Thread nD τ) (ms0_4 m hg t) fullShare ((runDat m hg 0 c).before 4 t d)))

def pointPost (c : Dev nD) (t : Fin (cfgT m hg).N) : sProp 𝕄 :=
  iprop((runDat m hg 0 c).Φ t.succ ∗ (runDat m hg 0 c).owesAt () t.succ
    ∗ owns (c : Thread nD τ) (ms0_0 m hg t) fullShare ((runDat m hg 0 c).after 0 t)
    ∗ owns (c : Thread nD τ) (ms0_1 m hg t) fullShare ((runDat m hg 0 c).after 1 t)
    ∗ owns (c : Thread nD τ) (ms0_2 m hg t) fullShare ((runDat m hg 0 c).after 2 t)
    ∗ owns (c : Thread nD τ) (ms0_3 m hg t) fullShare ((runDat m hg 0 c).after 3 t)
    ∗ owns (c : Thread nD τ) (ms0_4 m hg t) fullShare ((runDat m hg 0 c).after 4 t))

/-- A window's block follows from its index. -/
theorem same_block1 (c : Dev nD) (t k : Fin (cfgT m hg).N) (h : expertOf (tabs m 0) (grid0.coords t) = expertOf (tabs m 0) (grid0.coords k)) :
    iblk m hg c 1 t = iblk m hg c 1 k := by
  refine funext fun y => congrArg (V m c main_arg2) (funext fun a => Fin.ext ?_)
  show cc0_transform_1 k0_off1_inb numel1_S1 (tabs m) (grid0.coords t) a * _ + 1 * (y a).val = cc0_transform_1 k0_off1_inb numel1_S1 (tabs m) (grid0.coords k) a * _ + 1 * (y a).val
  rw [map1_eq, map1_eq, h]

theorem same_block2 (c : Dev nD) (t k : Fin (cfgT m hg).N) (h : expertOf (tabs m 0) (grid0.coords t) = expertOf (tabs m 0) (grid0.coords k)) :
    iblk m hg c 2 t = iblk m hg c 2 k := by
  refine funext fun y => congrArg (V m c main_arg3) (funext fun a => Fin.ext ?_)
  show cc0_transform_1 k0_off1_inb numel1_S1 (tabs m) (grid0.coords t) a * _ + 1 * (y a).val = cc0_transform_1 k0_off1_inb numel1_S1 (tabs m) (grid0.coords k) a * _ + 1 * (y a).val
  rw [map1_eq, map1_eq, h]

theorem same_block3 (c : Dev nD) (t k : Fin (cfgT m hg).N) (h : expertOf (tabs m 0) (grid0.coords t) = expertOf (tabs m 0) (grid0.coords k)) :
    iblk m hg c 3 t = iblk m hg c 3 k := by
  refine funext fun y => congrArg (V m c main_arg4) (funext fun a => Fin.ext ?_)
  show cc0_transform_1 k0_off1_inb numel1_S1 (tabs m) (grid0.coords t) a * _ + 1 * (y a).val = cc0_transform_1 k0_off1_inb numel1_S1 (tabs m) (grid0.coords k) a * _ + 1 * (y a).val
  rw [map1_eq, map1_eq, h]

theorem place_congr {a b : ℕ} (e : a = b) (h h') : place a h = place b h' := by subst e; rfl

theorem kept_next (c : Dev nD) (t : Fin (cfgT m hg).N) (w0 w1 w2)
    (h : inUse m t.val → w0 = k0_pay1 (iblk m hg c 1 t) ∧ w1 = k0_pay2 (iblk m hg c 2 t) ∧ w2 = k0_pay3 (iblk m hg c 3 t)) :
    Kept m hg c (t.val + 1) w0 w1 w2 := fun k hk hu => by
  obtain rfl : k = t := Fin.ext (by omega)
  exact h hu

/-- At a used tile that loads nothing, the scratch has the tile's own weights. -/
theorem kept_here (c : Dev nD) (t : Fin (cfgT m hg).N) {w0 w1 w2} (h : Kept m hg c t.val w0 w1 w2) (hu : inUse m t.val)
    (hl : ¬ loadsW (F := F) (tabs m 0) (tabs m 1) (grid0.coords t) = 1#1) :
    w0 = k0_pay1 (iblk m hg c 1 t) ∧ w1 = k0_pay2 (iblk m hg c 2 t) ∧ w2 = k0_pay3 (iblk m hg c 3 t) := by
  have hl' := fun H => hl ((loads_iff (F := F) (tabs m 0) (tabs m 1) hg.used (grid0.coords t)).2 H)
  have ec := crd_val t
  have h0 : t.val ≠ 0 := fun h => hl' ⟨by rw [ec]; exact hu, .inl (by rw [ec]; exact h)⟩
  have he : ¬ _ ≠ _ := fun h => hl' ⟨by rw [ec]; exact hu, .inr h⟩
  rw [not_not] at he
  let k : Fin (cfgT m hg).N := ⟨t.val - 1, lt_of_le_of_lt (Nat.sub_le _ _) t.isLt⟩
  have hk : ((grid0.coords k) 0).val = t.val - 1 := crd_val k
  have ht : ((grid0.coords t) 0).val = t.val := crd_val t
  have e : expertOf (tabs m 0) (grid0.coords k) = expertOf (tabs m 0) (grid0.coords t) := by
    unfold expertOf
    rw [place_congr hk _ (lt_of_le_of_lt (Nat.sub_le _ _) t.isLt)]
    refine congrArg BitVec.toNat (Eq.trans ?_ he.symm)
    exact congrArg (tabs m 0) (place_congr (by omega) _ _)
  have := h k (by show t.val = t.val - 1 + 1; omega) (show t.val - 1 < _ from lt_of_le_of_lt (Nat.sub_le _ _) hu)
  rwa [same_block1 m hg c k t e, same_block2 m hg c k t e, same_block3 m hg c k t e] at this

set_option maxHeartbeats 800000 in
/-- A tile past those in use. -/
theorem point_none (c : Dev nD) (t : Fin (cfgT m hg).N) (hu : ¬ inUse m t.val) (h2 : ¬ k0_cond2 (grid0.coords t) (useW (F := F) (tabs m 1)) = 1#1) (h3 :  k0_cond3 (grid0.coords t) (useW (F := F) (tabs m 1)) = 1#1)
    (hl : ¬ loadsW (F := F) (tabs m 0) (tabs m 1) (grid0.coords t) = 1#1) :
    pointPre m hg c t ⊢ wp frame (wpE (defs₀ (F := F)) Variants.none c none) Set.univ (bodyAt m hg t) (fun _ => pointPost m hg c t) := by
  unfold pointPre pointPost
  simp only [found0, found1, found2, found3]
  rw [show (runDat m hg 0 c).Φ t.succ = Phi m hg c (t.val + 1) from rfl, show (runDat m hg 0 c).Φ t.castSucc = Phi m hg c t.val from rfl,
    show (runDat m hg 0 c).owesAt () t.succ = (runDat m hg 0 c).owesAt () t.castSucc from rfl,
    left0, left1, left2, left3, left4]
  unfold Phi
  iintro ⟨⟨⟨%w0, %w1, %w2, %hk, HS0, HS1, HS2⟩, HT0, HT1, Hg⟩, Ho, ⟨%d0, H0⟩, ⟨%d1, H1⟩, ⟨%d2, H2⟩, ⟨%d3, H3⟩, ⟨%d4, H4⟩⟩
  iapply (run_none c (grid0.coords t) (ms0_0 m hg t) (hstage0_0 (((cfgT m hg).slots t 0).cast nbuf0_0)) (ms0_1 m hg t) (hstage0_1 (((cfgT m hg).slots t 1).cast nbuf0_1))
    (ms0_2 m hg t) (hstage0_2 (((cfgT m hg).slots t 2).cast nbuf0_2)) (ms0_3 m hg t) (hstage0_3 (((cfgT m hg).slots t 3).cast nbuf0_3))
    (ms0_4 m hg t) (hstage0_4 (((cfgT m hg).slots t 4).cast nbuf0_4)) scr0 (Memref.isWhole_whole _) scr1 (Memref.isWhole_whole _) scr2 (Memref.isWhole_whole _)
    (tabs m 0) (tabs m 1) (iblk m hg c 0 t) (iblk m hg c 1 t) (iblk m hg c 2 t) (iblk m hg c 3 t) w0 w1 w2 _ Set.univ hl h2 h3)
  unfold held
  isplitl [HS0 HS1 HS2 HT0 HT1 H0 H1 H2 H3 H4]
  · isplitl [H0]; · iexact H0
    isplitl [H1]; · iexact H1
    isplitl [H2]; · iexact H2
    isplitl [H3]; · iexact H3
    isplitl [HT0]; · iexact HT0
    isplitl [HT1]; · iexact HT1
    isplitl [H4]
    · iexists _; isplitr
      swap; · iexact H4
      ipureintro; intro z hz; cases hz
    isplitl [HS0]; · iexact HS0
    isplitl [HS1]; · iexact HS1
    iexact HS2
  iintro ⟨H0, H1, H2, H3, HT0, HT1, ⟨%d, %hd, H4⟩, HS0, HS1, HS2⟩
  isplitl [HS0 HS1 HS2 HT0 HT1 Hg]
  · isplitl [HS0 HS1 HS2]
    · iexists _; iexists _; iexists _; isplitr
      swap
      · isplitl [HS0]; · iexact HS0
        isplitl [HS1]; · iexact HS1
        iexact HS2
      ipureintro
      exact kept_next m hg c t _ _ _ fun h => absurd h hu
    isplitl [HT0]; · iexact HT0
    isplitl [HT1]; · iexact HT1
    iexact Hg
  isplitl [Ho]; · iexact Ho
  isplitl [H0]; · iexact H0
  isplitl [H1]; · iexact H1
  isplitl [H2]; · iexact H2
  isplitl [H3]; · iexact H3
  have e : d = outAt m hg c t := by
    rw [hd _ rfl]; unfold outAt
    rw [if_neg hu]
  subst e
  iexact H4

set_option maxHeartbeats 800000 in
/-- A used tile with the expert of the tile before. -/
theorem point_keep (c : Dev nD) (t : Fin (cfgT m hg).N) (hu : inUse m t.val) (h2 :  k0_cond2 (grid0.coords t) (useW (F := F) (tabs m 1)) = 1#1) (h3 : ¬ k0_cond3 (grid0.coords t) (useW (F := F) (tabs m 1)) = 1#1)
    (hl : ¬ loadsW (F := F) (tabs m 0) (tabs m 1) (grid0.coords t) = 1#1) :
    pointPre m hg c t ⊢ wp frame (wpE (defs₀ (F := F)) Variants.none c none) Set.univ (bodyAt m hg t) (fun _ => pointPost m hg c t) := by
  unfold pointPre pointPost
  simp only [found0, found1, found2, found3]
  rw [show (runDat m hg 0 c).Φ t.succ = Phi m hg c (t.val + 1) from rfl, show (runDat m hg 0 c).Φ t.castSucc = Phi m hg c t.val from rfl,
    show (runDat m hg 0 c).owesAt () t.succ = (runDat m hg 0 c).owesAt () t.castSucc from rfl,
    left0, left1, left2, left3, left4]
  unfold Phi
  iintro ⟨⟨⟨%w0, %w1, %w2, %hk, HS0, HS1, HS2⟩, HT0, HT1, Hg⟩, Ho, ⟨%d0, H0⟩, ⟨%d1, H1⟩, ⟨%d2, H2⟩, ⟨%d3, H3⟩, ⟨%d4, H4⟩⟩
  iapply (run_keep c (grid0.coords t) (ms0_0 m hg t) (hstage0_0 (((cfgT m hg).slots t 0).cast nbuf0_0)) (ms0_1 m hg t) (hstage0_1 (((cfgT m hg).slots t 1).cast nbuf0_1))
    (ms0_2 m hg t) (hstage0_2 (((cfgT m hg).slots t 2).cast nbuf0_2)) (ms0_3 m hg t) (hstage0_3 (((cfgT m hg).slots t 3).cast nbuf0_3))
    (ms0_4 m hg t) (hstage0_4 (((cfgT m hg).slots t 4).cast nbuf0_4)) scr0 (Memref.isWhole_whole _) scr1 (Memref.isWhole_whole _) scr2 (Memref.isWhole_whole _)
    (tabs m 0) (tabs m 1) (iblk m hg c 0 t) (iblk m hg c 1 t) (iblk m hg c 2 t) (iblk m hg c 3 t) w0 w1 w2 _ Set.univ hl h2 h3)
  unfold held
  isplitl [HS0 HS1 HS2 HT0 HT1 H0 H1 H2 H3 H4]
  · isplitl [H0]; · iexact H0
    isplitl [H1]; · iexact H1
    isplitl [H2]; · iexact H2
    isplitl [H3]; · iexact H3
    isplitl [HT0]; · iexact HT0
    isplitl [HT1]; · iexact HT1
    isplitl [H4]
    · iexists _; isplitr
      swap; · iexact H4
      ipureintro; intro z hz; cases hz
    isplitl [HS0]; · iexact HS0
    isplitl [HS1]; · iexact HS1
    iexact HS2
  iintro ⟨H0, H1, H2, H3, HT0, HT1, ⟨%d, %hd, H4⟩, HS0, HS1, HS2⟩
  isplitl [HS0 HS1 HS2 HT0 HT1 Hg]
  · isplitl [HS0 HS1 HS2]
    · iexists _; iexists _; iexists _; isplitr
      swap
      · isplitl [HS0]; · iexact HS0
        isplitl [HS1]; · iexact HS1
        iexact HS2
      ipureintro
      exact kept_next m hg c t _ _ _ fun _ => kept_here m hg c t hk hu hl
    isplitl [HT0]; · iexact HT0
    isplitl [HT1]; · iexact HT1
    iexact Hg
  isplitl [Ho]; · iexact Ho
  isplitl [H0]; · iexact H0
  isplitl [H1]; · iexact H1
  isplitl [H2]; · iexact H2
  isplitl [H3]; · iexact H3
  have e : d = outAt m hg c t := by
    rw [hd _ rfl]; unfold outAt
    obtain ⟨e0, e1, e2⟩ := kept_here m hg c t hk hu hl
    rw [if_pos hu, e0, e1, e2]
  subst e
  iexact H4

set_option maxHeartbeats 800000 in
/-- A used tile with a new expert. -/
theorem point_load (c : Dev nD) (t : Fin (cfgT m hg).N) (hu : inUse m t.val) (h2 :  k0_cond2 (grid0.coords t) (useW (F := F) (tabs m 1)) = 1#1) (h3 : ¬ k0_cond3 (grid0.coords t) (useW (F := F) (tabs m 1)) = 1#1)
    (hl :  loadsW (F := F) (tabs m 0) (tabs m 1) (grid0.coords t) = 1#1) :
    pointPre m hg c t ⊢ wp frame (wpE (defs₀ (F := F)) Variants.none c none) Set.univ (bodyAt m hg t) (fun _ => pointPost m hg c t) := by
  unfold pointPre pointPost
  simp only [found0, found1, found2, found3]
  rw [show (runDat m hg 0 c).Φ t.succ = Phi m hg c (t.val + 1) from rfl, show (runDat m hg 0 c).Φ t.castSucc = Phi m hg c t.val from rfl,
    show (runDat m hg 0 c).owesAt () t.succ = (runDat m hg 0 c).owesAt () t.castSucc from rfl,
    left0, left1, left2, left3, left4]
  unfold Phi
  iintro ⟨⟨⟨%w0, %w1, %w2, %hk, HS0, HS1, HS2⟩, HT0, HT1, Hg⟩, Ho, ⟨%d0, H0⟩, ⟨%d1, H1⟩, ⟨%d2, H2⟩, ⟨%d3, H3⟩, ⟨%d4, H4⟩⟩
  iapply (run_load c (grid0.coords t) (ms0_0 m hg t) (hstage0_0 (((cfgT m hg).slots t 0).cast nbuf0_0)) (ms0_1 m hg t) (hstage0_1 (((cfgT m hg).slots t 1).cast nbuf0_1))
    (ms0_2 m hg t) (hstage0_2 (((cfgT m hg).slots t 2).cast nbuf0_2)) (ms0_3 m hg t) (hstage0_3 (((cfgT m hg).slots t 3).cast nbuf0_3))
    (ms0_4 m hg t) (hstage0_4 (((cfgT m hg).slots t 4).cast nbuf0_4)) scr0 (Memref.isWhole_whole _) scr1 (Memref.isWhole_whole _) scr2 (Memref.isWhole_whole _)
    (tabs m 0) (tabs m 1) (iblk m hg c 0 t) (iblk m hg c 1 t) (iblk m hg c 2 t) (iblk m hg c 3 t) w0 w1 w2 _ Set.univ hl h2 h3)
  unfold held
  isplitl [HS0 HS1 HS2 HT0 HT1 H0 H1 H2 H3 H4]
  · isplitl [H0]; · iexact H0
    isplitl [H1]; · iexact H1
    isplitl [H2]; · iexact H2
    isplitl [H3]; · iexact H3
    isplitl [HT0]; · iexact HT0
    isplitl [HT1]; · iexact HT1
    isplitl [H4]
    · iexists _; isplitr
      swap; · iexact H4
      ipureintro; intro z hz; cases hz
    isplitl [HS0]; · iexact HS0
    isplitl [HS1]; · iexact HS1
    iexact HS2
  iintro ⟨H0, H1, H2, H3, HT0, HT1, ⟨%d, %hd, H4⟩, HS0, HS1, HS2⟩
  isplitl [HS0 HS1 HS2 HT0 HT1 Hg]
  · isplitl [HS0 HS1 HS2]
    · iexists _; iexists _; iexists _; isplitr
      swap
      · isplitl [HS0]; · iexact HS0
        isplitl [HS1]; · iexact HS1
        iexact HS2
      ipureintro
      exact kept_next m hg c t _ _ _ fun _ => ⟨rfl, rfl, rfl⟩
    isplitl [HT0]; · iexact HT0
    isplitl [HT1]; · iexact HT1
    iexact Hg
  isplitl [Ho]; · iexact Ho
  isplitl [H0]; · iexact H0
  isplitl [H1]; · iexact H1
  isplitl [H2]; · iexact H2
  isplitl [H3]; · iexact H3
  have e : d = outAt m hg c t := by
    rw [hd _ rfl]; unfold outAt
    rw [if_pos hu]
  subst e
  iexact H4

/-- The body at any point. -/
theorem point_sound (c : Dev nD) (t : Fin (cfgT m hg).N) :
    pointPre m hg c t ⊢ wp frame (wpE (defs₀ (F := F)) Variants.none c none) Set.univ (bodyAt m hg t) (fun _ => pointPost m hg c t) := by
  have e := crd_val t
  by_cases hu : inUse m t.val
  · have h2 : k0_cond2 (grid0.coords t) (useW (F := F) (tabs m 1)) = 1#1 := (cond2_iff _ hg.used _).2 (e ▸ hu)
    have h3 : ¬ k0_cond3 (grid0.coords t) (useW (F := F) (tabs m 1)) = 1#1 := fun h => (cond3_iff _ hg.used _).1 h (e ▸ hu)
    by_cases hl : loadsW (F := F) (tabs m 0) (tabs m 1) (grid0.coords t) = 1#1
    · exact point_load m hg c t hu h2 h3 hl
    · exact point_keep m hg c t hu h2 h3 hl
  · have h2 : ¬ k0_cond2 (grid0.coords t) (useW (F := F) (tabs m 1)) = 1#1 := fun h => hu (by have := (cond2_iff _ hg.used _).1 h; rwa [e] at this)
    have h3 : k0_cond3 (grid0.coords t) (useW (F := F) (tabs m 1)) = 1#1 := (cond3_iff _ hg.used _).2 (by rw [e]; exact hu)
    exact point_none m hg c t hu h2 h3 fun h => hu (by have := ((loads_iff _ _ hg.used _).1 h).1; rwa [e] at this)

/-- The result's window is stored at every point. -/
theorem never_idle (t : Fin (cfgT m hg).N) : (cfgT m hg).idle 4 (grid0.coords t) = false := by
  have e : (tabs m).atD 1 ![0] = tabs m 1 only := by
    unfold Pipeline.Prefetch.Contents.atD
    rw [dif_pos (by decide)]
    exact congrArg (tabs m 1) (funext fun (a : Fin 1) => match a with | 0 => Fin.ext rfl)
  show (!(k0_cond2 (grid0.coords t) ((tabs m).atD 1 ![0]) == 1#1) && !(k0_cond3 (grid0.coords t) ((tabs m).atD 1 ![0]) == 1#1)) = false
  rw [e, ← use_eq (F := F) (tabs m 1)]
  by_cases h : ((grid0.coords t) 0).val < usedOf (tabs m 1)
  · rw [(cond2_iff (F := F) _ hg.used _).2 h]; rfl
  · rw [(cond3_iff (F := F) _ hg.used _).2 h, Bool.and_comm]; rfl

theorem bodyRow (t : Fin (cfgT m hg).N) : defs₀ (F := F) .tc (cfgT m hg).body ((cfgT m hg).bodyArgs t ((cfgT m hg).slots t)) = bodyAt m hg t := by
  unfold defs₀; rw [Defs.onTc_tc]

theorem point_obligation (c : Dev nD) : BodyObligation (runDat (F := F) m hg 0 c) (defs₀ (F := F)) Variants.none () Set.univ := fun t => by
  rw [bigSep_W0, bigSep_W0, bodyRow]
  refine triple_restated (point_sound m hg c t) rfl .rfl fun _ => ?_
  have i4 : (cfgT m hg).idle (4 : Fin 5) ((cfgT m hg).grid.coords t) = false := never_idle m hg t
  rewrite [i4]
  exact .rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) := by
  have e : V m = fun (c : Dev nD) (b : Ref sig .tc) =>
      (StableHlo.after (List.flatten [hostOps0, hostOps0_1, hostOps0_2, hostOps0_3]) (fun b => m (c, b)) b : Buf (Elt F) ((c.tc : Thread nD τ).loc b)) := by
    funext c b; unfold V; rfl
  rw [e]
  exact Pipeline.hmainP_prefixes (pcfgs (F := F)) 0 defs₀ Variants.none m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The host operations leave argument 0 as it was. -/
theorem V_main_arg0 (c : Dev nD) : V m c main_arg0 = m ((c : Thread nD τ).loc main_arg0) := by
  unfold V
  exact StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The host operations leave argument 1 as it was. -/
theorem V_main_arg1 (c : Dev nD) : V m c main_arg1 = m ((c : Thread nD τ).loc main_arg1) := by
  unfold V
  exact StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The host operations leave argument 2 as it was. -/
theorem V_main_arg2 (c : Dev nD) : V m c main_arg2 = m ((c : Thread nD τ).loc main_arg2) := by
  unfold V
  exact StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The host operations leave argument 3 as it was. -/
theorem V_main_arg3 (c : Dev nD) : V m c main_arg3 = m ((c : Thread nD τ).loc main_arg3) := by
  unfold V
  exact StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The host operations leave argument 4 as it was. -/
theorem V_main_arg4 (c : Dev nD) : V m c main_arg4 = m ((c : Thread nD τ).loc main_arg4) := by
  unfold V
  exact StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v10) ↦{q 0} v 0) ∗ (((c : Thread nD τ).loc main_v12) ↦{q 1} v 1)) := by
  unfold Pipeline.prefHeld
  rw [show (Finset.univ : Finset (Fin 2)) = insert (0 : Fin 2) {(1 : Fin 2)} from by decide, bigSep_insert (by decide), bigSep_singleton]
  rfl

theorem scratch_held (c : Dev nD) : (Pipeline.scopedRest (Ix := Unit) (Name := ℕ) (U := UR sig nD τ) (Lvl := ℕ) (Val := Elt F) spec0 c : sProp 𝕄)
    = iprop((∃ w0, owns (c : Thread nD τ) scr0 fullShare w0) ∗ (∃ w1, owns (c : Thread nD τ) scr1 fullShare w1) ∗ (∃ w2, owns (c : Thread nD τ) scr2 fullShare w2)) := by
  rw [scopedRest0_eq]
  have e0 : ∀ w, (owns (c : Thread nD τ) scr0 fullShare w : sProp 𝕄) = ((c : Thread nD τ).loc cc0_scratch0 ↦{fullShare} w) := owns_whole (c : Thread nD τ) cc0_scratch0 fullShare
  have e1 : ∀ w, (owns (c : Thread nD τ) scr1 fullShare w : sProp 𝕄) = ((c : Thread nD τ).loc cc0_scratch1 ↦{fullShare} w) := owns_whole (c : Thread nD τ) cc0_scratch1 fullShare
  have e2 : ∀ w, (owns (c : Thread nD τ) scr2 fullShare w : sProp 𝕄) = ((c : Thread nD τ).loc cc0_scratch2 ↦{fullShare} w) := owns_whole (c : Thread nD τ) cc0_scratch2 fullShare
  rw [funext e0, funext e1, funext e2]
  rfl

theorem first_in (c : Dev nD) : iprop(Pipeline.ΦA spec0 c ∗ Pipeline.ΦT pre0 (tabs m) c) ⊢ (runDat (F := F) m hg 0 c).Φ 0 := by
  rw [show (runDat (F := F) m hg 0 c).Φ 0 = Phi m hg c 0 from rfl]
  unfold Pipeline.ΦA Pipeline.ΦT Phi
  rw [tables_held, scratch_held]
  iintro ⟨⟨⟨⟨%w0, HS0⟩, ⟨%w1, HS1⟩, ⟨%w2, HS2⟩⟩, Hg⟩, HT0, HT1⟩
  isplitl [HS0 HS1 HS2]
  · iexists w0; iexists w1; iexists w2
    isplitr
    · ipureintro; intro k hk; exact absurd hk (by omega)
    isplitl [HS0]; · iexact HS0
    isplitl [HS1]; · iexact HS1
    iexact HS2
  isplitl [HT0]; · iexact HT0
  isplitl [HT1]; · iexact HT1
  iexact Hg

theorem last_out (c : Dev nD) : (runDat (F := F) m hg 0 c).Φ (Fin.last (cfgT m hg).N) ⊢ Pipeline.ΦA spec0 c := by
  rw [show (runDat (F := F) m hg 0 c).Φ (Fin.last (cfgT m hg).N) = Phi m hg c (cfgT m hg).N from rfl]
  unfold Pipeline.ΦA Phi
  rw [scratch_held]
  iintro ⟨⟨%w0, %w1, %w2, -, HS0, HS1, HS2⟩, -, -, Hg⟩
  isplitl [HS0 HS1 HS2]
  · isplitl [HS0]; · iexists w0; iexact HS0
    isplitl [HS1]; · iexists w1; iexact HS1
    iexists w2; iexact HS2
  iexact Hg

set_option backward.isDefEq.respectTransparency.types false in
/-- Every execution ends, with the arrays at what the run's data say and the counters at nought. -/
theorem run_ends : θ_run defs (onTc (τ := τ) (main (F := F))) (s₀ m ρ)
    (fun r => Pipeline.FramePost (Pipeline.pin (pcfgs (F := F)) (adm m hg)) (runDat m hg) 0 (V m) r ∧ r.2.sem = fun _ => 0) :=
  Pipeline.θ_run_frameP_track (Q' := _) (pcfgs (F := F)) (adm m hg) (runDat m hg) (0 : Fin 1) launch0 defs₀ Variants.none m ρ main
    (hbody := fun c => (point_obligation m hg c).loose) (hshare := fun c w => by unfold Dat.share; split <;> rfl)
    (howed := fun _ _ => rfl) (V := V m) (hmain := hmain m) (hA := fun c w => rfl) (hpf := fun c k => tabs_eq m c k)
    (hin := first_in m hg) (hout := last_out m hg) (hQ' := fun _ h => h)

theorem run_arrays : θ_run defs (onTc (τ := τ) (main (F := F))) (s₀ m ρ)
    (Pipeline.FramePost (Pipeline.pin (pcfgs (F := F)) (adm m hg)) (runDat m hg) 0 (V m)) :=
  (θ_run defs _ _).mono (fun _ h => h.1) (run_ends m ρ hg)

include hg in
/-- The frame: every execution ends, the arguments unchanged and the counters at nought. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (show ∀ w : Fin 5, (spec0 w).arr.view.ref ≠ main_arg0 by decide))).trans (V_main_arg0 m c),
    (((h.1 c).1 0).trans ((runDat m hg 0 c).arrAt_in 0 rfl _)).trans (V_main_arg1 m c),
    (((h.1 c).1 1).trans ((runDat m hg 0 c).arrAt_in 1 rfl _)).trans (V_main_arg2 m c),
    (((h.1 c).1 2).trans ((runDat m hg 0 c).arrAt_in 2 rfl _)).trans (V_main_arg3 m c),
    (((h.1 c).1 3).trans ((runDat m hg 0 c).arrAt_in 3 rfl _)).trans (V_main_arg4 m c)⟩, h.2⟩) (run_ends m ρ hg)

/-- The run with the result array named. -/
theorem run_result : θ_run defs (onTc (τ := τ) (main (F := F))) ⟨m, fun _ => 0, ρ⟩ fun r => ∀ c : Dev nD,
      r.2.mem ((c : Thread nD τ).loc main_v13) = (runDat m hg 0 c).arrAt 4 (cfgT m hg).N :=
  (θ_run defs _ _).mono (fun r h c => (h c).1 4) (run_arrays m ρ hg)

end Cert.Kernel2Ideal.Ex

end

end
-- ==== Proof.ExpEnds.lean ====
/-
  The ends of the experts' regions: multiples of 512 that do not fall, the last above 0; and which region a tile lies in.
-/
module

public import Idealize.ShloMosaic.Lib.WordCmp
public import Idealize.ShloMosaic.Lib.Pointwise

@[expose] public section

set_option maxRecDepth 16384

noncomputable section

namespace Cert.Ends

open Idealize.ShloMosaic

abbrev S16 : Shape := ⟨1, ![16]⟩

/-- The words are the ends of 16 regions, `D e` the number of tiles up to the end of region `e`. -/
structure Ends (R : S16.Idx → BitVec 32) (D : ℕ → ℕ) : Prop where
  word : ∀ e : Fin 16, R (ix1 e) = BitVec.ofNat 32 (512 * D e.val)
  small : ∀ e, e < 16 → 512 * D e < 2 ^ 31
  mono : ∀ i j, i ≤ j → j < 16 → D i ≤ D j
  last : 1 ≤ D 15

/-- Where a property that holds at a number holds at all smaller ones, it holds exactly below the count. -/
theorem count_iff (P : ℕ → Prop) [DecidablePred P] (N : ℕ) (hP : ∀ i j, i ≤ j → j < N → P j → P i) :
    ∀ n, n ≤ N → ∀ e, e < n → (P e ↔ e < Nat.count P n) := by
  intro n
  induction n with
  | zero => intro _ e he; omega
  | succ n ih =>
    intro hn e he
    have l : Nat.count P n ≤ n := Nat.count_le P
    rw [Nat.count_succ]
    by_cases h : P n
    · rw [if_pos h]
      have hc : Nat.count P n = n := by
        by_contra hne
        exact absurd ((ih (by omega) (Nat.count P n) (by omega)).1 (hP _ n (by omega) (by omega) h)) (lt_irrefl _)
      rw [hc]
      exact ⟨fun _ => he, fun _ => hP e n (by omega) (by omega) h⟩
    · rw [if_neg h, Nat.add_zero]
      rcases Nat.lt_succ_iff_lt_or_eq.1 he with h' | rfl
      · exact ih (by omega) e h'
      · exact ⟨fun h' => absurd h' h, fun h' => by omega⟩

/-- The region of tile `t`: the number of regions that end at or before it. -/
def regionOf (D : ℕ → ℕ) (t : ℕ) : ℕ := Nat.count (fun e => D e ≤ t) 16

variable {R : S16.Idx → BitVec 32} {D : ℕ → ℕ} (h : Ends R D)
include h

theorem region_iff (t e : ℕ) (he : e < 16) : D e ≤ t ↔ e < regionOf D t :=
  count_iff (fun e => D e ≤ t) 16 (fun i j hij hj hle => (h.mono i j hij hj).trans hle) 16 le_rfl e he

/-- A tile lies in region `e` when the regions before `e` end at or before it and `e` ends after it. -/
theorem inside_iff (t e : ℕ) (he : e < 16) : ((if e = 0 then 0 else D (e - 1)) ≤ t ∧ t < D e) ↔ e = regionOf D t := by
  have a := region_iff h t e he
  rcases Nat.eq_zero_or_pos e with h0 | h0
  · subst h0
    rw [if_pos rfl]
    omega
  · have b := region_iff h t (e - 1) (by omega)
    rw [if_neg (by omega)]
    omega

theorem used_iff (t : ℕ) : regionOf D t < 16 ↔ t < D 15 := by
  have a := region_iff h t 15 (by omega)
  omega

omit h

theorem sge_iff (x y : BitVec 32) : IntOp.cmpi .sge x y = 1#1 ↔ y.toInt ≤ x.toInt := by
  rw [WordCmp.cmpi_sge_eq, WordCmp.ofBool_decide_eq_one_iff]
theorem sle_iff (x y : BitVec 32) : IntOp.cmpi .sle x y = 1#1 ↔ x.toInt ≤ y.toInt := by
  rw [WordCmp.cmpi_sle_eq, WordCmp.ofBool_decide_eq_one_iff]

/-- The words that the precondition admits are ends of regions. -/
theorem ends_of (R : S16.Idx → BitVec 32) (h0 : ∀ e : Fin 16, IntOp.cmpi .sge (R (ix1 e)) 0#32 = 1#1)
    (h1 : ∀ i : Fin 15, IntOp.cmpi .sle (R (ix1 i.castSucc)) (R (ix1 i.succ)) = 1#1)
    (h2 : ∀ e : Fin 16, IntOp.cmpi .eq (IntOp.andi (R (ix1 e)) 511#32) 0#32 = 1#1)
    (h3 : IntOp.cmpi .sge (R (ix1 (15 : Fin 16))) 1#32 = 1#1) :
    Ends R (fun e => if h : e < 16 then (R (ix1 (⟨e, h⟩ : Fin 16))).toNat / 512 else 0) := by
  have pos : ∀ e : Fin 16, (R (ix1 e)).toNat < 2 ^ 31 := fun e => by
    have a := (sge_iff _ _).1 (h0 e)
    generalize R (ix1 e) = w at a
    have b := BitVec.toInt_eq_toNat_cond w
    have l := w.isLt
    change (0 : ℤ) ≤ _ at a
    split at b <;> omega
  have toI : ∀ e : Fin 16, (R (ix1 e)).toInt = ((R (ix1 e)).toNat : ℤ) := fun e => WordCmp.toInt_eq_toNat_of_lt_half (pos e)
  have mul : ∀ e : Fin 16, 512 * ((R (ix1 e)).toNat / 512) = (R (ix1 e)).toNat := fun e => by
    have a := h2 e
    rw [WordCmp.cmpi_eq_eq, WordCmp.ofBool_decide_eq_one_iff] at a
    generalize R (ix1 e) = w at a
    have b : (w &&& 511#32).toNat = 0 := congrArg BitVec.toNat a
    rw [BitVec.toNat_and] at b
    have d : w.toNat &&& 511 = w.toNat % 512 := Nat.and_two_pow_sub_one_eq_mod w.toNat 9
    have : w.toNat % 512 = 0 := d.symm.trans b
    omega
  refine ⟨fun e => ?_, fun e he => ?_, fun i j hij hj => ?_, ?_⟩
  · rw [dif_pos e.isLt, mul ⟨e.val, e.isLt⟩]
    exact BitVec.eq_of_toNat_eq (by rw [BitVec.toNat_ofNat, Nat.mod_eq_of_lt (BitVec.isLt _)])
  · rw [dif_pos he, mul ⟨e, he⟩]
    exact pos ⟨e, he⟩
  · have step : ∀ k (hk : k < 15), (R (ix1 (⟨k, by omega⟩ : Fin 16))).toNat ≤ (R (ix1 (⟨k + 1, by omega⟩ : Fin 16))).toNat := fun k hk => by
      have a := (sle_iff _ _).1 (h1 ⟨k, hk⟩)
      rw [toI, toI] at a
      exact Int.ofNat_le.1 a
    have up : ∀ n (hn : i + n < 16), (R (ix1 (⟨i, by omega⟩ : Fin 16))).toNat ≤ (R (ix1 (⟨i + n, hn⟩ : Fin 16))).toNat := fun n => by
      induction n with
      | zero => exact fun _ => le_rfl
      | succ n ih => exact fun hn => (ih (by omega)).trans (step (i + n) (by omega))
    obtain ⟨n, rfl⟩ := Nat.exists_eq_add_of_le hij
    rw [dif_pos (show i < 16 by omega), dif_pos hj]
    exact Nat.div_le_div_right (up n hj)
  · have a := (sge_iff _ _).1 h3
    rw [toI] at a
    have b := mul (15 : Fin 16)
    have c : (1 : ℤ) ≤ ((R (ix1 (15 : Fin 16))).toNat : ℤ) := a
    rw [dif_pos (show 15 < 16 by omega)]
    show 1 ≤ (R (ix1 (15 : Fin 16))).toNat / 512
    omega

end Cert.Ends

end

end
-- ==== Proof.ExpHost.lean ====
/-
  The two tables of the experts call that the host makes of the ends of the experts' regions.
-/
module

public import proofs.«01_k».proof.Proof.ExpFlow
public import proofs.«01_k».proof.Proof.ExpEnds
public import Idealize.ShloMosaic.Lib.StableHlo.ReadAt
public import Idealize.ShloMosaic.Lib.Routing.Words

@[expose] public section

set_option maxRecDepth 16384

noncomputable section

namespace Cert.Kernel2Ideal.Ex

open Idealize.ShloMosaic Idealize.ShloMosaic.TcCoe
open Cert.Kernel2Ideal Cert.Kernel2Ideal.Gen Cert.Ends

/-- The number of the first tile after each region. -/
def endsH (R : IVec S16 32) : IVec S16 32 := Routing.pyDiv bcast_S_S16 R (constantI S_ 32 512#32)

/-- Where a tile is at or after a region's end. -/
def afterH (R : IVec S16 32) : IVec S172x16 1 :=
  cmpi .sge (broadcastInDim S172x16 ![0, 1] bcast_S172x1_S172x16_0_1 (broadcastInDim S172x1 ![0] bcast_S172_S172x1_0 (iotaInDim S172 32 0)))
    (broadcastInDim S172x16 ![0, 1] bcast_S1x16_S172x16_0_1 (broadcastInDim S1x16 ![1] bcast_S16_S1x16_1 (endsH R)))

/-- The tiles' experts. -/
def tileH (R : IVec S16 32) : IVec S172 32 :=
  minsi (Host.reduce IntOp.addi (extui 32 (afterH R) natLt_1_32) (constantI S_ 32 0#32) reducesTo_S172x16_S172_d1 h_S_)
    (broadcastInDim S172 ![] bcast_S_S172 (constantI S_ 32 15#32))

/-- How many tiles are in use. -/
def usedH (R : IVec S16 32) : IVec S1 32 :=
  Routing.pyDiv bcast_S_S1 (extractStridedSlice S1 ![15] R slices_S16_S1_15) (constantI S_ 32 512#32)

variable {R : IVec S16 32} {D : ℕ → ℕ} (h : Ends R D)
include h

theorem endsH_at (e : Fin 16) : endsH R (ix1 e) = BitVec.ofNat 32 (D e.val) := by
  have b := h.small e.val e.isLt
  unfold endsH
  rw [Routing.pyDiv_ap bcast_S_S16 R (constantI S_ 32 512#32) (ix1 e) (h.word e) (b := 512) rfl b (by omega) (by omega)]
  rw [Nat.mul_div_cancel_left _ (by omega)]

theorem afterH_at (t : Fin 172) (e : Fin 16) : afterH R (ix2 t e) = 1#1 ↔ D e.val ≤ t.val := by
  have b := h.small e.val e.isLt
  have a : afterH R (ix2 t e) = IntOp.cmpi .sge (BitVec.ofNat 32 t.val) (endsH R (ix1 e)) := by
    unfold afterH
    generalize endsH R = x
    pointwise
  rw [a, endsH_at h, WordCmp.cmpi_sge_ofNat (w := 32) (by omega) (by omega), WordCmp.ofBool_decide_eq_one_iff]

theorem tileH_at (t : Fin 172) : tileH R (ix1 t) = BitVec.ofNat 32 (min (regionOf D t.val) 15) := by
  have c : Host.reduce IntOp.addi (extui 32 (afterH R) natLt_1_32) (constantI S_ 32 0#32) reducesTo_S172x16_S172_d1 h_S_ (ix1 t)
      = BitVec.ofNat 32 (regionOf D t.val) :=
    Routing.reduce_count (n := 172) (m := 16) (by omega) (afterH R) natLt_1_32 reducesTo_S172x16_S172_d1 h_S_ t (fun e => D e ≤ t.val)
      (fun e => afterH_at h t e)
  have l : regionOf D t.val ≤ 16 := Nat.count_le _
  show IntOp.minsi _ (15#32) = _
  rw [c]
  unfold IntOp.minsi
  rw [show (15#32 : BitVec 32) = BitVec.ofNat 32 15 from rfl, Routing.slt_ofNat32 (by omega) (by omega)]
  by_cases hk : regionOf D t.val < 15
  · rw [if_pos (decide_eq_true hk), Nat.min_eq_left (by omega)]
  · rw [if_neg (by simpa using hk), Nat.min_eq_right (by omega)]

theorem usedH_at : usedH R (ix1 (0 : Fin 1)) = BitVec.ofNat 32 (D 15) := by
  have b := h.small 15 (by omega)
  unfold usedH
  have e : extractStridedSlice S1 ![15] R slices_S16_S1_15 (ix1 (0 : Fin 1)) = BitVec.ofNat 32 (512 * D 15) :=
    (congrArg R (funext fun a => Fin.ext (by match a with | ⟨0, _⟩ => rfl))).trans (h.word (15 : Fin 16))
  rw [Routing.pyDiv_ap bcast_S_S1 _ (constantI S_ 32 512#32) (ix1 (0 : Fin 1)) e (b := 512) rfl b (by omega) (by omega)]
  rw [Nat.mul_div_cancel_left _ (by omega)]

omit h

variable {F : FTy → Type} [FloatOps F] (m : (ℓ : Loc nD τ sig) → Buf (Elt F) ℓ)

/-- The ends of the regions, as launched. -/
def endsOf : IVec S16 32 := m (((0 : Dev nD).tc : Thread nD τ).loc main_arg0)

theorem V_tile : V m 0 main_v10 = tileH (endsOf m) := by
  unfold V
  after_reads_simp
  rfl

theorem V_used : V m 0 main_v12 = usedH (endsOf m) := by
  unfold V
  after_reads_simp
  rfl

variable {m}

theorem tile_at (h : Ends (endsOf m) D) (t : Fin 172) : (tabs m 0 (ix1 t) : BitVec 32) = BitVec.ofNat 32 (min (regionOf D t.val) 15) :=
  (congrFun (V_tile m) (ix1 t)).trans (tileH_at h t)

theorem used_at (h : Ends (endsOf m) D) : (tabs m 1 (ix1 (0 : Fin 1)) : BitVec 32) = BitVec.ofNat 32 (D 15) :=
  (congrFun (V_used m) (ix1 (0 : Fin 1))).trans (usedH_at h)

/-- The tables made of ends of regions are in range. -/
theorem good (h : Ends (endsOf m) D) : Good m := by
  have b := h.small 15 (by omega)
  have l := h.last
  refine ⟨fun j => ?_, fun j => ?_⟩
  · have e : (tabs m 0 j : BitVec 32) = BitVec.ofNat 32 (min (regionOf D (j 0).val) 15) :=
      (congrArg (fun i : S172.Idx => (tabs m 0 i : BitVec 32)) (show j = (ix1 (j 0) : S172.Idx) from funext fun a => Fin.ext (by match a with | ⟨0, _⟩ => rfl))).trans (tile_at h (j 0))
    refine (congrArg BitVec.toNat e).trans_lt ?_
    rw [BitVec.toNat_ofNat]
    omega
  · have e : (tabs m 1 j : BitVec 32) = BitVec.ofNat 32 (D 15) :=
      (congrArg (fun i : S1.Idx => (tabs m 1 i : BitVec 32)) (show j = (ix1 (0 : Fin 1) : S1.Idx) from funext fun a => Fin.ext (by
        match a with
        | ⟨0, _⟩ => have := (j 0).isLt; show (j 0).val = 0; exact Nat.lt_one_iff.mp this))).trans (used_at h)
    refine le_of_le_of_eq ?_ (congrArg BitVec.toInt e).symm
    rw [WordCmp.toInt_ofNat_of_lt (by omega)]
    omega

theorem used_eq (h : Ends (endsOf m) D) : usedOf (tabs m 1) = D 15 := by
  have b := h.small 15 (by omega)
  have e : usedOf (tabs m 1) = (tabs m 1 (ix1 (0 : Fin 1)) : BitVec 32).toInt.toNat :=
    congrArg (fun i => (tabs m 1 i : BitVec 32).toInt.toNat) (funext fun a => Fin.ext (by match a with | ⟨0, _⟩ => rfl))
  rw [e, used_at h, WordCmp.toInt_ofNat_of_lt (by omega)]
  rfl

end Cert.Kernel2Ideal.Ex

end

end
-- ==== Proof.ExpRef.lean ====
/-
  The experts' reference at an element: the network of the expert that the row lies in the region of, 0 where it lies in none.
-/
module

public import proofs.«01_k».proof.Proof.Gen.Reference2Ideal.Read
public import proofs.«01_k».proof.Proof.ExpEnds
public import Idealize.ShloMosaic.Lib.WordCmp
public import Idealize.ShloMosaic.Lib.Pointwise

@[expose] public section

set_option maxRecDepth 16384

noncomputable section

namespace Cert.Reference2Ideal.Read

open Idealize.ShloMosaic Idealize.ShloMosaic.TcCoe
open Cert.Reference2Ideal Cert.Reference2Ideal.Gen
open Cert.Ends (Ends regionOf inside_iff used_iff)

/-- A row through the first or the second matrix of an expert. -/
def proj (x : FVec Ideal S88064x1024 .bf16) (w : FVec Ideal S4x16x1024x512 .f32) (e : Fin 16) (r : Fin 88064) (j : Fin 512) : EReal :=
  ∑ k : Fin 1024, x (ix2 r k) * w (ix4 (0 : Fin 4) e k j)

/-- The activation. -/
def act (z : EReal) : EReal := z * Ideal.div 1 (1 + Ideal.exp (-z))

/-- The network of an expert on a row. -/
def net (x : FVec Ideal S88064x1024 .bf16) (wg wu : FVec Ideal S4x16x1024x512 .f32) (wd : FVec Ideal S4x16x512x1024 .f32) (e : Fin 16) (r : Fin 88064) (d : Fin 1024) : EReal :=
  ∑ j : Fin 512, act (proj x wg e r j) * proj x wu e r j * wd (ix4 (0 : Fin 4) e j d)

theorem zero32 : Ideal.ofBits .f32 0x00000000#32 = (0 : EReal) := by simp [Ideal.ofBits, Ideal.ieee]
theorem one32 : Ideal.ofBits .f32 0x3F800000#32 = (1 : EReal) := by
  simp [Ideal.ofBits, Ideal.ieee]
  rw [← EReal.coe_mul]
  norm_num

variable (x0 : (⟨S16, .i32⟩ : BufTy).Contents (Elt Ideal)) (x1 : FVec Ideal S88064x1024 .bf16) (x2 x3 : FVec Ideal S4x16x1024x512 .f32)
  (x4 : FVec Ideal S4x16x512x1024 .f32)

theorem v19_at (e : Fin 16) (r : Fin 88064) (j : Fin 512) : val_main_v19 (F := Ideal) x1 x2 (ix3 e r j) = proj x1 x2 e r j := by
  rw [val_main_v19_apply, val_main_v18_apply]
  refine Finset.sum_congr rfl fun k _ => ?_
  rw [val_main_v17_apply, val_main_v16_apply, val_main_v15_apply, mul_comm]
  refine congrArg₂ (fun i j => x1 i * x2 j)
    (funext fun a => Fin.ext (by match a with | ⟨0, _⟩ => rfl | ⟨1, _⟩ => rfl)) (funext fun a => Fin.ext ?_)
  have he := e.isLt
  have hk := k.isLt
  have hj := j.isLt
  match a with
  | ⟨0, _⟩ => rfl
  | ⟨1, _⟩ => show ((e.val * 1024 + k.val) * 512 + j.val) / 524288 % 16 = e.val; omega
  | ⟨2, _⟩ => show ((e.val * 1024 + k.val) * 512 + j.val) / 512 % 1024 = k.val; omega
  | ⟨3, _⟩ => show ((e.val * 1024 + k.val) * 512 + j.val) % 512 = j.val; omega

theorem v24_at (e : Fin 16) (r : Fin 88064) (j : Fin 512) : val_main_v24 (F := Ideal) x1 x3 (ix3 e r j) = proj x1 x3 e r j := by
  rw [val_main_v24_apply, val_main_v23_apply]
  refine Finset.sum_congr rfl fun k _ => ?_
  rw [val_main_v22_apply, val_main_v21_apply, val_main_v15_apply, mul_comm]
  refine congrArg₂ (fun i j => x1 i * x3 j)
    (funext fun a => Fin.ext (by match a with | ⟨0, _⟩ => rfl | ⟨1, _⟩ => rfl)) (funext fun a => Fin.ext ?_)
  have he := e.isLt
  have hk := k.isLt
  have hj := j.isLt
  match a with
  | ⟨0, _⟩ => rfl
  | ⟨1, _⟩ => show ((e.val * 1024 + k.val) * 512 + j.val) / 524288 % 16 = e.val; omega
  | ⟨2, _⟩ => show ((e.val * 1024 + k.val) * 512 + j.val) / 512 % 1024 = k.val; omega
  | ⟨3, _⟩ => show ((e.val * 1024 + k.val) * 512 + j.val) % 512 = j.val; omega

theorem v20_at (i : S16x88064x512.Idx) : val_main_v20 (F := Ideal) x1 x2 i = act (val_main_v19 (F := Ideal) x1 x2 i) := by
  rw [val_main_v20_apply, val_main_call1_v5_apply, val_main_call1_v4_apply, val_main_call1_cst_0_apply, val_main_call1_v3_apply, val_main_call1_v2_apply,
    val_main_call1_cst_apply, val_main_call1_v1_apply, val_main_call1_v0_apply]
  generalize val_main_v19 (F := Ideal) x1 x2 i = z
  show z * Ideal.div (Ideal.ofBits .f32 0x3F800000#32) (Ideal.ofBits .f32 0x3F800000#32 + Ideal.exp (-z)) = _
  rw [one32]
  rfl

theorem v28_at (e : Fin 16) (r : Fin 88064) (d : Fin 1024) : val_main_v28 (F := Ideal) x1 x2 x3 x4 (ix3 e r d) = net x1 x2 x3 x4 e r d := by
  rw [val_main_v28_apply]
  refine Finset.sum_congr rfl fun j _ => ?_
  have hi : (lidx_main_v28 (ix3 e r d) j : S16x88064x512.Idx) = ix3 e r j := funext fun a => Fin.ext (by match a with | ⟨0, _⟩ => rfl | ⟨1, _⟩ => rfl | ⟨2, _⟩ => rfl)
  rw [val_main_v25_apply, hi, v20_at, v19_at, v24_at, val_main_v27_apply, val_main_v26_apply]
  refine congrArg (fun i => act (proj x1 x2 e r j) * proj x1 x3 e r j * x4 i) (funext fun a => Fin.ext ?_)
  have he := e.isLt
  have hd := d.isLt
  have hj := j.isLt
  match a with
  | ⟨0, _⟩ => rfl
  | ⟨1, _⟩ => show ((e.val * 512 + j.val) * 1024 + d.val) / 524288 % 16 = e.val; omega
  | ⟨2, _⟩ => show ((e.val * 512 + j.val) * 1024 + d.val) / 1024 % 512 = j.val; omega
  | ⟨3, _⟩ => show ((e.val * 512 + j.val) * 1024 + d.val) % 1024 = d.val; omega

/-- The start of a region. -/
theorem v4_at {D : ℕ → ℕ} (h : Ends x0 D) (e : Fin 16) : val_main_v4 (F := Ideal) x0 (ix1 e) = BitVec.ofNat 32 (512 * (if e.val = 0 then 0 else D (e.val - 1))) := by
  have he := e.isLt
  unfold val_main_v4
  rw [concatenate_pair_apply]
  by_cases h0 : e.val = 0
  · refine (dif_pos (show e.val < 1 by omega)).trans ?_
    rw [if_pos h0, val_main_v2_apply, val_main_c_apply]
  · refine (dif_neg (show ¬ e.val < 1 by omega)).trans ?_
    rw [if_neg h0, val_main_v3_apply]
    refine (congrArg x0 (funext fun a => Fin.ext ?_)).trans (h.word (⟨e.val - 1, by omega⟩ : Fin 16))
    match a with
    | ⟨0, _⟩ => rfl

/-- The weight of an expert on a row: 1 in the expert's region, 0 outside it. -/
theorem v32_at {D : ℕ → ℕ} (h : Ends x0 D) (e : Fin 16) (r : Fin 88064) (d : Fin 1024) :
    val_main_v32 (F := Ideal) x0 (ix3 e r d) = if e.val = regionOf D (r.val / 512) then 1 else 0 := by
  have he := e.isLt
  have hr := r.isLt
  rw [val_main_v32_apply, val_main_v31_apply, val_main_v30_apply, val_main_v29_apply, val_main_v14_apply, val_main_v13_apply, val_main_v12_apply, val_main_v8_apply,
    val_main_call0_v0_apply, val_main_call0_v1_apply, val_main_cst_apply, val_main_cst_0_apply, val_main_v11_apply, val_main_v9_apply, val_main_v10_apply, val_main_v1_apply,
    val_main_v7_apply, val_main_v5_apply, val_main_v6_apply, val_main_v1_apply]
  have h1 : (idx_main_v5 (idx_main_v7 (idx_main_v29 (idx_main_v30 (idx_main_v32 (ix3 e r d))))) : S16.Idx) = ix1 e :=
    funext fun a => Fin.ext (by match a with | ⟨0, _⟩ => rfl)
  have h2 : (idx_main_v9 (idx_main_v11 (idx_main_v29 (idx_main_v30 (idx_main_v32 (ix3 e r d))))) : S16.Idx) = ix1 e :=
    funext fun a => Fin.ext (by match a with | ⟨0, _⟩ => rfl)
  rw [h1, h2, v4_at x0 h, h.word e]
  have hs : 512 * (if e.val = 0 then 0 else D (e.val - 1)) < 2 ^ 31 := by
    split
    · omega
    · exact h.small _ (by omega)
  have hb := h.small e.val he
  have ha : IntOp.cmpi .sge (BitVec.ofNat 32 r.val) (BitVec.ofNat 32 (512 * (if e.val = 0 then 0 else D (e.val - 1))))
      = BitVec.ofBool (decide ((if e.val = 0 then 0 else D (e.val - 1)) ≤ r.val / 512)) := by
    rw [WordCmp.cmpi_sge_ofNat (w := 32) (by omega) hs]
    refine congrArg BitVec.ofBool (decide_eq_decide.mpr ?_)
    generalize (if e.val = 0 then 0 else D (e.val - 1)) = z
    omega
  have hc : IntOp.cmpi .slt (BitVec.ofNat 32 r.val) (BitVec.ofNat 32 (512 * D e.val)) = BitVec.ofBool (decide (r.val / 512 < D e.val)) := by
    rw [WordCmp.cmpi_slt_ofNat (w := 32) (by omega) hb]
    exact congrArg BitVec.ofBool (decide_eq_decide.mpr (by omega))
  show Scalar.select (IntOp.andi (IntOp.cmpi .sge (BitVec.ofNat 32 r.val) _) (IntOp.cmpi .slt (BitVec.ofNat 32 r.val) _))
    (Ideal.ofBits .f32 0x3F800000#32) (Ideal.ofBits .f32 0x00000000#32) = _
  rw [ha, hc, WordCmp.andi_ofBool, zero32, one32, ← Bool.decide_and]
  have hi := inside_iff h (r.val / 512) e.val he
  by_cases hp : e.val = regionOf D (r.val / 512)
  · rw [if_pos hp, decide_eq_true (hi.2 hp)]; rfl
  · rw [if_neg hp, decide_eq_false (fun q => hp (hi.1 q))]; rfl

/-- The reference's element. -/
theorem v35_at {D : ℕ → ℕ} (h : Ends x0 D) (r : Fin 88064) (d : Fin 1024) (ex : Fin 16) (hx : regionOf D (r.val / 512) < 16 → ex.val = regionOf D (r.val / 512)) :
    val_main_v35 (F := Ideal) x0 x1 x2 x3 x4 (ix2 r d) = if r.val / 512 < D 15 then net x1 x2 x3 x4 ex r d else 0 := by
  have hr := r.isLt
  rw [val_main_v35_apply, val_main_v34_apply, val_main_cst_1_apply]
  show Ideal.ofBits .f32 0x00000000#32 + _ = _
  rw [zero32, zero_add]
  have hu := used_iff h (r.val / 512)
  have ht : ∀ k : Fin 16, val_main_v33 (F := Ideal) x0 x1 x2 x3 x4 (idx_main_v34 (ix2 r d) k)
      = if k = ex then (if r.val / 512 < D 15 then net x1 x2 x3 x4 k r d else 0) else 0 := fun k => by
    have hk := k.isLt
    have hi : (idx_main_v34 (ix2 r d) k : S16x88064x1024.Idx) = ix3 k r d := funext fun a => Fin.ext (by match a with | ⟨0, _⟩ => rfl | ⟨1, _⟩ => rfl | ⟨2, _⟩ => rfl)
    rw [hi, val_main_v33_apply, v32_at x0 h, v28_at]
    show (_ : EReal) * _ = _
    by_cases h2 : r.val / 512 < D 15
    · have e := hx (hu.2 h2)
      have hq : k.val = regionOf D (r.val / 512) ↔ k = ex := by rw [Fin.ext_iff, e]
      by_cases h1 : k = ex
      · rw [if_pos (hq.2 h1), if_pos h1, if_pos h2, one_mul]
      · rw [if_neg (fun q => h1 (hq.1 q)), if_neg h1, zero_mul]
    · have hn : ¬ k.val = regionOf D (r.val / 512) := fun q => h2 (hu.1 (by omega))
      rw [if_neg hn, if_neg h2, zero_mul, ite_self]
  rw [Finset.sum_congr rfl fun k _ => ht k, Finset.sum_ite_eq' Finset.univ ex, if_pos (Finset.mem_univ _)]

end Cert.Reference2Ideal.Read

end

end
-- ==== Proof.ExpVal.lean ====
/-
  The experts' result array is the reference's.
-/
module

public import proofs.«01_k».proof.Proof.ExpHost
public import proofs.«01_k».proof.Proof.ExpRef
public import Idealize.ShloMosaic.Lib.MatmulPlain
public import Idealize.ShloMosaic.Lib.Pipeline.ValueKit.Geometry
public import Idealize.ShloMosaic.Lib.Pipeline.ValueKit.Point

@[expose] public section

set_option maxRecDepth 16384

noncomputable section

namespace Cert.Kernel2Ideal.Ex

open Idealize.ShloMosaic Idealize.ShloMosaic.TcCoe
open Cert.Kernel2Ideal Cert.Kernel2Ideal.Gen
open Cert.Ends (Ends regionOf)
open Cert.Reference2Ideal.Read (proj act net zero32 one32 v35_at)

theorem dotP : dot_S512x1024_S1024x512_S512x512_1_0_0_1_n_n = DotDims.plain 512 1024 512 := rfl
theorem dotQ : dot_S512x512_S512x1024_S512x1024_1_0_0_1_n_n = DotDims.plain 512 512 1024 := rfl

theorem first_apply (w : Vec Ideal S1x1x1024x512 .f32) (k : Fin 1024) (j : Fin 512) : k0_pay1 (F := Ideal) w (ix2 k j) = w (ix4 0 0 k j) := by
  unfold k0_pay1
  pointwise

theorem second_apply (w : Vec Ideal S1x1x1024x512 .f32) (k : Fin 1024) (j : Fin 512) : k0_pay2 (F := Ideal) w (ix2 k j) = w (ix4 0 0 k j) := by
  unfold k0_pay2
  pointwise

theorem third_apply (w : Vec Ideal S1x1x512x1024 .f32) (j : Fin 512) (d : Fin 1024) : k0_pay3 (F := Ideal) w (ix2 j d) = w (ix4 0 0 j d) := by
  unfold k0_pay3
  pointwise

theorem block_apply (x : Vec Ideal S512x1024 .bf16) (g u : Vec Ideal S1024x512 .bf16) (w : Vec Ideal S512x1024 .bf16) (i : Fin 512) (d : Fin 1024) :
    k0_pay4 (F := Ideal) x g u w (ix2 i d)
      = ∑ j : Fin 512, act (∑ k : Fin 1024, x (ix2 i k) * g (ix2 k j)) * (∑ k : Fin 1024, x (ix2 i k) * u (ix2 k j)) * w (ix2 j d) := by
  unfold k0_pay4 act
  rw [dotP, dotQ, ← one32]
  simp only [← zero_sub (_ : EReal)]
  rw [← zero32]
  pointwise

theorem idle_apply (y : S512x1024.Idx) : k0_pay5 (F := Ideal) y = 0 := by
  show Ideal.ofBits .bf16 0x0000#16 = 0
  simp [Ideal.ofBits, Ideal.ieee]

/-- Tables in range, to have the result's window without a memory. -/
def someTabs : pre0.Contents (Elt Ideal) := fun k => match k with
  | 0 => fun _ => (0#32 : BitVec 32)
  | 1 => fun _ => (1#32 : BitVec 32)

theorem some_fit : Fit (someTabs 0) (someTabs 1) := ⟨fun _ => by show (0#32 : BitVec 32).toNat < 16; decide, fun _ => by show 1 ≤ (1#32 : BitVec 32).toInt; decide⟩

def outWin : Pipeline.Window sig grid0 := (cfg0 (F := Ideal) ⟨someTabs, tables_ok _ some_fit⟩).win 4

variable (m : (ℓ : Loc nD τ sig) → Buf (Elt Ideal) ℓ) (hg : Good m) (c : Dev nD)

theorem outWin_eq : (cfgT m hg).win 4 = outWin := rfl

theorem out_covers : outWin.Covers := by decide +kernel

/-- The result's block of a tile. -/
def outIx (t : Fin grid0.N) : Fin 2 → ℕ := outWin.index t

theorem out_index : ∀ t : Fin grid0.N, outIx t = ![t.val, 0] := by decide +kernel

theorem tiles : ∀ t : Fin grid0.N, t.val < 172 := by decide +kernel

theorem expert_eq (t : Fin (cfgT m hg).N) : expertOf (tabs m 0) (grid0.coords t) = (tabs m 0 (ix1 (⟨t.val, tiles t⟩ : Fin 172)) : BitVec 32).toNat := by
  unfold expertOf
  refine congrArg (fun i => (tabs m 0 i : BitVec 32).toNat) (funext fun a => Fin.ext ?_)
  match a with
  | 0 => exact crd_val t

theorem expert_lt (t : Fin (cfgT m hg).N) : (tabs m 0 (ix1 (⟨t.val, tiles t⟩ : Fin 172)) : BitVec 32).toNat < 16 := hg.expert _

theorem rows_at (t : Fin (cfgT m hg).N) (hu : inUse m t.val) (i : Fin 512) (d : Fin 1024) :
    iblk m hg c 0 t (ix2 i d) = V m c main_arg1 (ix2 (⟨512 * t.val + i.val, by have := tiles t; omega⟩ : Fin 88064) d) := by
  refine congrArg (V m c main_arg1) (funext fun a => Fin.ext ?_)
  show cc0_transform_0 inb_S1_S1_0 numel1_S1 (tabs m) (grid0.coords t) a * _ + 1 * ((ix2 i d : S512x1024.Idx) a).val = _
  rw [map0_eq _ hg.used, crd_val t]
  have hu' : t.val < usedOf (tabs m 1) := hu
  match a with
  | ⟨0, _⟩ => show min t.val (usedOf (tabs m 1) - 1) * 512 + 1 * i.val = 512 * t.val + i.val; omega
  | ⟨1, _⟩ => show 0 * 1024 + 1 * d.val = d.val; omega

theorem gate_at (t : Fin (cfgT m hg).N) (k : Fin 1024) (j : Fin 512) :
    iblk m hg c 1 t (ix4 0 0 k j) = V m c main_arg2 (ix4 (0 : Fin 4) (⟨_, expert_lt m hg t⟩ : Fin 16) k j) := by
  refine congrArg (V m c main_arg2) (funext fun a => Fin.ext ?_)
  show cc0_transform_1 k0_off1_inb numel1_S1 (tabs m) (grid0.coords t) a * _ + 1 * ((ix4 0 0 k j : S1x1x1024x512.Idx) a).val = _
  rw [map1_eq, expert_eq]
  match a with
  | ⟨0, _⟩ => rfl
  | ⟨1, _⟩ => exact (Nat.add_zero _).trans (Nat.mul_one _)
  | ⟨2, _⟩ => show 0 * 1024 + 1 * k.val = k.val; omega
  | ⟨3, _⟩ => show 0 * 512 + 1 * j.val = j.val; omega

theorem up_at (t : Fin (cfgT m hg).N) (k : Fin 1024) (j : Fin 512) :
    iblk m hg c 2 t (ix4 0 0 k j) = V m c main_arg3 (ix4 (0 : Fin 4) (⟨_, expert_lt m hg t⟩ : Fin 16) k j) := by
  refine congrArg (V m c main_arg3) (funext fun a => Fin.ext ?_)
  show cc0_transform_1 k0_off1_inb numel1_S1 (tabs m) (grid0.coords t) a * _ + 1 * ((ix4 0 0 k j : S1x1x1024x512.Idx) a).val = _
  rw [map1_eq, expert_eq]
  match a with
  | ⟨0, _⟩ => rfl
  | ⟨1, _⟩ => exact (Nat.add_zero _).trans (Nat.mul_one _)
  | ⟨2, _⟩ => show 0 * 1024 + 1 * k.val = k.val; omega
  | ⟨3, _⟩ => show 0 * 512 + 1 * j.val = j.val; omega

theorem down_at (t : Fin (cfgT m hg).N) (j : Fin 512) (d : Fin 1024) :
    iblk m hg c 3 t (ix4 0 0 j d) = V m c main_arg4 (ix4 (0 : Fin 4) (⟨_, expert_lt m hg t⟩ : Fin 16) j d) := by
  refine congrArg (V m c main_arg4) (funext fun a => Fin.ext ?_)
  show cc0_transform_1 k0_off1_inb numel1_S1 (tabs m) (grid0.coords t) a * _ + 1 * ((ix4 0 0 j d : S1x1x512x1024.Idx) a).val = _
  rw [map1_eq, expert_eq]
  match a with
  | ⟨0, _⟩ => rfl
  | ⟨1, _⟩ => exact (Nat.add_zero _).trans (Nat.mul_one _)
  | ⟨2, _⟩ => show 0 * 512 + 1 * j.val = j.val; omega
  | ⟨3, _⟩ => show 0 * 1024 + 1 * d.val = d.val; omega

/-- The rows of a tile. -/
def rowsB (t : Fin (cfgT m hg).N) : Vec Ideal S512x1024 .bf16 := iblk m hg c 0 t

/-- What a tile stores, at an element. -/
theorem stored (t : Fin (cfgT m hg).N) (i : Fin 512) (d : Fin 1024) :
    outAt m hg c t (ix2 i d) = if t.val < usedOf (tabs m 1) then
      net (V m c main_arg1) (V m c main_arg2) (V m c main_arg3) (V m c main_arg4) (⟨_, expert_lt m hg t⟩ : Fin 16) (⟨512 * t.val + i.val, by have := tiles t; omega⟩ : Fin 88064) d else 0 := by
  unfold outAt
  by_cases hu : t.val < usedOf (tabs m 1)
  · rw [if_pos hu, if_pos hu]
    refine (block_apply _ _ _ _ i d).trans (Finset.sum_congr rfl fun j _ => ?_)
    have e1 : ∑ k : Fin 1024, rowsB m hg c t (ix2 i k) * k0_pay1 (F := Ideal) (iblk m hg c 1 t) (ix2 k j)
        = proj (V m c main_arg1) (V m c main_arg2) (⟨_, expert_lt m hg t⟩ : Fin 16) (⟨512 * t.val + i.val, by have := tiles t; omega⟩ : Fin 88064) j :=
      Finset.sum_congr rfl fun k _ => congrArg₂ (fun a b : EReal => a * b) (rows_at m hg c t hu i k) ((first_apply _ k j).trans (gate_at m hg c t k j))
    have e2 : ∑ k : Fin 1024, rowsB m hg c t (ix2 i k) * k0_pay2 (F := Ideal) (iblk m hg c 2 t) (ix2 k j)
        = proj (V m c main_arg1) (V m c main_arg3) (⟨_, expert_lt m hg t⟩ : Fin 16) (⟨512 * t.val + i.val, by have := tiles t; omega⟩ : Fin 88064) j :=
      Finset.sum_congr rfl fun k _ => congrArg₂ (fun a b : EReal => a * b) (rows_at m hg c t hu i k) ((second_apply _ k j).trans (up_at m hg c t k j))
    exact congrArg₂ (fun a b : EReal => a * b) (congrArg₂ (fun a b : EReal => act a * b) e1 e2) ((third_apply _ j d).trans (down_at m hg c t j d))
  · rw [if_neg hu, if_neg hu]
    exact idle_apply _

/-- The reference at an element of a tile. -/
theorem wanted {D : ℕ → ℕ} (hD : Ends (endsOf m) D) (t : Fin (cfgT m hg).N) (i : Fin 512) (d : Fin 1024) :
    Cert.Reference2Ideal.Read.val_main_v35 (F := Ideal) (V m c main_arg0) (V m c main_arg1) (V m c main_arg2) (V m c main_arg3) (V m c main_arg4)
      (ix2 (⟨512 * t.val + i.val, by have := tiles t; omega⟩ : Fin 88064) d) = outAt m hg c t (ix2 i d) := by
  have ht := tiles t
  obtain rfl : c = 0 := Subsingleton.elim _ _
  have hq : (512 * t.val + i.val) / 512 = t.val := by omega
  rw [stored, used_eq hD]
  refine (v35_at _ _ _ _ _ (D := D) (by rw [V_main_arg0]; exact hD) (⟨512 * t.val + i.val, by omega⟩ : Fin 88064) d (⟨_, expert_lt m hg t⟩ : Fin 16) ?_).trans ?_
  · intro hk
    have hk' : regionOf D t.val < 16 := by rw [← hq]; exact hk
    show (tabs m 0 (ix1 (⟨t.val, tiles t⟩ : Fin 172)) : BitVec 32).toNat = regionOf D ((512 * t.val + i.val) / 512)
    rw [hq, tile_at hD, BitVec.toNat_ofNat]
    show min (regionOf D t.val) 15 % 2 ^ 32 = regionOf D t.val
    omega
  · exact if_congr (by show (512 * t.val + i.val) / 512 < _ ↔ _; rw [hq]) rfl rfl

theorem out_emb (t : Fin grid0.N) (i : Fin 512) (d : Fin 1024) :
    (outWin.blk t).view.emb (ix2 i d : S512x1024.Idx) = (ix2 (⟨512 * t.val + i.val, by have := tiles t; omega⟩ : Fin 88064) d : S88064x1024.Idx) := by
  refine funext fun a => Fin.ext ?_
  refine (show ((outWin.blk t).view.emb (ix2 i d : S512x1024.Idx) a).val = outIx t a * _ + 1 * ((ix2 i d : S512x1024.Idx) a).val from rfl).trans ?_
  rw [out_index t]
  match a with
  | ⟨0, _⟩ => show t.val * 512 + 1 * i.val = 512 * t.val + i.val; omega
  | ⟨1, _⟩ => show 0 * 1024 + 1 * d.val = d.val; omega

theorem split (y : S512x1024.Idx) : ∃ (i : Fin 512) (d : Fin 1024), y = ix2 i d := ⟨y 0, y 1, funext fun a => by
  match a with
  | ⟨0, _⟩ => rfl
  | ⟨1, _⟩ => rfl⟩

/-- The result array is the reference's. -/
theorem result {D : ℕ → ℕ} (hD : Ends (endsOf m) D) : (runDat m hg 0 c).arrAt 4 (cfgT m hg).N
    = Cert.Reference2Ideal.Read.val_main_v35 (F := Ideal) (V m c main_arg0) (V m c main_arg1) (V m c main_arg2) (V m c main_arg3) (V m c main_arg4) := by
  refine (runDat m hg 0 c).arrAt_eq_of_covers 4 _ out_covers fun t hf y => ?_
  obtain ⟨i, d, rfl⟩ := split y
  blk_simp
  rw [left4]
  exact (wanted m hg c hD t i d).symm.trans (congrArg (Cert.Reference2Ideal.Read.val_main_v35 (F := Ideal) (V m c main_arg0) (V m c main_arg1) (V m c main_arg2) (V m c main_arg3) (V m c main_arg4)) (out_emb t i d).symm)

end Cert.Kernel2Ideal.Ex

end

end
-- ==== Proof.Twin2.lean ====
/-
  The experts' claims: the precondition gives ends of regions, and so tables in range; the program and its idealized form have the same text, so the program's frame
  is the run already proved; and the result array is the reference's.
-/
module

public import proofs.«01_k».proof.Proof.ExpVal
public import proofs.«01_k».proof.Proof.Gen.Kernel2.Launch
public import proofs.«01_k».proof.Proof.Gen.Pre_regions
public import proofs.«01_k».proof.Proof.Gen.Pre_finite
public import proofs.«01_k».proof.Defs
public import Idealize.ShloMosaic.Lib.Quiescent
public import Idealize.ShloMosaic.Lib.Claim

@[expose] public section

set_option maxRecDepth 16384

noncomputable section

namespace Cert.Twin2

open Idealize.ShloMosaic Idealize.ShloMosaic.TcCoe Idealize.SL Idealize.SL.Sem
open Cert.Kernel2Ideal.Ex (Good V)
open Cert.Ends (Ends ends_of)

/-- The ends that the precondition admits are ends of regions. -/
theorem ends_pre (R : Cert.Ends.S16.Idx → BitVec 32) (h0 : ∀ j : Cert.Ends.S16.Idx, IntOp.cmpi .sge (R j) 0#32 = 1#1)
    (h1 : ∀ i : Fin 15, IntOp.cmpi .sle (R (ix1 i.castSucc)) (R (ix1 i.succ)) = 1#1)
    (h2 : ∀ j : Cert.Ends.S16.Idx, IntOp.cmpi .eq (IntOp.andi (R j) 511#32) 0#32 = 1#1)
    (h3 : IntOp.cmpi .sge (R (ix1 (15 : Fin 16))) 1#32 = 1#1) : ∃ D, Ends R D :=
  ⟨_, ends_of R (fun e => h0 (ix1 e)) h1 (fun e => h2 (ix1 e)) h3⟩

variable {F : FTy → Type} [FloatOps F]

set_option maxHeartbeats 2000000 in
theorem body_same : Cert.Kernel2.defs₀ (F := F) = Cert.Kernel2Ideal.defs₀ (F := F) := by
  funext κ l a
  match κ with
  | .tc =>
    match l, a with
    | 0, (_, _) => rfl
  | .scScalar _ => rfl
  | .scVector _ _ => rfl

set_option maxHeartbeats 2000000 in
theorem defs_same : Cert.Kernel2.defs (F := F) = Cert.Kernel2Ideal.defs (F := F) :=
  congrArg (Pipeline.defs (Cert.Kernel2Ideal.pcfgs (F := F))) body_same

set_option maxHeartbeats 4000000 in
/-- The program's frame. -/
theorem frame_program : Cert.quiescent_Kernel2 (hKernel2 := Cert.Kernel2.Gen.facts) (hPre_regions := Cert.Pre_regions.Gen.facts) := fun m g pre => by
  obtain ⟨D, hD⟩ := ends_pre (Cert.Kernel2Ideal.Ex.endsOf (F := Bits) m) (fun j => congrFun (pre 0).1 j)
    (fun i => (congrArg₂ (IntOp.cmpi .sle) (congrArg (Cert.Kernel2Ideal.Ex.endsOf (F := Bits) m) (funext fun a => Fin.ext (by match a with | ⟨0, _⟩ => exact (Nat.zero_add _).symm)))
      (congrArg (Cert.Kernel2Ideal.Ex.endsOf (F := Bits) m) (funext fun a => Fin.ext (by match a with | ⟨0, _⟩ => exact (Nat.add_comm _ _))))).trans (congrFun (pre 0).2.1 (ix1 i)))
    (fun j => congrFun (pre 0).2.2.1 j)
    ((congrArg (IntOp.cmpi .sge · 1#32) (congrArg (Cert.Kernel2Ideal.Ex.endsOf (F := Bits) m) (funext fun a => Fin.ext (by match a with | ⟨0, _⟩ => rfl)))).trans (congrFun (pre 0).2.2.2 (ix1 (0 : Fin 1))))
  have hg : Good (F := Bits) m := Cert.Kernel2Ideal.Ex.good hD
  have h := Cert.Kernel2Ideal.Ex.frame_holds (F := Bits) m g hg
  rw [← defs_same] at h
  exact h

theorem ends_of_pre (m : (ℓ : Loc Cert.Kernel2Ideal.nD Cert.Kernel2Ideal.τ Cert.Kernel2Ideal.sig) → Buf (Elt Ideal) ℓ)
    (pre : Cert.Pre_Kernel2Ideal (hPre_regions := Cert.Pre_regions.Gen.facts) m) : ∃ D, Ends (Cert.Kernel2Ideal.Ex.endsOf (F := Ideal) m) D :=
  ends_pre (Cert.Kernel2Ideal.Ex.endsOf (F := Ideal) m) (fun j => congrFun (pre 0).1 j)
    (fun i => (congrArg₂ (IntOp.cmpi .sle) (congrArg (Cert.Kernel2Ideal.Ex.endsOf (F := Ideal) m) (funext fun a => Fin.ext (by match a with | ⟨0, _⟩ => exact (Nat.zero_add _).symm)))
      (congrArg (Cert.Kernel2Ideal.Ex.endsOf (F := Ideal) m) (funext fun a => Fin.ext (by match a with | ⟨0, _⟩ => exact (Nat.add_comm _ _))))).trans (congrFun (pre 0).2.1 (ix1 i)))
    (fun j => congrFun (pre 0).2.2.1 j)
    ((congrArg (IntOp.cmpi .sge · 1#32) (congrArg (Cert.Kernel2Ideal.Ex.endsOf (F := Ideal) m) (funext fun a => Fin.ext (by match a with | ⟨0, _⟩ => rfl)))).trans (congrFun (pre 0).2.2.2 (ix1 (0 : Fin 1))))

/-- The kernel's frame, over the extended reals. -/
theorem frame_kernel : Cert.quiescent_Kernel2Ideal (hKernel2Ideal := Cert.Kernel2Ideal.Gen.facts) (hPre_regions := Cert.Pre_regions.Gen.facts) := fun m g pre =>
  (ends_of_pre m pre).elim fun _ hD => Cert.Kernel2Ideal.Ex.frame_holds (F := Ideal) m g (Cert.Kernel2Ideal.Ex.good hD)

/-- The reference's frame: it declares no semaphore. -/
theorem frame_reference : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- The experts' result array is the reference's, over the extended reals, for ends of regions. -/
theorem same_values : Cert.algebraic_Kernel2Ideal_Reference2Ideal (hKernel2Ideal := Cert.Kernel2Ideal.Gen.facts) (hReference2Ideal := Cert.Reference2Ideal.Gen.facts)
    (hPre_regions := Cert.Pre_regions.Gen.facts) := fun m g m' g' hpre hargs => by
  obtain ⟨D, hD⟩ := ends_of_pre m hpre
  have hg := Cert.Kernel2Ideal.Ex.good hD
  refine ⟨fun c => Cert.Reference2Ideal.Read.val_main_v35 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)), ?_,
    (θ_run _ _ _).mono (fun r h c => ⟨(h c).1.trans (Cert.Reference2Ideal.Read.val_main_v35_eq (F := Ideal) _ _ _ _ _), (h c).2⟩) (Cert.Reference2Ideal.Value.run (F := Ideal) m' g')⟩
  refine (θ_run _ _ _).mono (fun r h c => ⟨(h.1 c).trans ?_, h.2.1 c⟩)
    (θ_run_and (Cert.Kernel2Ideal.Ex.run_result (F := Ideal) m g hg) (Cert.Kernel2Ideal.Ex.frame_holds (F := Ideal) m g hg))
  obtain ⟨a0, a1, a2, a3, a4⟩ := hargs c
  refine (Cert.Kernel2Ideal.Ex.result m hg c hD).trans ?_
  show Cert.Reference2Ideal.Read.val_main_v35 (F := Ideal) (V m c Cert.Kernel2Ideal.main_arg0) (V m c Cert.Kernel2Ideal.main_arg1) (V m c Cert.Kernel2Ideal.main_arg2)
      (V m c Cert.Kernel2Ideal.main_arg3) (V m c Cert.Kernel2Ideal.main_arg4)
    = Cert.Reference2Ideal.Read.val_main_v35 (F := Ideal) _ _ _ _ _
  rw [Cert.Kernel2Ideal.Ex.V_main_arg0, Cert.Kernel2Ideal.Ex.V_main_arg1, Cert.Kernel2Ideal.Ex.V_main_arg2, Cert.Kernel2Ideal.Ex.V_main_arg3, Cert.Kernel2Ideal.Ex.V_main_arg4,
    a0, a1, a2, a3, a4]

end Cert.Twin2

end

end
-- ==== Proof.ModVal.lean ====
/-
  The modulation call: its result array is the reference's.
-/
module

public import proofs.«01_k».proof.Proof.Gen.Kernel3Ideal.Value
public import proofs.«01_k».proof.Proof.Gen.Reference3Ideal.Read
public import Idealize.ShloMosaic.Lib.Pointwise
public import Idealize.ShloMosaic.Lib.MatmulPlain
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Kernel3Ideal.Mod

open Idealize.ShloMosaic Idealize.ShloMosaic.TcCoe
open Cert.Kernel3Ideal Cert.Kernel3Ideal.Gen
open Cert.Reference3Ideal.Read

theorem zero32 : Ideal.ofBits .f32 0x00000000#32 = (0 : EReal) := by simp [Ideal.ofBits, Ideal.ieee]
theorem one32 : Ideal.ofBits .f32 0x3F800000#32 = (1 : EReal) := by
  simp [Ideal.ofBits, Ideal.ieee]
  rw [← EReal.coe_mul]
  norm_num

/-- The activation. -/
def act (z : EReal) : EReal := z * Ideal.div 1 (1 + Ideal.exp (-z))

theorem dotP : dot_S8x1024_S1024x1024_S8x1024_1_0_0_1_n_n = DotDims.plain 8 1024 1024 := rfl

/-- What a point of the grid stores, at an element. -/
theorem block_apply (x : Vec Ideal S8x1024 .f32) (w : Vec Ideal S1x1024x1024 .f32) (a : Vec Ideal S1x1x1x1024 .f32) (b : Fin 8) (e : Fin 1024) :
    k0_pay1 (F := Ideal) x w a (ix4 0 0 b e) = (∑ k : Fin 1024, act (x (ix2 b k)) * w (ix3 0 k e)) + a (ix4 0 0 0 e) := by
  unfold k0_pay1 act
  rw [dotP, ← one32]
  simp only [← zero_sub (_ : EReal)]
  rw [← zero32]
  pointwise

theorem act_at (x : Vec Ideal S8x1024 .f32) (i : S8x1024.Idx) : val_main_v0 (F := Ideal) x i = act (x i) := by
  show x i * Ideal.div (Ideal.ofBits .f32 0x3F800000#32) (Ideal.ofBits .f32 0x3F800000#32 + Ideal.exp (-(x i))) = _
  rw [one32]
  rfl

/-- The reference at an element. -/
theorem wanted (x : Vec Ideal S8x1024 .f32) (w : Vec Ideal S4x1024x6144 .f32) (a : Vec Ideal S4x6144 .f32) (l : Fin 4) (j : Fin 6) (b : Fin 8) (e : Fin 1024) :
    val_main_v7 (F := Ideal) x w a (ix4 l j b e)
      = (∑ k : Fin 1024, act (x (ix2 b k)) * w (ix3 l k (⟨j.val * 1024 + e.val, by omega⟩ : Fin 6144))) + a (ix2 l (⟨j.val * 1024 + e.val, by omega⟩ : Fin 6144)) := by
  have hi : idx_main_v6 (idx_main_v7 (ix4 l j b e)) = (ix3 l b (⟨j.val * 1024 + e.val, by omega⟩ : Fin 6144) : Cert.Reference3Ideal.S4x8x6144.Idx) := by
    refine funext fun q => Fin.ext ?_
    match q with
    | ⟨0, _⟩ => show (((l.val * 8 + b.val) * 6 + j.val) * 1024 + e.val) / 49152 = l.val; omega
    | ⟨1, _⟩ => show (((l.val * 8 + b.val) * 6 + j.val) * 1024 + e.val) / 6144 % 8 = b.val; omega
    | ⟨2, _⟩ => show (((l.val * 8 + b.val) * 6 + j.val) * 1024 + e.val) % 6144 = j.val * 1024 + e.val; omega
  rw [val_main_v7_apply, val_main_v6_apply, hi, val_main_v5_apply, val_main_v2_apply, val_main_v1_apply, val_main_v4_apply, val_main_v3_apply]
  refine congrArg₂ (fun p q : EReal => p + q) (Finset.sum_congr rfl fun k _ => ?_) (congrArg a (funext fun q => Fin.ext ?_))
  · rw [act_at]
    refine (mul_comm _ _).trans (congrArg₂ (fun p q : EReal => p * q) (congrArg (fun i => act (x i)) (funext fun q => Fin.ext ?_)) (congrArg w (funext fun q => Fin.ext ?_)))
    · match q with
      | ⟨0, _⟩ => rfl
      | ⟨1, _⟩ => rfl
    · match q with
      | ⟨0, _⟩ => rfl
      | ⟨1, _⟩ => rfl
      | ⟨2, _⟩ => rfl
  · match q with
    | ⟨0, _⟩ => rfl
    | ⟨1, _⟩ => rfl

variable (m : (ℓ : Loc nD τ sig) → Buf (Elt Ideal) ℓ) (c : Dev nD)

theorem V_bias : V m c main_v0 = (shapeCast S4x6x1x1024 (m ((c : Thread nD τ).loc main_arg2)) shapeCasts_S4x6144_S4x6x1x1024 : Vec Ideal S4x6x1x1024 .f32) := by
  after_reads_simp
  rfl

theorem bias_at (a : Vec Ideal S4x6144 .f32) (l : Fin 4) (j : Fin 6) (e : Fin 1024) :
    (shapeCast S4x6x1x1024 a shapeCasts_S4x6144_S4x6x1x1024 : Vec Ideal S4x6x1x1024 .f32) (ix4 l j 0 e) = a (ix2 l (⟨j.val * 1024 + e.val, by omega⟩ : Fin 6144)) := by
  pointwise

abbrev outWin : Pipeline.Window sig grid0 := win0_3

theorem out_covers : outWin.Covers := by decide +kernel

/-- The layer and the part of a point. -/
def layerOf (t : Fin grid0.N) : Fin 4 := grid0.coords t 0
def partOf (t : Fin grid0.N) : Fin 6 := grid0.coords t 1

def ix_w (t : Fin grid0.N) : Fin 3 → ℕ := cc0_transform_1 (grid0.coords t)
def ix_b (t : Fin grid0.N) : Fin 4 → ℕ := cc0_transform_2 (grid0.coords t)
def ix_o (t : Fin grid0.N) : Fin 4 → ℕ := cc0_transform_3 (grid0.coords t)

theorem at_w : ∀ t : Fin grid0.N, ix_w t = ![(layerOf t).val, 0, (partOf t).val] := by decide +kernel
theorem at_b : ∀ t : Fin grid0.N, ix_b t = ![(layerOf t).val, (partOf t).val, 0, 0] := by decide +kernel
theorem at_o : ∀ t : Fin grid0.N, ix_o t = ![(layerOf t).val, (partOf t).val, 0, 0] := by decide +kernel

theorem read_x (t : Fin cfg0.N) (b : Fin 8) (k : Fin 1024) : iblk m c 0 t (ix2 b k) = m ((c : Thread nD τ).loc main_arg0) (ix2 b k) := by
  refine Eq.trans ?_ (congrFun (V_main_arg0 m c) (ix2 b k))
  refine congrArg (V m c main_arg0) (funext fun a => Fin.ext ?_)
  match a with
  | ⟨0, _⟩ => show 0 * 8 + 1 * b.val = b.val; omega
  | ⟨1, _⟩ => show 0 * 1024 + 1 * k.val = k.val; omega

theorem read_w (t : Fin cfg0.N) (k e : Fin 1024) :
    iblk m c 1 t (ix3 0 k e) = m ((c : Thread nD τ).loc main_arg1) (ix3 (layerOf t) k (⟨(partOf t).val * 1024 + e.val, by have := (partOf t).isLt; omega⟩ : Fin 6144)) := by
  refine Eq.trans ?_ (congrFun (V_main_arg1 m c) _)
  refine congrArg (V m c main_arg1) (funext fun a => Fin.ext ?_)
  show ix_w t a * _ + 1 * ((ix3 0 k e : S1x1024x1024.Idx) a).val = _
  rw [at_w]
  match a with
  | ⟨0, _⟩ => exact (Nat.add_zero _).trans (Nat.mul_one _)
  | ⟨1, _⟩ => show 0 * 1024 + 1 * k.val = k.val; omega
  | ⟨2, _⟩ => show (partOf t).val * 1024 + 1 * e.val = (partOf t).val * 1024 + e.val; omega

theorem read_b (t : Fin cfg0.N) (e : Fin 1024) :
    iblk m c 2 t (ix4 0 0 0 e) = m ((c : Thread nD τ).loc main_arg2) (ix2 (layerOf t) (⟨(partOf t).val * 1024 + e.val, by have := (partOf t).isLt; omega⟩ : Fin 6144)) := by
  refine Eq.trans ?_ ((congrFun (V_bias m c) (ix4 (layerOf t) (partOf t) 0 e)).trans (bias_at _ _ _ _))
  refine congrArg (V m c main_v0) (funext fun a => Fin.ext ?_)
  show ix_b t a * _ + 1 * ((ix4 0 0 0 e : S1x1x1x1024.Idx) a).val = _
  rw [at_b]
  match a with
  | ⟨0, _⟩ => exact (Nat.add_zero _).trans (Nat.mul_one _)
  | ⟨1, _⟩ => exact (Nat.add_zero _).trans (Nat.mul_one _)
  | ⟨2, _⟩ => rfl
  | ⟨3, _⟩ => show 0 * 1024 + 1 * e.val = e.val; omega

theorem out_emb (t : Fin grid0.N) (b : Fin 8) (e : Fin 1024) :
    (outWin.blk t).view.emb (ix4 0 0 b e : S1x1x8x1024.Idx) = (ix4 (layerOf t) (partOf t) b e : S4x6x8x1024.Idx) := by
  refine funext fun a => Fin.ext ?_
  refine (show ((outWin.blk t).view.emb (ix4 0 0 b e : S1x1x8x1024.Idx) a).val = ix_o t a * _ + 1 * ((ix4 0 0 b e : S1x1x8x1024.Idx) a).val from rfl).trans ?_
  rw [at_o]
  match a with
  | ⟨0, _⟩ => exact (Nat.add_zero _).trans (Nat.mul_one _)
  | ⟨1, _⟩ => exact (Nat.add_zero _).trans (Nat.mul_one _)
  | ⟨2, _⟩ => show 0 * 8 + 1 * b.val = b.val; omega
  | ⟨3, _⟩ => show 0 * 1024 + 1 * e.val = e.val; omega

theorem split (y : S1x1x8x1024.Idx) : ∃ (b : Fin 8) (e : Fin 1024), y = ix4 0 0 b e := ⟨y 2, y 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

theorem out_eq (x : Vec Ideal S8x1024 .f32) (w : Vec Ideal S1x1024x1024 .f32) (a : Vec Ideal S1x1x1x1024 .f32) :
    out0_3 (F := Ideal) x w a = k0_pay1 x w a := by
  unfold out0_3
  rw [View.canon_unit_zero (by decide), View.ld_unit_zero (by decide), View.ld_unit_zero (by decide), View.ld_unit_zero (by decide)]

/-- The result array is the reference's. -/
theorem result : (dats m 0 c).arrAt 3 cfg0.N
    = val_main_v7 (F := Ideal) (m ((c : Thread nD τ).loc main_arg0)) (m ((c : Thread nD τ).loc main_arg1)) (m ((c : Thread nD τ).loc main_arg2)) := by
  refine (dats m 0 c).arrAt_eq_of_covers 3 _ out_covers fun t hf y => ?_
  obtain ⟨b, e, rfl⟩ := split y
  blk_simp
  rw [after0_3, out_eq]
  refine Eq.trans ?_ (congrArg (val_main_v7 (F := Ideal) (m ((c : Thread nD τ).loc main_arg0)) (m ((c : Thread nD τ).loc main_arg1)) (m ((c : Thread nD τ).loc main_arg2))) (out_emb t b e).symm)
  rw [wanted]
  refine (block_apply _ _ _ b e).trans ?_
  exact congrArg₂ (fun p q : EReal => p + q)
    (Finset.sum_congr rfl fun k _ => congrArg₂ (fun p q : EReal => act p * q) (read_x m c t b k) (read_w m c t k e)) (read_b m c t e)

end Cert.Kernel3Ideal.Mod

end

end
-- ==== Proof.ProjPoint.lean ====
/-
  The input projection: what a block of rows stores, element by element.
-/
module

public import proofs.«01_k».proof.Proof.Gen.Kernel4Ideal.Frame
public import Idealize.ShloMosaic.Lib.Pointwise
public import Idealize.ShloMosaic.Lib.MatmulPlain
public import Idealize.ShloMosaic.Lib.Pipeline.ValueKit.Geometry
public import Idealize.ShloMosaic.Lib.Pipeline.ValueKit.Point

@[expose] public section

set_option maxRecDepth 16384

noncomputable section

namespace Cert.Kernel4Ideal.Proj

open Idealize.ShloMosaic Idealize.ShloMosaic.TcCoe
open Cert.Kernel4Ideal Cert.Kernel4Ideal.Gen

theorem zero32 : Ideal.ofBits .f32 0x00000000#32 = (0 : EReal) := by simp [Ideal.ofBits, Ideal.ieee]
theorem one32 : Ideal.ofBits .f32 0x3F800000#32 = (1 : EReal) := by
  simp [Ideal.ofBits, Ideal.ieee]
  rw [← EReal.coe_mul]
  norm_num

theorem dotA : dot_S1024x1024_S1024x1024_S1024x1024_1_0_0_1_n_n = DotDims.plain 1024 1024 1024 := rfl
theorem dotB : dot_S1024x1024_S1024x768_S1024x768_1_0_0_1_n_n = DotDims.plain 1024 1024 768 := rfl
theorem dotC : dot_S1024x1024_S1024x256_S1024x256_1_0_0_1_n_n = DotDims.plain 1024 1024 256 := rfl
theorem dotD : dot_S1024x1024_S1024x128_S1024x128_1_0_0_1_n_n = DotDims.plain 1024 1024 128 := rfl

/-- The modulated rows. -/
theorem rows_at (v0 : Vec Ideal S1x6x1024 .f32) (v2 : Vec Ideal S1024x1024 .f32) (r k : Fin 1024) :
    k0_pay4 (F := Ideal) v0 v2 (ix2 r k) = v2 (ix2 r k) * (1 + v0 (ix3 0 1 k)) + v0 (ix3 0 0 k) := by
  unfold k0_pay4
  rw [← one32]
  pointwise

theorem pay5_at (v0 : Vec Ideal S1x6x1024 .f32) (v2 : Vec Ideal S1024x1024 .f32) (w : Vec Ideal S1024x1024 .bf16) (r e : Fin 1024) :
    k0_pay5 (F := Ideal) v0 v2 w (ix2 r e) = ∑ k : Fin 1024, k0_pay4 (F := Ideal) v0 v2 (ix2 r k) * w (ix2 k e) := by
  unfold k0_pay5
  generalize k0_pay4 (F := Ideal) v0 v2 = u
  rw [dotA]
  pointwise

theorem pay6_at (v0 : Vec Ideal S1x6x1024 .f32) (v2 : Vec Ideal S1024x1024 .f32) (w : Vec Ideal S1024x768 .bf16) (r : Fin 1024) (e : Fin 768) :
    k0_pay6 (F := Ideal) v0 v2 w (ix2 r e) = ∑ k : Fin 1024, k0_pay4 (F := Ideal) v0 v2 (ix2 r k) * w (ix2 k e) := by
  unfold k0_pay6
  generalize k0_pay4 (F := Ideal) v0 v2 = u
  rw [dotB]
  pointwise

theorem pay2_at (u : Vec Ideal S1024x1024 .bf16) (w : Vec Ideal S1024x1024 .bf16) (r e : Fin 1024) :
    k0_pay2 (F := Ideal) u w (ix2 r e) = ∑ k : Fin 1024, u (ix2 r k) * w (ix2 k e) := by
  unfold k0_pay2
  rw [dotA]
  pointwise

theorem pay3_at (u : Vec Ideal S1024x1024 .bf16) (w : Vec Ideal S1024x128 .bf16) (r : Fin 1024) (e : Fin 128) :
    k0_pay3 (F := Ideal) u w (ix2 r e) = ∑ k : Fin 1024, u (ix2 r k) * w (ix2 k e) := by
  unfold k0_pay3
  rw [dotD]
  pointwise

/-- One group of columns of the projection. -/
def prj (u : FVec Ideal S1024x1024 .bf16) (w : FVec Ideal S1024x256 .bf16) : FVec Ideal S1024x256 .f32 :=
  matmul dot_S1024x1024_S1024x256_S1024x256_1_0_0_1_n_n none u (shapeCast S1024x256 w shapeCasts_S1024x256_S1024x256) (constant S1024x256 .f32 0x00000000#32)

theorem prj_at (u : FVec Ideal S1024x1024 .bf16) (w : FVec Ideal S1024x256 .bf16) (r : Fin 1024) (e : Fin 256) :
    prj u w (ix2 r e) = ∑ k : Fin 1024, u (ix2 r k) * w (ix2 k e) := by
  unfold prj
  rw [dotC]
  pointwise

/-- The rows that follow each head's values: a row of ones, then rows of zeros. -/
def rim : FVec Ideal S64x1024 .f32 :=
  select (cmpi .eq (iota .tc S64x1024 32 [0] iota_S64x1024_d0_w32) (broadcast S64x1024 0#32))
    (broadcast S64x1024 (Scalar.ofBits (F := Ideal) .f32 0x3F800000#32)) (broadcast S64x1024 (Scalar.ofBits (F := Ideal) .f32 0x00000000#32))

theorem rim_bit : ∀ d : Fin 64, IntOp.cmpi .eq (BitVec.ofNat 32 d.val) 0#32 = if d.val = 0 then 1#1 else 0#1 := by decide +kernel

theorem rim_at (d : Fin 64) (r : Fin 1024) : rim (ix2 d r) = if d.val = 0 then (1 : EReal) else 0 := by
  refine (show rim (ix2 d r) = Scalar.select (IntOp.cmpi .eq (BitVec.ofNat 32 d.val) 0#32) (Ideal.ofBits .f32 0x3F800000#32) (Ideal.ofBits .f32 0x00000000#32) from ?_).trans ?_
  · unfold rim
    pointwise
  · rw [rim_bit, one32, zero32]
    split <;> rfl

/-- A head's values, standing across. -/
def across (u : FVec Ideal S1024x1024 .bf16) (w : FVec Ideal S1024x256 .bf16) : FVec Ideal S256x1024 .f32 :=
  transpose S256x1024 [1, 0] (prj u w) transposes_S1024x256_p1_0_S256x1024

theorem across_at (u : FVec Ideal S1024x1024 .bf16) (w : FVec Ideal S1024x256 .bf16) (j : Fin 256) (r : Fin 1024) :
    across u w (ix2 j r) = prj u w (ix2 r j) := by
  unfold across
  generalize prj u w = p
  pointwise

/-- The values' rows with the rows that follow them. -/
def stacked (v : FVec Ideal S256x1024 .f32) (q : FVec Ideal S64x1024 .f32) : FVec Ideal S512x1024 .f32 :=
  concatenate S512x1024 0 [⟨S64x1024, extractStridedSlice S64x1024 ![0, 0] v slices_S256x1024_o0_0_S64x1024⟩, ⟨S64x1024, q⟩,
    ⟨S64x1024, extractStridedSlice S64x1024 ![64, 0] v slices_S256x1024_o64_0_S64x1024⟩, ⟨S64x1024, q⟩,
    ⟨S64x1024, extractStridedSlice S64x1024 ![128, 0] v slices_S256x1024_o128_0_S64x1024⟩, ⟨S64x1024, q⟩,
    ⟨S64x1024, extractStridedSlice S64x1024 ![192, 0] v slices_S256x1024_o192_0_S64x1024⟩, ⟨S64x1024, q⟩]
    concatenates_S64x1024_S64x1024_S64x1024_S64x1024_S64x1024_S64x1024_S64x1024_S64x1024_S512x1024_d0

theorem pay1_eq (u : FVec Ideal S1024x1024 .bf16) (w : FVec Ideal S1024x256 .bf16) (i : S512x1024.Idx) :
    k0_pay1 (F := Ideal) u w i = stacked (across u w) rim i := rfl

theorem stacked_rim (v : FVec Ideal S256x1024 .f32) (q : FVec Ideal S64x1024 .f32) (h : Fin 4) (d : Fin 64) (r : Fin 1024) :
    stacked v q (ix2 (⟨128 * h.val + 64 + d.val, by omega⟩ : Fin 512) r) = q (ix2 d r) := by
  unfold stacked
  match h with
  | ⟨0, _⟩ =>
    refine concatenate_apply_piece (t := S512x1024) 0 _ _ _ 1 ?_ S64x1024 q ?_ rfl 64 ?_ (ix2 d r) ?_ ?_
    · simp
    · rfl
    · rfl
    · intro b hb
      match b with
      | ⟨0, _⟩ => exact absurd rfl hb
      | ⟨1, _⟩ => rfl
    · show 64 + d.val = 128 * 0 + 64 + d.val; omega
  | ⟨1, _⟩ =>
    refine concatenate_apply_piece (t := S512x1024) 0 _ _ _ 3 ?_ S64x1024 q ?_ rfl 192 ?_ (ix2 d r) ?_ ?_
    · simp
    · rfl
    · rfl
    · intro b hb
      match b with
      | ⟨0, _⟩ => exact absurd rfl hb
      | ⟨1, _⟩ => rfl
    · show 192 + d.val = 128 * 1 + 64 + d.val; omega
  | ⟨2, _⟩ =>
    refine concatenate_apply_piece (t := S512x1024) 0 _ _ _ 5 ?_ S64x1024 q ?_ rfl 320 ?_ (ix2 d r) ?_ ?_
    · simp
    · rfl
    · rfl
    · intro b hb
      match b with
      | ⟨0, _⟩ => exact absurd rfl hb
      | ⟨1, _⟩ => rfl
    · show 320 + d.val = 128 * 2 + 64 + d.val; omega
  | ⟨3, _⟩ =>
    refine concatenate_apply_piece (t := S512x1024) 0 _ _ _ 7 ?_ S64x1024 q ?_ rfl 448 ?_ (ix2 d r) ?_ ?_
    · simp
    · rfl
    · rfl
    · intro b hb
      match b with
      | ⟨0, _⟩ => exact absurd rfl hb
      | ⟨1, _⟩ => rfl
    · show 448 + d.val = 128 * 3 + 64 + d.val; omega

theorem stacked_val (v : FVec Ideal S256x1024 .f32) (q : FVec Ideal S64x1024 .f32) (h : Fin 4) (d : Fin 64) (r : Fin 1024) :
    stacked v q (ix2 (⟨128 * h.val + d.val, by omega⟩ : Fin 512) r) = v (ix2 (⟨64 * h.val + d.val, by omega⟩ : Fin 256) r) := by
  unfold stacked
  match h with
  | ⟨0, _⟩ =>
    refine (concatenate_apply_piece (t := S512x1024) 0 _ _ _ 0 ?_ S64x1024 (extractStridedSlice S64x1024 ![0, 0] v slices_S256x1024_o0_0_S64x1024) ?_ rfl 0 ?_ (ix2 d r) ?_ ?_).trans (congrArg v (funext fun a => Fin.ext ?_))
    · simp
    · rfl
    · rfl
    · intro b hb
      match b with
      | ⟨0, _⟩ => exact absurd rfl hb
      | ⟨1, _⟩ => rfl
    · show 0 + d.val = 128 * 0 + d.val; omega
    · match a with
      | ⟨0, _⟩ => show 0 + d.val = 64 * 0 + d.val; omega
      | ⟨1, _⟩ => show 0 + r.val = r.val; omega
  | ⟨1, _⟩ =>
    refine (concatenate_apply_piece (t := S512x1024) 0 _ _ _ 2 ?_ S64x1024 (extractStridedSlice S64x1024 ![64, 0] v slices_S256x1024_o64_0_S64x1024) ?_ rfl 128 ?_ (ix2 d r) ?_ ?_).trans (congrArg v (funext fun a => Fin.ext ?_))
    · simp
    · rfl
    · rfl
    · intro b hb
      match b with
      | ⟨0, _⟩ => exact absurd rfl hb
      | ⟨1, _⟩ => rfl
    · show 128 + d.val = 128 * 1 + d.val; omega
    · match a with
      | ⟨0, _⟩ => show 64 + d.val = 64 * 1 + d.val; omega
      | ⟨1, _⟩ => show 0 + r.val = r.val; omega
  | ⟨2, _⟩ =>
    refine (concatenate_apply_piece (t := S512x1024) 0 _ _ _ 4 ?_ S64x1024 (extractStridedSlice S64x1024 ![128, 0] v slices_S256x1024_o128_0_S64x1024) ?_ rfl 256 ?_ (ix2 d r) ?_ ?_).trans (congrArg v (funext fun a => Fin.ext ?_))
    · simp
    · rfl
    · rfl
    · intro b hb
      match b with
      | ⟨0, _⟩ => exact absurd rfl hb
      | ⟨1, _⟩ => rfl
    · show 256 + d.val = 128 * 2 + d.val; omega
    · match a with
      | ⟨0, _⟩ => show 128 + d.val = 64 * 2 + d.val; omega
      | ⟨1, _⟩ => show 0 + r.val = r.val; omega
  | ⟨3, _⟩ =>
    refine (concatenate_apply_piece (t := S512x1024) 0 _ _ _ 6 ?_ S64x1024 (extractStridedSlice S64x1024 ![192, 0] v slices_S256x1024_o192_0_S64x1024) ?_ rfl 384 ?_ (ix2 d r) ?_ ?_).trans (congrArg v (funext fun a => Fin.ext ?_))
    · simp
    · rfl
    · rfl
    · intro b hb
      match b with
      | ⟨0, _⟩ => exact absurd rfl hb
      | ⟨1, _⟩ => rfl
    · show 384 + d.val = 128 * 3 + d.val; omega
    · match a with
      | ⟨0, _⟩ => show 192 + d.val = 64 * 3 + d.val; omega
      | ⟨1, _⟩ => show 0 + r.val = r.val; omega

/-- The lanes of the first four of each eight. -/
def lanes : IVec S1x256 1 := k0_pay11 (Scalar.select (Scalar.cmpi .eq 8#32 0#32) 1#32 8#32) k0_pay7 k0_pay8 k0_pay9 k0_pay10

theorem lanes_at : ∀ e : Fin 256, lanes (ix2 0 e) = if e.val % 8 < 4 then 1#1 else 0#1 := by decide +kernel

/-- The partner of a column. -/
def swapped (p : FVec Ideal S1024x256 .f32) (r : Fin 1024) (e : Fin 256) : EReal :=
  if e.val % 8 < 4 then p (ix2 r (⟨(e.val + 4) % 256, by omega⟩ : Fin 256)) else p (ix2 r (⟨(e.val + 252) % 256, by omega⟩ : Fin 256))

/-- The rotation of a group of columns, as the program writes it. -/
def turned (p cs sn : FVec Ideal S1024x256 .f32) (L : IVec S1x256 1) : FVec Ideal S1024x256 .f32 :=
  addf (mulf p (shapeCast S1024x256 cs shapeCasts_S1024x256_S1024x256))
    (mulf (select (broadcastTo S1024x256 (shapeCast S1x256 L shapeCasts_S1x256_S1x256) broadcasts_S1x256_S1024x256)
      (dynamicRotate 1 252#32 none p rotates_S1024x256_d1) (dynamicRotate 1 4#32 none p rotates_S1024x256_d1))
      (shapeCast S1024x256 sn shapeCasts_S1024x256_S1024x256))

theorem up_at (p : FVec Ideal S1024x256 .f32) (r : Fin 1024) (e : Fin 256) :
    dynamicRotate 1 252#32 none p rotates_S1024x256_d1 (ix2 r e) = p (ix2 r (⟨(e.val + 4) % 256, by omega⟩ : Fin 256)) := by
  refine congrArg p (funext fun a => Fin.ext ?_)
  match a with
  | ⟨0, _⟩ => rfl
  | ⟨1, _⟩ => show (e.val + 256 - (252 + 0) % 256) % 256 = (e.val + 4) % 256; omega

theorem down_at (p : FVec Ideal S1024x256 .f32) (r : Fin 1024) (e : Fin 256) :
    dynamicRotate 1 4#32 none p rotates_S1024x256_d1 (ix2 r e) = p (ix2 r (⟨(e.val + 252) % 256, by omega⟩ : Fin 256)) := by
  refine congrArg p (funext fun a => Fin.ext ?_)
  match a with
  | ⟨0, _⟩ => rfl
  | ⟨1, _⟩ => show (e.val + 256 - (4 + 0) % 256) % 256 = (e.val + 252) % 256; omega

theorem mask_at (L : IVec S1x256 1) (r : Fin 1024) (e : Fin 256) :
    broadcastTo S1024x256 (shapeCast S1x256 L shapeCasts_S1x256_S1x256) broadcasts_S1x256_S1024x256 (ix2 r e) = L (ix2 0 e) := by
  pointwise

theorem same_at (p : FVec Ideal S1024x256 .f32) (r : Fin 1024) (e : Fin 256) :
    shapeCast S1024x256 p shapeCasts_S1024x256_S1024x256 (ix2 r e) = p (ix2 r e) := by
  pointwise

theorem turned_at (p cs sn : FVec Ideal S1024x256 .f32) (r : Fin 1024) (e : Fin 256) :
    turned p cs sn lanes (ix2 r e) = p (ix2 r e) * cs (ix2 r e) + swapped p r e * sn (ix2 r e) := by
  refine (show turned p cs sn lanes (ix2 r e) = p (ix2 r e) * shapeCast S1024x256 cs shapeCasts_S1024x256_S1024x256 (ix2 r e)
    + Scalar.select (broadcastTo S1024x256 (shapeCast S1x256 lanes shapeCasts_S1x256_S1x256) broadcasts_S1x256_S1024x256 (ix2 r e))
        (dynamicRotate 1 252#32 none p rotates_S1024x256_d1 (ix2 r e)) (dynamicRotate 1 4#32 none p rotates_S1024x256_d1 (ix2 r e))
      * shapeCast S1024x256 sn shapeCasts_S1024x256_S1024x256 (ix2 r e) from rfl).trans ?_
  rw [mask_at, same_at, same_at, up_at, down_at, lanes_at]
  unfold swapped
  split <;> rfl

theorem pay15_eq (u : FVec Ideal S1024x1024 .bf16) (cs sn : FVec Ideal S1024x256 .f32) (w : FVec Ideal S1024x256 .bf16) (i : S1024x256.Idx) :
    k0_pay15 (F := Ideal) u (Scalar.select (Scalar.cmpi .eq 8#32 0#32) 1#32 8#32) k0_pay7 k0_pay8 k0_pay9 k0_pay10 cs sn w i = turned (prj u w) cs sn lanes i := rfl

theorem pay14_eq (u : FVec Ideal S1024x1024 .bf16) (cs sn : FVec Ideal S1024x256 .f32) (w : FVec Ideal S1024x256 .bf16) (i : S1024x256.Idx) :
    k0_pay14 (F := Ideal) u (Scalar.select (Scalar.cmpi .eq 8#32 0#32) 1#32 8#32) k0_pay7 k0_pay8 k0_pay9 k0_pay10 cs sn w i
      = turned (prj u w) cs sn lanes i * Ideal.ofBits .f32 0x3E8293EE#32 := rfl

end Cert.Kernel4Ideal.Proj

end

end
-- ==== Proof.ProjWanted.lean ====
/-
  The input projection: the reference, element by element.
-/
module

public import proofs.«01_k».proof.Proof.Gen.Reference4Ideal.Read
public import Idealize.ShloMosaic.Lib.Pointwise
public import Idealize.ShloMosaic.Lib.Pipeline.Value

@[expose] public section

set_option maxRecDepth 16384

noncomputable section

namespace Cert.Reference4Ideal.Proj

open Idealize.ShloMosaic Idealize.ShloMosaic.TcCoe
open Cert.Reference4Ideal Cert.Reference4Ideal.Read

theorem zero32 : Ideal.ofBits .f32 0x00000000#32 = (0 : EReal) := by simp [Ideal.ofBits, Ideal.ieee]
theorem one32 : Ideal.ofBits .f32 0x3F800000#32 = (1 : EReal) := by
  simp [Ideal.ofBits, Ideal.ieee]
  rw [← EReal.coe_mul]
  norm_num

/-- A modulated row. -/
def row (x0 : Vec Ideal S8x4096x1024 .f32) (x1 : Vec Ideal S8x6x1024 .f32) (b : Fin 8) (p : Fin 4096) (k : Fin 1024) : EReal :=
  x0 (ix3 b p k) * (1 + x1 (ix3 b 1 k)) + x1 (ix3 b 0 k)

/-- A column of the projection, at a row. -/
def z (x0 : Vec Ideal S8x4096x1024 .f32) (x1 : Vec Ideal S8x6x1024 .f32) (x3 : Vec Ideal S1024x3608 .f32) (n : Fin 32768) (j : Fin 3608) : EReal :=
  ∑ k : Fin 1024, row x0 x1 (⟨n.val / 4096, by omega⟩ : Fin 8) (⟨n.val % 4096, by omega⟩ : Fin 4096) k * x3 (ix2 k j)

theorem v11_at (x0 : Vec Ideal S8x4096x1024 .f32) (x1 : Vec Ideal S8x6x1024 .f32) (b : Fin 8) (p : Fin 4096) (k : Fin 1024) :
    val_main_v11 (F := Ideal) x0 x1 (ix3 b p k) = row x0 x1 b p k := by
  rw [val_main_v11_apply, val_main_v6_apply, val_main_v5_apply, val_main_v4_apply, val_main_v3_apply, val_main_v2_apply, val_main_v1_apply,
    val_main_v0_apply, val_main_v10_apply, val_main_v9_apply, val_main_v8_apply, val_main_v7_apply]
  unfold row
  rw [← one32]
  refine congrArg₂ (fun p q : EReal => p + q) (congrArg₂ (fun p q : EReal => p * q) (congrArg x0 (funext fun a => Fin.ext ?_))
    (congrArg₂ (fun p q : EReal => p + q) rfl (congrArg x1 (funext fun a => Fin.ext ?_)))) (congrArg x1 (funext fun a => Fin.ext ?_))
  · match a with
    | ⟨0, _⟩ => rfl
    | ⟨1, _⟩ => rfl
    | ⟨2, _⟩ => rfl
  · match a with
    | ⟨0, _⟩ => show (b.val * 1024 + k.val) / 1024 = b.val; omega
    | ⟨1, _⟩ => rfl
    | ⟨2, _⟩ => show (b.val * 1024 + k.val) % 1024 = k.val; omega
  · match a with
    | ⟨0, _⟩ => show (b.val * 1024 + k.val) / 1024 = b.val; omega
    | ⟨1, _⟩ => rfl
    | ⟨2, _⟩ => show (b.val * 1024 + k.val) % 1024 = k.val; omega

theorem v13_at (x0 : Vec Ideal S8x4096x1024 .f32) (x1 : Vec Ideal S8x6x1024 .f32) (x3 : Vec Ideal S1024x3608 .f32) (n : Fin 32768) (j : Fin 3608) :
    val_main_v13 (F := Ideal) x0 x1 x3 (ix2 n j) = z x0 x1 x3 n j := by
  have hi : idx_main_v13 (ix2 n j) = (ix3 (⟨n.val / 4096, by omega⟩ : Fin 8) (⟨n.val % 4096, by omega⟩ : Fin 4096) j : S8x4096x3608.Idx) := by
    refine funext fun a => Fin.ext ?_
    match a with
    | ⟨0, _⟩ => show (n.val * 3608 + j.val) / 14778368 = n.val / 4096; omega
    | ⟨1, _⟩ => show (n.val * 3608 + j.val) / 3608 % 4096 = n.val % 4096; omega
    | ⟨2, _⟩ => show (n.val * 3608 + j.val) % 3608 = j.val; omega
  rw [val_main_v13_apply, hi, val_main_v12_apply]
  unfold z
  refine Finset.sum_congr rfl fun k _ => ?_
  refine congrArg₂ (fun p q : EReal => p * q) ((congrArg (val_main_v11 (F := Ideal) x0 x1) (funext fun a => Fin.ext ?_)).trans (v11_at x0 x1 _ _ k)) (congrArg x3 (funext fun a => Fin.ext ?_))
  · match a with
    | ⟨0, _⟩ => rfl
    | ⟨1, _⟩ => rfl
    | ⟨2, _⟩ => rfl
  · match a with
    | ⟨0, _⟩ => rfl
    | ⟨1, _⟩ => rfl

theorem v14_at (x0 : Vec Ideal S8x4096x1024 .f32) (x1 : Vec Ideal S8x6x1024 .f32) (x3 : Vec Ideal S1024x3608 .f32) (n : Fin 32768) (e : Fin 1024) :
    val_main_v14 (F := Ideal) x0 x1 x3 (ix2 n e) = z x0 x1 x3 n (⟨e.val, by omega⟩ : Fin 3608) := by
  rw [val_main_v14_apply]
  refine (congrArg (val_main_v13 (F := Ideal) x0 x1 x3) (funext fun a => Fin.ext ?_)).trans (v13_at x0 x1 x3 n _)
  match a with
  | ⟨0, _⟩ => rfl
  | ⟨1, _⟩ => rfl

theorem v15_at (x0 : Vec Ideal S8x4096x1024 .f32) (x1 : Vec Ideal S8x6x1024 .f32) (x3 : Vec Ideal S1024x3608 .f32) (n : Fin 32768) (e : Fin 8) :
    val_main_v15 (F := Ideal) x0 x1 x3 (ix2 n e) = z x0 x1 x3 n (⟨1024 + e.val, by omega⟩ : Fin 3608) := by
  rw [val_main_v15_apply]
  refine (congrArg (val_main_v13 (F := Ideal) x0 x1 x3) (funext fun a => Fin.ext ?_)).trans (v13_at x0 x1 x3 n _)
  match a with
  | ⟨0, _⟩ => rfl
  | ⟨1, _⟩ => rfl

theorem v16_at (x0 : Vec Ideal S8x4096x1024 .f32) (x1 : Vec Ideal S8x6x1024 .f32) (x3 : Vec Ideal S1024x3608 .f32) (n : Fin 32768) (e : Fin 768) :
    val_main_v16 (F := Ideal) x0 x1 x3 (ix2 n e) = z x0 x1 x3 n (⟨1032 + e.val, by omega⟩ : Fin 3608) := by
  rw [val_main_v16_apply]
  refine (congrArg (val_main_v13 (F := Ideal) x0 x1 x3) (funext fun a => Fin.ext ?_)).trans (v13_at x0 x1 x3 n _)
  match a with
  | ⟨0, _⟩ => rfl
  | ⟨1, _⟩ => rfl

theorem v17_at (x0 : Vec Ideal S8x4096x1024 .f32) (x1 : Vec Ideal S8x6x1024 .f32) (x3 : Vec Ideal S1024x3608 .f32) (n : Fin 32768) (e : Fin 256) :
    val_main_v17 (F := Ideal) x0 x1 x3 (ix2 n e) = z x0 x1 x3 n (⟨1800 + e.val, by omega⟩ : Fin 3608) := by
  rw [val_main_v17_apply]
  refine (congrArg (val_main_v13 (F := Ideal) x0 x1 x3) (funext fun a => Fin.ext ?_)).trans (v13_at x0 x1 x3 n _)
  match a with
  | ⟨0, _⟩ => rfl
  | ⟨1, _⟩ => rfl

theorem v18_at (x0 : Vec Ideal S8x4096x1024 .f32) (x1 : Vec Ideal S8x6x1024 .f32) (x3 : Vec Ideal S1024x3608 .f32) (n : Fin 32768) (e : Fin 256) :
    val_main_v18 (F := Ideal) x0 x1 x3 (ix2 n e) = z x0 x1 x3 n (⟨2056 + e.val, by omega⟩ : Fin 3608) := by
  rw [val_main_v18_apply]
  refine (congrArg (val_main_v13 (F := Ideal) x0 x1 x3) (funext fun a => Fin.ext ?_)).trans (v13_at x0 x1 x3 n _)
  match a with
  | ⟨0, _⟩ => rfl
  | ⟨1, _⟩ => rfl

theorem v19_at (x0 : Vec Ideal S8x4096x1024 .f32) (x1 : Vec Ideal S8x6x1024 .f32) (x3 : Vec Ideal S1024x3608 .f32) (n : Fin 32768) (e : Fin 256) :
    val_main_v19 (F := Ideal) x0 x1 x3 (ix2 n e) = z x0 x1 x3 n (⟨2312 + e.val, by omega⟩ : Fin 3608) := by
  rw [val_main_v19_apply]
  refine (congrArg (val_main_v13 (F := Ideal) x0 x1 x3) (funext fun a => Fin.ext ?_)).trans (v13_at x0 x1 x3 n _)
  match a with
  | ⟨0, _⟩ => rfl
  | ⟨1, _⟩ => rfl

theorem v20_at (x0 : Vec Ideal S8x4096x1024 .f32) (x1 : Vec Ideal S8x6x1024 .f32) (x3 : Vec Ideal S1024x3608 .f32) (n : Fin 32768) (e : Fin 1024) :
    val_main_v20 (F := Ideal) x0 x1 x3 (ix2 n e) = z x0 x1 x3 n (⟨2568 + e.val, by omega⟩ : Fin 3608) := by
  rw [val_main_v20_apply]
  refine (congrArg (val_main_v13 (F := Ideal) x0 x1 x3) (funext fun a => Fin.ext ?_)).trans (v13_at x0 x1 x3 n _)
  match a with
  | ⟨0, _⟩ => rfl
  | ⟨1, _⟩ => rfl

theorem v21_at (x0 : Vec Ideal S8x4096x1024 .f32) (x1 : Vec Ideal S8x6x1024 .f32) (x3 : Vec Ideal S1024x3608 .f32) (n : Fin 32768) (e : Fin 16) :
    val_main_v21 (F := Ideal) x0 x1 x3 (ix2 n e) = z x0 x1 x3 n (⟨3592 + e.val, by omega⟩ : Fin 3608) := by
  rw [val_main_v21_apply]
  refine (congrArg (val_main_v13 (F := Ideal) x0 x1 x3) (funext fun a => Fin.ext ?_)).trans (v13_at x0 x1 x3 n _)
  match a with
  | ⟨0, _⟩ => rfl
  | ⟨1, _⟩ => rfl

theorem heads_a (a b : FVec Ideal S32768x8x4 .f32) (c : FVec Ideal S32768x8x24 .f32) (H : Shape.Concatenates [S32768x8x4, S32768x8x4, S32768x8x24] S32768x8x32 2)
    (n : Fin 32768) (h : Fin 8) (d : Fin 4) :
    concatenate S32768x8x32 2 [⟨S32768x8x4, a⟩, ⟨S32768x8x4, b⟩, ⟨S32768x8x24, c⟩] H (ix3 n h (⟨d.val, by omega⟩ : Fin 32)) = a (ix3 n h d) := by
  refine concatenate_apply_piece (t := S32768x8x32) 2 _ _ _ 0 ?_ S32768x8x4 a ?_ rfl 0 ?_ (ix3 n h d) ?_ ?_
  · simp
  · rfl
  · rfl
  · intro b hb
    match b with
    | ⟨0, _⟩ => rfl
    | ⟨1, _⟩ => rfl
    | ⟨2, _⟩ => exact absurd rfl hb
  · exact Nat.zero_add _

theorem heads_b (a b : FVec Ideal S32768x8x4 .f32) (c : FVec Ideal S32768x8x24 .f32) (H : Shape.Concatenates [S32768x8x4, S32768x8x4, S32768x8x24] S32768x8x32 2)
    (n : Fin 32768) (h : Fin 8) (d : Fin 4) :
    concatenate S32768x8x32 2 [⟨S32768x8x4, a⟩, ⟨S32768x8x4, b⟩, ⟨S32768x8x24, c⟩] H (ix3 n h (⟨4 + d.val, by omega⟩ : Fin 32)) = b (ix3 n h d) := by
  refine concatenate_apply_piece (t := S32768x8x32) 2 _ _ _ 1 ?_ S32768x8x4 b ?_ rfl 4 ?_ (ix3 n h d) ?_ ?_
  · simp
  · rfl
  · rfl
  · intro b hb
    match b with
    | ⟨0, _⟩ => rfl
    | ⟨1, _⟩ => rfl
    | ⟨2, _⟩ => exact absurd rfl hb
  · rfl

theorem heads_c (a b : FVec Ideal S32768x8x4 .f32) (c : FVec Ideal S32768x8x24 .f32) (H : Shape.Concatenates [S32768x8x4, S32768x8x4, S32768x8x24] S32768x8x32 2)
    (n : Fin 32768) (h : Fin 8) (d : Fin 24) :
    concatenate S32768x8x32 2 [⟨S32768x8x4, a⟩, ⟨S32768x8x4, b⟩, ⟨S32768x8x24, c⟩] H (ix3 n h (⟨8 + d.val, by omega⟩ : Fin 32)) = c (ix3 n h d) := by
  refine concatenate_apply_piece (t := S32768x8x32) 2 _ _ _ 2 ?_ S32768x8x24 c ?_ rfl 8 ?_ (ix3 n h d) ?_ ?_
  · simp
  · rfl
  · rfl
  · intro b hb
    match b with
    | ⟨0, _⟩ => rfl
    | ⟨1, _⟩ => rfl
    | ⟨2, _⟩ => exact absurd rfl hb
  · rfl

theorem tall_a (a : FVec Ideal S4x64x32768 .f32) (b : FVec Ideal S4x1x32768 .f32) (c : FVec Ideal S4x63x32768 .f32) (H : Shape.Concatenates [S4x64x32768, S4x1x32768, S4x63x32768] S4x128x32768 1)
    (h : Fin 4) (d : Fin 64) (n : Fin 32768) :
    concatenate S4x128x32768 1 [⟨S4x64x32768, a⟩, ⟨S4x1x32768, b⟩, ⟨S4x63x32768, c⟩] H (ix3 h (⟨d.val, by omega⟩ : Fin 128) n) = a (ix3 h d n) := by
  refine concatenate_apply_piece (t := S4x128x32768) 1 _ _ _ 0 ?_ S4x64x32768 a ?_ rfl 0 ?_ (ix3 h d n) ?_ ?_
  · simp
  · rfl
  · rfl
  · intro b hb
    match b with
    | ⟨0, _⟩ => rfl
    | ⟨1, _⟩ => exact absurd rfl hb
    | ⟨2, _⟩ => rfl
  · exact Nat.zero_add _

theorem tall_b (a : FVec Ideal S4x64x32768 .f32) (b : FVec Ideal S4x1x32768 .f32) (c : FVec Ideal S4x63x32768 .f32) (H : Shape.Concatenates [S4x64x32768, S4x1x32768, S4x63x32768] S4x128x32768 1)
    (h : Fin 4) (d : Fin 1) (n : Fin 32768) :
    concatenate S4x128x32768 1 [⟨S4x64x32768, a⟩, ⟨S4x1x32768, b⟩, ⟨S4x63x32768, c⟩] H (ix3 h (⟨64 + d.val, by omega⟩ : Fin 128) n) = b (ix3 h d n) := by
  refine concatenate_apply_piece (t := S4x128x32768) 1 _ _ _ 1 ?_ S4x1x32768 b ?_ rfl 64 ?_ (ix3 h d n) ?_ ?_
  · simp
  · rfl
  · rfl
  · intro b hb
    match b with
    | ⟨0, _⟩ => rfl
    | ⟨1, _⟩ => exact absurd rfl hb
    | ⟨2, _⟩ => rfl
  · rfl

theorem tall_c (a : FVec Ideal S4x64x32768 .f32) (b : FVec Ideal S4x1x32768 .f32) (c : FVec Ideal S4x63x32768 .f32) (H : Shape.Concatenates [S4x64x32768, S4x1x32768, S4x63x32768] S4x128x32768 1)
    (h : Fin 4) (d : Fin 63) (n : Fin 32768) :
    concatenate S4x128x32768 1 [⟨S4x64x32768, a⟩, ⟨S4x1x32768, b⟩, ⟨S4x63x32768, c⟩] H (ix3 h (⟨65 + d.val, by omega⟩ : Fin 128) n) = c (ix3 h d n) := by
  refine concatenate_apply_piece (t := S4x128x32768) 1 _ _ _ 2 ?_ S4x63x32768 c ?_ rfl 65 ?_ (ix3 h d n) ?_ ?_
  · simp
  · rfl
  · rfl
  · intro b hb
    match b with
    | ⟨0, _⟩ => rfl
    | ⟨1, _⟩ => exact absurd rfl hb
    | ⟨2, _⟩ => rfl
  · rfl

theorem small_a (a : FVec Ideal S32768x8 .f32) (b : FVec Ideal S32768x16 .f32) (c : FVec Ideal S32768x104 .f32) (H : Shape.Concatenates [S32768x8, S32768x16, S32768x104] S32768x128 1)
    (n : Fin 32768) (d : Fin 8) :
    concatenate S32768x128 1 [⟨S32768x8, a⟩, ⟨S32768x16, b⟩, ⟨S32768x104, c⟩] H (ix2 n (⟨d.val, by omega⟩ : Fin 128)) = a (ix2 n d) := by
  refine concatenate_apply_piece (t := S32768x128) 1 _ _ _ 0 ?_ S32768x8 a ?_ rfl 0 ?_ (ix2 n d) ?_ ?_
  · simp
  · rfl
  · rfl
  · intro b hb
    match b with
    | ⟨0, _⟩ => rfl
    | ⟨1, _⟩ => exact absurd rfl hb
  · exact Nat.zero_add _

theorem small_b (a : FVec Ideal S32768x8 .f32) (b : FVec Ideal S32768x16 .f32) (c : FVec Ideal S32768x104 .f32) (H : Shape.Concatenates [S32768x8, S32768x16, S32768x104] S32768x128 1)
    (n : Fin 32768) (d : Fin 16) :
    concatenate S32768x128 1 [⟨S32768x8, a⟩, ⟨S32768x16, b⟩, ⟨S32768x104, c⟩] H (ix2 n (⟨8 + d.val, by omega⟩ : Fin 128)) = b (ix2 n d) := by
  refine concatenate_apply_piece (t := S32768x128) 1 _ _ _ 1 ?_ S32768x16 b ?_ rfl 8 ?_ (ix2 n d) ?_ ?_
  · simp
  · rfl
  · rfl
  · intro b hb
    match b with
    | ⟨0, _⟩ => rfl
    | ⟨1, _⟩ => exact absurd rfl hb
  · rfl

theorem small_c (a : FVec Ideal S32768x8 .f32) (b : FVec Ideal S32768x16 .f32) (c : FVec Ideal S32768x104 .f32) (H : Shape.Concatenates [S32768x8, S32768x16, S32768x104] S32768x128 1)
    (n : Fin 32768) (d : Fin 104) :
    concatenate S32768x128 1 [⟨S32768x8, a⟩, ⟨S32768x16, b⟩, ⟨S32768x104, c⟩] H (ix2 n (⟨24 + d.val, by omega⟩ : Fin 128)) = c (ix2 n d) := by
  refine concatenate_apply_piece (t := S32768x128) 1 _ _ _ 2 ?_ S32768x104 c ?_ rfl 24 ?_ (ix2 n d) ?_ ?_
  · simp
  · rfl
  · rfl
  · intro b hb
    match b with
    | ⟨0, _⟩ => rfl
    | ⟨1, _⟩ => exact absurd rfl hb
  · rfl

theorem m_at (x0 : Vec Ideal S8x4096x1024 .f32) (x1 : Vec Ideal S8x6x1024 .f32) (x3 : Vec Ideal S1024x3608 .f32) (n : Fin 32768) (e : Fin 1024) : val_main_v48 (F := Ideal) x0 x1 x3 (ix2 n e) = z x0 x1 x3 n (⟨e.val, by omega⟩ : Fin 3608) :=
  v14_at x0 x1 x3 n e
theorem c_at (x0 : Vec Ideal S8x4096x1024 .f32) (x1 : Vec Ideal S8x6x1024 .f32) (x3 : Vec Ideal S1024x3608 .f32) (n : Fin 32768) (e : Fin 768) : val_main_v49 (F := Ideal) x0 x1 x3 (ix2 n e) = z x0 x1 x3 n (⟨1032 + e.val, by omega⟩ : Fin 3608) :=
  v16_at x0 x1 x3 n e
theorem g_at (x0 : Vec Ideal S8x4096x1024 .f32) (x1 : Vec Ideal S8x6x1024 .f32) (x3 : Vec Ideal S1024x3608 .f32) (n : Fin 32768) (e : Fin 1024) : val_main_v87 (F := Ideal) x0 x1 x3 (ix2 n e) = z x0 x1 x3 n (⟨2568 + e.val, by omega⟩ : Fin 3608) :=
  v20_at x0 x1 x3 n e

theorem s_at_a (x0 : Vec Ideal S8x4096x1024 .f32) (x1 : Vec Ideal S8x6x1024 .f32) (x3 : Vec Ideal S1024x3608 .f32) (n : Fin 32768) (e : Fin 8) : val_main_v47 (F := Ideal) x0 x1 x3 (ix2 n (⟨e.val, by omega⟩ : Fin 128)) = z x0 x1 x3 n (⟨1024 + e.val, by omega⟩ : Fin 3608) :=
  (small_a _ _ _ _ n e).trans (v15_at x0 x1 x3 n e)
theorem s_at_b (x0 : Vec Ideal S8x4096x1024 .f32) (x1 : Vec Ideal S8x6x1024 .f32) (x3 : Vec Ideal S1024x3608 .f32) (n : Fin 32768) (e : Fin 16) : val_main_v47 (F := Ideal) x0 x1 x3 (ix2 n (⟨8 + e.val, by omega⟩ : Fin 128)) = z x0 x1 x3 n (⟨3592 + e.val, by omega⟩ : Fin 3608) :=
  (small_b _ _ _ _ n e).trans (v21_at x0 x1 x3 n e)
theorem s_at_c (x0 : Vec Ideal S8x4096x1024 .f32) (x1 : Vec Ideal S8x6x1024 .f32) (x3 : Vec Ideal S1024x3608 .f32) (n : Fin 32768) (e : Fin 104) : val_main_v47 (F := Ideal) x0 x1 x3 (ix2 n (⟨24 + e.val, by omega⟩ : Fin 128)) = (0 : EReal) :=
  (small_c _ _ _ _ n e).trans ((val_main_v46_apply (F := Ideal) _).trans zero32)

theorem v45_at (x0 : Vec Ideal S8x4096x1024 .f32) (x1 : Vec Ideal S8x6x1024 .f32) (x3 : Vec Ideal S1024x3608 .f32) (h : Fin 4) (d : Fin 128) (n : Fin 32768) :
    val_main_v86 (F := Ideal) x0 x1 x3 (ix2 (⟨128 * h.val + d.val, by omega⟩ : Fin 512) n) = val_main_v44 (F := Ideal) x0 x1 x3 (ix3 h d n) := by
  refine (val_main_v45_apply (F := Ideal) x0 x1 x3 _).trans (congrArg (val_main_v44 (F := Ideal) x0 x1 x3) (funext fun a => Fin.ext ?_))
  match a with
  | ⟨0, _⟩ => show ((128 * h.val + d.val) * 32768 + n.val) / 4194304 = h.val; omega
  | ⟨1, _⟩ => show ((128 * h.val + d.val) * 32768 + n.val) / 32768 % 128 = d.val; omega
  | ⟨2, _⟩ => show ((128 * h.val + d.val) * 32768 + n.val) % 32768 = n.val; omega

theorem v_at_a (x0 : Vec Ideal S8x4096x1024 .f32) (x1 : Vec Ideal S8x6x1024 .f32) (x3 : Vec Ideal S1024x3608 .f32) (h : Fin 4) (d : Fin 64) (n : Fin 32768) :
    val_main_v86 (F := Ideal) x0 x1 x3 (ix2 (⟨128 * h.val + d.val, by omega⟩ : Fin 512) n) = z x0 x1 x3 n (⟨2312 + (64 * h.val + d.val), by omega⟩ : Fin 3608) := by
  refine (v45_at x0 x1 x3 h (⟨d.val, by omega⟩ : Fin 128) n).trans ((tall_a _ _ _ _ h d n).trans ?_)
  rw [val_main_v41_apply, val_main_v40_apply]
  refine (congrArg (val_main_v19 (F := Ideal) x0 x1 x3) (funext fun a => Fin.ext ?_)).trans (v19_at x0 x1 x3 n (⟨64 * h.val + d.val, by omega⟩ : Fin 256))
  match a with
  | ⟨0, _⟩ => show ((h.val * 64 + d.val) * 32768 + n.val) % 32768 = n.val; omega
  | ⟨1, _⟩ => show ((h.val * 64 + d.val) * 32768 + n.val) / 32768 = 64 * h.val + d.val; omega

theorem v_at_b (x0 : Vec Ideal S8x4096x1024 .f32) (x1 : Vec Ideal S8x6x1024 .f32) (x3 : Vec Ideal S1024x3608 .f32) (h : Fin 4) (d : Fin 64) (n : Fin 32768) :
    val_main_v86 (F := Ideal) x0 x1 x3 (ix2 (⟨128 * h.val + 64 + d.val, by omega⟩ : Fin 512) n) = if d.val = 0 then (1 : EReal) else 0 := by
  have hi : (⟨128 * h.val + 64 + d.val, by omega⟩ : Fin 512) = (⟨128 * h.val + (64 + d.val), by omega⟩ : Fin 512) := Fin.ext (by show 128 * h.val + 64 + d.val = 128 * h.val + (64 + d.val); omega)
  rw [hi]
  refine (v45_at x0 x1 x3 h (⟨64 + d.val, by omega⟩ : Fin 128) n).trans ?_
  by_cases hd : d.val = 0
  · rw [if_pos hd]
    refine (congrArg (fun i : Fin 128 => val_main_v44 (F := Ideal) x0 x1 x3 (ix3 h i n)) (Fin.ext (by show 64 + d.val = 64 + (0 : Fin 1).val; simp [hd]) : _ = (⟨64 + (0 : Fin 1).val, by decide⟩ : Fin 128))).trans ?_
    exact (tall_b _ _ _ _ h 0 n).trans ((val_main_v42_apply (F := Ideal) _).trans one32)
  · rw [if_neg hd]
    refine (congrArg (fun i : Fin 128 => val_main_v44 (F := Ideal) x0 x1 x3 (ix3 h i n)) (Fin.ext (by show 64 + d.val = 65 + (d.val - 1); omega) : _ = (⟨65 + (⟨d.val - 1, by omega⟩ : Fin 63).val, by show 65 + (d.val - 1) < 128; omega⟩ : Fin 128))).trans ?_
    exact (tall_c _ _ _ _ h (⟨d.val - 1, by omega⟩ : Fin 63) n).trans ((val_main_v43_apply (F := Ideal) _).trans zero32)

/-- The cosine and the sine of a position's angle. -/
def cs (x2 : Vec Ideal S8x4096 .i32) (n : Fin 32768) (d : Fin 4) : EReal := val_main_v38 (F := Ideal) x2 (ix3 n 0 d)
def sn (x2 : Vec Ideal S8x4096 .i32) (n : Fin 32768) (d : Fin 4) : EReal := val_main_v39 (F := Ideal) x2 (ix3 n 0 d)

theorem q_split (x0 : Vec Ideal S8x4096x1024 .f32) (x1 : Vec Ideal S8x6x1024 .f32) (x3 : Vec Ideal S1024x3608 .f32) (n : Fin 32768) (h : Fin 8) (d : Fin 32) :
    val_main_v50 (F := Ideal) x0 x1 x3 (ix3 n h d) = val_main_v17 (F := Ideal) x0 x1 x3 (ix2 n (⟨32 * h.val + d.val, by omega⟩ : Fin 256)) := by
  rw [val_main_v50_apply]
  refine congrArg (val_main_v17 (F := Ideal) x0 x1 x3) (funext fun a => Fin.ext ?_)
  match a with
  | ⟨0, _⟩ => show ((n.val * 8 + h.val) * 32 + d.val) / 256 = n.val; omega
  | ⟨1, _⟩ => show ((n.val * 8 + h.val) * 32 + d.val) % 256 = 32 * h.val + d.val; omega

theorem q_lo (x0 : Vec Ideal S8x4096x1024 .f32) (x1 : Vec Ideal S8x6x1024 .f32) (x3 : Vec Ideal S1024x3608 .f32) (n : Fin 32768) (h : Fin 8) (d : Fin 4) :
    val_main_v51 (F := Ideal) x0 x1 x3 (ix3 n h d) = val_main_v17 (F := Ideal) x0 x1 x3 (ix2 n (⟨32 * h.val + d.val, by omega⟩ : Fin 256)) := by
  rw [val_main_v51_apply]
  refine (congrArg (val_main_v50 (F := Ideal) x0 x1 x3) (funext fun a => Fin.ext ?_)).trans (q_split x0 x1 x3 n h (⟨d.val, by omega⟩ : Fin 32))
  match a with
  | ⟨0, _⟩ => rfl
  | ⟨1, _⟩ => rfl
  | ⟨2, _⟩ => rfl

theorem q_hi (x0 : Vec Ideal S8x4096x1024 .f32) (x1 : Vec Ideal S8x6x1024 .f32) (x3 : Vec Ideal S1024x3608 .f32) (n : Fin 32768) (h : Fin 8) (d : Fin 4) :
    val_main_v52 (F := Ideal) x0 x1 x3 (ix3 n h d) = val_main_v17 (F := Ideal) x0 x1 x3 (ix2 n (⟨32 * h.val + (4 + d.val), by omega⟩ : Fin 256)) := by
  rw [val_main_v52_apply]
  refine (congrArg (val_main_v50 (F := Ideal) x0 x1 x3) (funext fun a => Fin.ext ?_)).trans (q_split x0 x1 x3 n h (⟨4 + d.val, by omega⟩ : Fin 32))
  match a with
  | ⟨0, _⟩ => rfl
  | ⟨1, _⟩ => rfl
  | ⟨2, _⟩ => rfl

theorem q_rest (x0 : Vec Ideal S8x4096x1024 .f32) (x1 : Vec Ideal S8x6x1024 .f32) (x3 : Vec Ideal S1024x3608 .f32) (n : Fin 32768) (h : Fin 8) (d : Fin 24) :
    val_main_v53 (F := Ideal) x0 x1 x3 (ix3 n h d) = val_main_v17 (F := Ideal) x0 x1 x3 (ix2 n (⟨32 * h.val + (8 + d.val), by omega⟩ : Fin 256)) := by
  rw [val_main_v53_apply]
  refine (congrArg (val_main_v50 (F := Ideal) x0 x1 x3) (funext fun a => Fin.ext ?_)).trans (q_split x0 x1 x3 n h (⟨8 + d.val, by omega⟩ : Fin 32))
  match a with
  | ⟨0, _⟩ => rfl
  | ⟨1, _⟩ => rfl
  | ⟨2, _⟩ => rfl

theorem q_flat (x0 : Vec Ideal S8x4096x1024 .f32) (x1 : Vec Ideal S8x6x1024 .f32) (x2 : Vec Ideal S8x4096 .i32) (x3 : Vec Ideal S1024x3608 .f32) (n : Fin 32768) (h : Fin 8) (d : Fin 32) :
    val_main_v65 (F := Ideal) x0 x1 x2 x3 (ix2 n (⟨32 * h.val + d.val, by omega⟩ : Fin 256)) = val_main_v64 (F := Ideal) x0 x1 x2 x3 (ix3 n h d) := by
  rw [val_main_v65_apply]
  refine congrArg (val_main_v64 (F := Ideal) x0 x1 x2 x3) (funext fun a => Fin.ext ?_)
  match a with
  | ⟨0, _⟩ => show (n.val * 256 + (32 * h.val + d.val)) / 256 = n.val; omega
  | ⟨1, _⟩ => show (n.val * 256 + (32 * h.val + d.val)) / 32 % 8 = h.val; omega
  | ⟨2, _⟩ => show (n.val * 256 + (32 * h.val + d.val)) % 32 = d.val; omega

theorem q_cos (x2 : Vec Ideal S8x4096 .i32) (n : Fin 32768) (h : Fin 8) (d : Fin 4) : val_main_v54 (F := Ideal) x2 (ix3 n h d) = cs x2 n d := by
  rw [val_main_v54_apply]
  refine congrArg (val_main_v38 (F := Ideal) x2) (funext fun a => Fin.ext ?_)
  match a with
  | ⟨0, _⟩ => rfl
  | ⟨1, _⟩ => rfl
  | ⟨2, _⟩ => rfl
theorem q_sin (x2 : Vec Ideal S8x4096 .i32) (n : Fin 32768) (h : Fin 8) (d : Fin 4) : val_main_v56 (F := Ideal) x2 (ix3 n h d) = sn x2 n d := by
  rw [val_main_v56_apply]
  refine congrArg (val_main_v39 (F := Ideal) x2) (funext fun a => Fin.ext ?_)
  match a with
  | ⟨0, _⟩ => rfl
  | ⟨1, _⟩ => rfl
  | ⟨2, _⟩ => rfl

theorem q_at_a (x0 : Vec Ideal S8x4096x1024 .f32) (x1 : Vec Ideal S8x6x1024 .f32) (x2 : Vec Ideal S8x4096 .i32) (x3 : Vec Ideal S1024x3608 .f32) (n : Fin 32768) (h : Fin 8) (d : Fin 4) :
    val_main_v65 (F := Ideal) x0 x1 x2 x3 (ix2 n (⟨32 * h.val + d.val, by omega⟩ : Fin 256))
      = val_main_v17 (F := Ideal) x0 x1 x3 (ix2 n (⟨32 * h.val + d.val, by omega⟩ : Fin 256)) * cs x2 n d
        - val_main_v17 (F := Ideal) x0 x1 x3 (ix2 n (⟨32 * h.val + (4 + d.val), by omega⟩ : Fin 256)) * sn x2 n d := by
  refine (q_flat x0 x1 x2 x3 n h (⟨d.val, by omega⟩ : Fin 32)).trans ((heads_a _ _ _ _ n h d).trans ?_)
  rw [← q_cos x2 n h d, ← q_sin x2 n h d, ← q_lo, ← q_hi]
  rfl

theorem q_at_b (x0 : Vec Ideal S8x4096x1024 .f32) (x1 : Vec Ideal S8x6x1024 .f32) (x2 : Vec Ideal S8x4096 .i32) (x3 : Vec Ideal S1024x3608 .f32) (n : Fin 32768) (h : Fin 8) (d : Fin 4) :
    val_main_v65 (F := Ideal) x0 x1 x2 x3 (ix2 n (⟨32 * h.val + (4 + d.val), by omega⟩ : Fin 256))
      = val_main_v17 (F := Ideal) x0 x1 x3 (ix2 n (⟨32 * h.val + (4 + d.val), by omega⟩ : Fin 256)) * cs x2 n d
        + val_main_v17 (F := Ideal) x0 x1 x3 (ix2 n (⟨32 * h.val + d.val, by omega⟩ : Fin 256)) * sn x2 n d := by
  refine (q_flat x0 x1 x2 x3 n h (⟨4 + d.val, by omega⟩ : Fin 32)).trans ((heads_b _ _ _ _ n h d).trans ?_)
  rw [← q_cos x2 n h d, ← q_sin x2 n h d, ← q_lo, ← q_hi]
  rfl

theorem q_at_c (x0 : Vec Ideal S8x4096x1024 .f32) (x1 : Vec Ideal S8x6x1024 .f32) (x2 : Vec Ideal S8x4096 .i32) (x3 : Vec Ideal S1024x3608 .f32) (n : Fin 32768) (h : Fin 8) (d : Fin 24) :
    val_main_v65 (F := Ideal) x0 x1 x2 x3 (ix2 n (⟨32 * h.val + (8 + d.val), by omega⟩ : Fin 256))
      = val_main_v17 (F := Ideal) x0 x1 x3 (ix2 n (⟨32 * h.val + (8 + d.val), by omega⟩ : Fin 256)) :=
  (q_flat x0 x1 x2 x3 n h (⟨8 + d.val, by omega⟩ : Fin 32)).trans ((heads_c _ _ _ _ n h d).trans (q_rest x0 x1 x3 n h d))

theorem k_split (x0 : Vec Ideal S8x4096x1024 .f32) (x1 : Vec Ideal S8x6x1024 .f32) (x3 : Vec Ideal S1024x3608 .f32) (n : Fin 32768) (h : Fin 8) (d : Fin 32) :
    val_main_v69 (F := Ideal) x0 x1 x3 (ix3 n h d) = val_main_v18 (F := Ideal) x0 x1 x3 (ix2 n (⟨32 * h.val + d.val, by omega⟩ : Fin 256)) := by
  rw [val_main_v69_apply]
  refine congrArg (val_main_v18 (F := Ideal) x0 x1 x3) (funext fun a => Fin.ext ?_)
  match a with
  | ⟨0, _⟩ => show ((n.val * 8 + h.val) * 32 + d.val) / 256 = n.val; omega
  | ⟨1, _⟩ => show ((n.val * 8 + h.val) * 32 + d.val) % 256 = 32 * h.val + d.val; omega

theorem k_lo (x0 : Vec Ideal S8x4096x1024 .f32) (x1 : Vec Ideal S8x6x1024 .f32) (x3 : Vec Ideal S1024x3608 .f32) (n : Fin 32768) (h : Fin 8) (d : Fin 4) :
    val_main_v70 (F := Ideal) x0 x1 x3 (ix3 n h d) = val_main_v18 (F := Ideal) x0 x1 x3 (ix2 n (⟨32 * h.val + d.val, by omega⟩ : Fin 256)) := by
  rw [val_main_v70_apply]
  refine (congrArg (val_main_v69 (F := Ideal) x0 x1 x3) (funext fun a => Fin.ext ?_)).trans (k_split x0 x1 x3 n h (⟨d.val, by omega⟩ : Fin 32))
  match a with
  | ⟨0, _⟩ => rfl
  | ⟨1, _⟩ => rfl
  | ⟨2, _⟩ => rfl

theorem k_hi (x0 : Vec Ideal S8x4096x1024 .f32) (x1 : Vec Ideal S8x6x1024 .f32) (x3 : Vec Ideal S1024x3608 .f32) (n : Fin 32768) (h : Fin 8) (d : Fin 4) :
    val_main_v71 (F := Ideal) x0 x1 x3 (ix3 n h d) = val_main_v18 (F := Ideal) x0 x1 x3 (ix2 n (⟨32 * h.val + (4 + d.val), by omega⟩ : Fin 256)) := by
  rw [val_main_v71_apply]
  refine (congrArg (val_main_v69 (F := Ideal) x0 x1 x3) (funext fun a => Fin.ext ?_)).trans (k_split x0 x1 x3 n h (⟨4 + d.val, by omega⟩ : Fin 32))
  match a with
  | ⟨0, _⟩ => rfl
  | ⟨1, _⟩ => rfl
  | ⟨2, _⟩ => rfl

theorem k_rest (x0 : Vec Ideal S8x4096x1024 .f32) (x1 : Vec Ideal S8x6x1024 .f32) (x3 : Vec Ideal S1024x3608 .f32) (n : Fin 32768) (h : Fin 8) (d : Fin 24) :
    val_main_v72 (F := Ideal) x0 x1 x3 (ix3 n h d) = val_main_v18 (F := Ideal) x0 x1 x3 (ix2 n (⟨32 * h.val + (8 + d.val), by omega⟩ : Fin 256)) := by
  rw [val_main_v72_apply]
  refine (congrArg (val_main_v69 (F := Ideal) x0 x1 x3) (funext fun a => Fin.ext ?_)).trans (k_split x0 x1 x3 n h (⟨8 + d.val, by omega⟩ : Fin 32))
  match a with
  | ⟨0, _⟩ => rfl
  | ⟨1, _⟩ => rfl
  | ⟨2, _⟩ => rfl

theorem k_flat (x0 : Vec Ideal S8x4096x1024 .f32) (x1 : Vec Ideal S8x6x1024 .f32) (x2 : Vec Ideal S8x4096 .i32) (x3 : Vec Ideal S1024x3608 .f32) (n : Fin 32768) (h : Fin 8) (d : Fin 32) :
    val_main_v84 (F := Ideal) x0 x1 x2 x3 (ix2 n (⟨32 * h.val + d.val, by omega⟩ : Fin 256)) = val_main_v83 (F := Ideal) x0 x1 x2 x3 (ix3 n h d) := by
  rw [val_main_v84_apply]
  refine congrArg (val_main_v83 (F := Ideal) x0 x1 x2 x3) (funext fun a => Fin.ext ?_)
  match a with
  | ⟨0, _⟩ => show (n.val * 256 + (32 * h.val + d.val)) / 256 = n.val; omega
  | ⟨1, _⟩ => show (n.val * 256 + (32 * h.val + d.val)) / 32 % 8 = h.val; omega
  | ⟨2, _⟩ => show (n.val * 256 + (32 * h.val + d.val)) % 32 = d.val; omega

theorem k_cos (x2 : Vec Ideal S8x4096 .i32) (n : Fin 32768) (h : Fin 8) (d : Fin 4) : val_main_v73 (F := Ideal) x2 (ix3 n h d) = cs x2 n d := by
  rw [val_main_v73_apply]
  refine congrArg (val_main_v38 (F := Ideal) x2) (funext fun a => Fin.ext ?_)
  match a with
  | ⟨0, _⟩ => rfl
  | ⟨1, _⟩ => rfl
  | ⟨2, _⟩ => rfl
theorem k_sin (x2 : Vec Ideal S8x4096 .i32) (n : Fin 32768) (h : Fin 8) (d : Fin 4) : val_main_v75 (F := Ideal) x2 (ix3 n h d) = sn x2 n d := by
  rw [val_main_v75_apply]
  refine congrArg (val_main_v39 (F := Ideal) x2) (funext fun a => Fin.ext ?_)
  match a with
  | ⟨0, _⟩ => rfl
  | ⟨1, _⟩ => rfl
  | ⟨2, _⟩ => rfl

theorem k_at_a (x0 : Vec Ideal S8x4096x1024 .f32) (x1 : Vec Ideal S8x6x1024 .f32) (x2 : Vec Ideal S8x4096 .i32) (x3 : Vec Ideal S1024x3608 .f32) (n : Fin 32768) (h : Fin 8) (d : Fin 4) :
    val_main_v84 (F := Ideal) x0 x1 x2 x3 (ix2 n (⟨32 * h.val + d.val, by omega⟩ : Fin 256))
      = val_main_v18 (F := Ideal) x0 x1 x3 (ix2 n (⟨32 * h.val + d.val, by omega⟩ : Fin 256)) * cs x2 n d
        - val_main_v18 (F := Ideal) x0 x1 x3 (ix2 n (⟨32 * h.val + (4 + d.val), by omega⟩ : Fin 256)) * sn x2 n d := by
  refine (k_flat x0 x1 x2 x3 n h (⟨d.val, by omega⟩ : Fin 32)).trans ((heads_a _ _ _ _ n h d).trans ?_)
  rw [← k_cos x2 n h d, ← k_sin x2 n h d, ← k_lo, ← k_hi]
  rfl

theorem k_at_b (x0 : Vec Ideal S8x4096x1024 .f32) (x1 : Vec Ideal S8x6x1024 .f32) (x2 : Vec Ideal S8x4096 .i32) (x3 : Vec Ideal S1024x3608 .f32) (n : Fin 32768) (h : Fin 8) (d : Fin 4) :
    val_main_v84 (F := Ideal) x0 x1 x2 x3 (ix2 n (⟨32 * h.val + (4 + d.val), by omega⟩ : Fin 256))
      = val_main_v18 (F := Ideal) x0 x1 x3 (ix2 n (⟨32 * h.val + (4 + d.val), by omega⟩ : Fin 256)) * cs x2 n d
        + val_main_v18 (F := Ideal) x0 x1 x3 (ix2 n (⟨32 * h.val + d.val, by omega⟩ : Fin 256)) * sn x2 n d := by
  refine (k_flat x0 x1 x2 x3 n h (⟨4 + d.val, by omega⟩ : Fin 32)).trans ((heads_b _ _ _ _ n h d).trans ?_)
  rw [← k_cos x2 n h d, ← k_sin x2 n h d, ← k_lo, ← k_hi]
  rfl

theorem k_at_c (x0 : Vec Ideal S8x4096x1024 .f32) (x1 : Vec Ideal S8x6x1024 .f32) (x2 : Vec Ideal S8x4096 .i32) (x3 : Vec Ideal S1024x3608 .f32) (n : Fin 32768) (h : Fin 8) (d : Fin 24) :
    val_main_v84 (F := Ideal) x0 x1 x2 x3 (ix2 n (⟨32 * h.val + (8 + d.val), by omega⟩ : Fin 256))
      = val_main_v18 (F := Ideal) x0 x1 x3 (ix2 n (⟨32 * h.val + (8 + d.val), by omega⟩ : Fin 256)) :=
  (k_flat x0 x1 x2 x3 n h (⟨8 + d.val, by omega⟩ : Fin 32)).trans ((heads_c _ _ _ _ n h d).trans (k_rest x0 x1 x3 n h d))

end Cert.Reference4Ideal.Proj

end

end
-- ==== Proof.ProjHost.lean ====
/-
  The input projection: the arrays the host prepares for the call, element by element.
-/
module

public import proofs.«01_k».proof.Proof.Gen.Kernel4Ideal.Frame
public import proofs.«01_k».proof.Proof.ProjWanted
public import Idealize.ShloMosaic.Lib.Pointwise
public import Idealize.ShloMosaic.Lib.ValueIdxCore
public import Idealize.ShloMosaic.Lib.StableHlo.ReadAt
public import Idealize.ShloMosaic.Lib.Pipeline.Value

@[expose] public section

set_option maxRecDepth 16384
set_option maxHeartbeats 4000000

noncomputable section

namespace Cert.Kernel4Ideal.Proj

open Idealize.ShloMosaic Idealize.ShloMosaic.TcCoe
open Cert.Kernel4Ideal Cert.Kernel4Ideal.Gen

/-- The weight with its columns in the call's order. -/
def wide (w : FVec Ideal S1024x3608 .f32) : FVec Ideal S1024x3712 .f32 :=
  concatenate S1024x3712 1 [⟨S1024x1024, extractStridedSlice S1024x1024 ![0, 0] w slices_S1024x3608_S1024x1024_0_0⟩,
    ⟨S1024x2560, extractStridedSlice S1024x2560 ![0, 1032] w slices_S1024x3608_S1024x2560_0_1032⟩,
    ⟨S1024x8, extractStridedSlice S1024x8 ![0, 1024] w slices_S1024x3608_S1024x8_0_1024⟩,
    ⟨S1024x16, extractStridedSlice S1024x16 ![0, 3592] w slices_S1024x3608_S1024x16_0_3592⟩,
    ⟨S1024x104, broadcastInDim S1024x104 ![] bcast_S_S1024x104 (constant (F := Ideal) S_ .f32 0x00000000#32)⟩]
    concatenates_S1024x1024_S1024x2560_S1024x8_S1024x16_S1024x104_S1024x3712_d1

/-- Which of the four angles a column takes. -/
def which : IVec S256x1 32 :=
  broadcastInDim S256x1 ![0] bcast_S256_S256x1_0 (select (constantI S256 1 0#1)
    (addi (fun i => lit0 (S256.rowMajor i)) (broadcastInDim S256 ![] bcast_S_S256 (constantI S_ 32 4#32))) (fun i => lit0 (S256.rowMajor i)))

def angles (p : IVec S8x4096 32) : FVec Ideal S32768x4 .f32 :=
  mulf (broadcastInDim S32768x4 ![0, 1] bcast_S32768x1_S32768x4_0_1 (shapeCast S32768x1 (sitofp (F := Ideal) .f32 p) shapeCasts_S8x4096_S32768x1))
    (broadcastInDim S32768x4 ![0, 1] bcast_S1x4_S32768x4_0_1 (broadcastInDim S1x4 ![1] bcast_S4_S1x4_1 (Cert.Reference4Ideal.Read.val_main_v31 (F := Ideal))))

def taken (a : FVec Ideal S32768x4 .f32) : FVec Ideal S32768x256 .f32 :=
  Host.gather gather_S32768x4_S256x1_S32768x256_0_1_n_n_1_1_327681 a which

def cosines (a : FVec Ideal S32768x4 .f32) : FVec Ideal S32768x256 .f32 :=
  select (broadcastInDim S32768x256 ![1] bcast_S256_S32768x256_1 (fun i => lit1 (S256.rowMajor i))) (taken (Host.cos a))
    (broadcastInDim S32768x256 ![] bcast_S_S32768x256 (constant (F := Ideal) S_ .f32 0x3F800000#32))

def sines (a : FVec Ideal S32768x4 .f32) : FVec Ideal S32768x256 .f32 :=
  select (broadcastInDim S32768x256 ![1] bcast_S256_S32768x256_1 (fun i => lit3 (S256.rowMajor i))) (Host.negf (taken (Host.sin a)))
    (select (broadcastInDim S32768x256 ![1] bcast_S256_S32768x256_1 (fun i => lit2 (S256.rowMajor i))) (taken (Host.sin a))
      (broadcastInDim S32768x256 ![] bcast_S_S32768x256 (constant (F := Ideal) S_ .f32 0x00000000#32)))

variable (m : (ℓ : Loc nD τ sig) → Buf (Elt Ideal) ℓ) (c : Dev nD)

theorem V_rows : V m c main_v37 = (shapeCast S32768x1024 (m ((c : Thread nD τ).loc main_arg0)) shapeCasts_S8x4096x1024_S32768x1024 : Vec Ideal S32768x1024 .f32) := by
  after_reads_simp
  rfl

theorem V_wide : V m c main_v44 = (wide (m ((c : Thread nD τ).loc main_arg3)) : FVec Ideal S1024x3712 .f32) := by
  after_reads_simp
  rfl

theorem V_cos : V m c main_v23 = (cosines (angles (m ((c : Thread nD τ).loc main_arg2))) : FVec Ideal S32768x256 .f32) := by
  after_reads_simp
  rfl

theorem V_sin : V m c main_v36 = (sines (angles (m ((c : Thread nD τ).loc main_arg2))) : FVec Ideal S32768x256 .f32) := by
  after_reads_simp
  rfl

end Cert.Kernel4Ideal.Proj

end

end
-- ==== Proof.ProjParts.lean ====
/-
  The input projection: the prepared arrays read at an element.
-/
module

public import proofs.«01_k».proof.Proof.ProjHost

@[expose] public section

set_option maxRecDepth 16384

noncomputable section

namespace Cert.Kernel4Ideal.Proj

open Idealize.ShloMosaic Idealize.ShloMosaic.TcCoe
open Cert.Kernel4Ideal Cert.Kernel4Ideal.Gen
open Cert.Reference4Ideal.Proj (cs sn)
open Cert.Reference4Ideal.Read

theorem wide_m (w : FVec Ideal S1024x3608 .f32) (k : Fin 1024) (e : Fin 1024) :
    wide w (ix2 k (⟨e.val, by omega⟩ : Fin 3712)) = w (ix2 k (⟨e.val, by omega⟩ : Fin 3608)) := by
  unfold wide
  refine (concatenate_apply_piece (t := S1024x3712) 1 _ _ _ 0 ?_ S1024x1024 (extractStridedSlice S1024x1024 ![0, 0] w slices_S1024x3608_S1024x1024_0_0) ?_ rfl 0 ?_ (ix2 k e) ?_ ?_).trans (congrArg w (funext fun a => Fin.ext ?_))
  · simp
  · rfl
  · rfl
  · intro b hb
    match b with
    | ⟨0, _⟩ => rfl
    | ⟨1, _⟩ => exact absurd rfl hb
  · exact Nat.zero_add _
  · match a with
    | ⟨0, _⟩ => exact Nat.zero_add _
    | ⟨1, _⟩ => exact Nat.zero_add _

theorem wide_mid (w : FVec Ideal S1024x3608 .f32) (k : Fin 1024) (e : Fin 2560) :
    wide w (ix2 k (⟨1024 + e.val, by omega⟩ : Fin 3712)) = w (ix2 k (⟨1032 + e.val, by omega⟩ : Fin 3608)) := by
  unfold wide
  refine (concatenate_apply_piece (t := S1024x3712) 1 _ _ _ 1 ?_ S1024x2560 (extractStridedSlice S1024x2560 ![0, 1032] w slices_S1024x3608_S1024x2560_0_1032) ?_ rfl 1024 ?_ (ix2 k e) ?_ ?_).trans (congrArg w (funext fun a => Fin.ext ?_))
  · simp
  · rfl
  · rfl
  · intro b hb
    match b with
    | ⟨0, _⟩ => rfl
    | ⟨1, _⟩ => exact absurd rfl hb
  · rfl
  · match a with
    | ⟨0, _⟩ => exact Nat.zero_add _
    | ⟨1, _⟩ => rfl

theorem wide_dt (w : FVec Ideal S1024x3608 .f32) (k : Fin 1024) (e : Fin 8) :
    wide w (ix2 k (⟨3584 + e.val, by omega⟩ : Fin 3712)) = w (ix2 k (⟨1024 + e.val, by omega⟩ : Fin 3608)) := by
  unfold wide
  refine (concatenate_apply_piece (t := S1024x3712) 1 _ _ _ 2 ?_ S1024x8 (extractStridedSlice S1024x8 ![0, 1024] w slices_S1024x3608_S1024x8_0_1024) ?_ rfl 3584 ?_ (ix2 k e) ?_ ?_).trans (congrArg w (funext fun a => Fin.ext ?_))
  · simp
  · rfl
  · rfl
  · intro b hb
    match b with
    | ⟨0, _⟩ => rfl
    | ⟨1, _⟩ => exact absurd rfl hb
  · rfl
  · match a with
    | ⟨0, _⟩ => exact Nat.zero_add _
    | ⟨1, _⟩ => rfl

theorem wide_ga (w : FVec Ideal S1024x3608 .f32) (k : Fin 1024) (e : Fin 16) :
    wide w (ix2 k (⟨3592 + e.val, by omega⟩ : Fin 3712)) = w (ix2 k (⟨3592 + e.val, by omega⟩ : Fin 3608)) := by
  unfold wide
  refine (concatenate_apply_piece (t := S1024x3712) 1 _ _ _ 3 ?_ S1024x16 (extractStridedSlice S1024x16 ![0, 3592] w slices_S1024x3608_S1024x16_0_3592) ?_ rfl 3592 ?_ (ix2 k e) ?_ ?_).trans (congrArg w (funext fun a => Fin.ext ?_))
  · simp
  · rfl
  · rfl
  · intro b hb
    match b with
    | ⟨0, _⟩ => rfl
    | ⟨1, _⟩ => exact absurd rfl hb
  · rfl
  · match a with
    | ⟨0, _⟩ => exact Nat.zero_add _
    | ⟨1, _⟩ => rfl

theorem wide_pad (w : FVec Ideal S1024x3608 .f32) (k : Fin 1024) (e : Fin 104) :
    wide w (ix2 k (⟨3608 + e.val, by omega⟩ : Fin 3712)) = (0 : EReal) := by
  unfold wide
  refine (concatenate_apply_piece (t := S1024x3712) 1 _ _ _ 4 ?_ S1024x104 (broadcastInDim S1024x104 ![] bcast_S_S1024x104 (constant (F := Ideal) S_ .f32 0x00000000#32)) ?_ rfl 3608 ?_ (ix2 k e) ?_ ?_).trans Cert.Reference4Ideal.Proj.zero32
  · simp
  · rfl
  · rfl
  · intro b hb
    match b with
    | ⟨0, _⟩ => rfl
    | ⟨1, _⟩ => exact absurd rfl hb
  · rfl

theorem rows_of (x : Vec Ideal S8x4096x1024 .f32) (n : Fin 32768) (k : Fin 1024) :
    (shapeCast S32768x1024 x shapeCasts_S8x4096x1024_S32768x1024 : Vec Ideal S32768x1024 .f32) (ix2 n k)
      = x (ix3 (⟨n.val / 4096, by omega⟩ : Fin 8) (⟨n.val % 4096, by omega⟩ : Fin 4096) k) := by
  pointwise

theorem which_at : ∀ e : Fin 256, min (which (ix2 e 0)).toInt.toNat 3 = e.val % 4 := by decide +kernel

theorem first_at : ∀ e : Fin 256, lit1 (S256.rowMajor (ix1 e)) = if e.val % 32 < 8 then 1#1 else 0#1 := by decide +kernel
theorem second_at : ∀ e : Fin 256, lit2 (S256.rowMajor (ix1 e)) = if e.val % 32 < 8 then 1#1 else 0#1 := by decide +kernel
theorem third_at : ∀ e : Fin 256, lit3 (S256.rowMajor (ix1 e)) = if e.val % 32 < 4 then 1#1 else 0#1 := by decide +kernel

theorem spread_at (l : IVec S256 1) (n : Fin 32768) (e : Fin 256) : broadcastInDim S32768x256 ![1] bcast_S256_S32768x256_1 l (ix2 n e) = l (ix1 e) := by
  pointwise

theorem taken_at (a : FVec Ideal S32768x4 .f32) (n : Fin 32768) (e : Fin 256) :
    taken a (ix2 n e) = a (ix2 n (⟨e.val % 4, by omega⟩ : Fin 4)) := by
  unfold taken Host.gather
  refine congrArg a (funext fun q => Fin.ext ?_)
  let D := gather_S32768x4_S256x1_S32768x256_0_1_n_n_1_1_327681
  have hsi : ∀ j, D.siIdx (ix2 n e) j = (ix2 e 0 : S256x1.Idx) := fun j => by
    funext b; refine Fin.ext ?_
    match b with
    | ⟨0, _⟩ => rfl
    | ⟨1, _⟩ => exact Nat.lt_one_iff.mp j.isLt
  match q with
  | ⟨0, _⟩ =>
    show D.start (ix2 n e) which 0 + D.batchCoord (ix2 n e) 0 + D.offCoord (ix2 n e) 0 = n.val
    rw [GatherDims.batchCoord_eq_zero _ _ _ List.not_mem_nil]
    have h0 : D.start (ix2 n e) which 0 = 0 := by
      unfold GatherDims.start
      rw [dif_neg (show ¬ (0 : Fin 2) ∈ D.startIndexMap by decide)]
    rw [h0]
    exact (Nat.zero_add _).trans rfl
  | ⟨1, _⟩ =>
    show D.start (ix2 n e) which 1 + D.batchCoord (ix2 n e) 1 + D.offCoord (ix2 n e) 1 = e.val % 4
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl), hsi]
    exact which_at e

theorem places_at (y : FVec Ideal S8x4096 .f32) (n : Fin 32768) (d : Fin 4) :
    broadcastInDim S32768x4 ![0, 1] bcast_S32768x1_S32768x4_0_1 (shapeCast S32768x1 y shapeCasts_S8x4096_S32768x1) (ix2 n d)
      = y (ix2 (⟨n.val / 4096, by omega⟩ : Fin 8) (⟨n.val % 4096, by omega⟩ : Fin 4096)) := by
  pointwise

theorem speeds_at (f : FVec Ideal S4 .f32) (n : Fin 32768) (d : Fin 4) :
    broadcastInDim S32768x4 ![0, 1] bcast_S1x4_S32768x4_0_1 (broadcastInDim S1x4 ![1] bcast_S4_S1x4_1 f) (ix2 n d) = f (ix1 d) := by
  pointwise

theorem angles_at (p : IVec S8x4096 32) (n : Fin 32768) (d : Fin 4) : angles p (ix2 n d) = val_main_v37 (F := Ideal) p (ix3 n 0 d) := by
  rw [val_main_v37_apply, val_main_v35_apply, val_main_v33_apply, val_main_v36_apply, val_main_v34_apply]
  unfold angles
  refine congrArg₂ (fun a b : EReal => a * b) ((places_at _ n d).trans ?_) ((speeds_at _ n d).trans ?_)
  · refine congrArg (val_main_v32 (F := Ideal) p) (funext fun a => Fin.ext ?_)
    match a with
    | ⟨0, _⟩ => show n.val / 4096 = ((n.val * 1 + 0) * 1 + 0) / 4096; omega
    | ⟨1, _⟩ => show n.val % 4096 = ((n.val * 1 + 0) * 1 + 0) % 4096; omega
  · refine congrArg (val_main_v31 (F := Ideal)) (funext fun a => Fin.ext ?_)
    match a with
    | ⟨0, _⟩ => rfl

theorem cosines_at (p : IVec S8x4096 32) (n : Fin 32768) (e : Fin 256) :
    cosines (angles p) (ix2 n e) = if e.val % 32 < 8 then cs p n (⟨e.val % 4, by omega⟩ : Fin 4) else (1 : EReal) := by
  refine (show cosines (angles p) (ix2 n e) = Scalar.select (broadcastInDim S32768x256 ![1] bcast_S256_S32768x256_1 (fun i => lit1 (S256.rowMajor i)) (ix2 n e))
    (taken (Host.cos (angles p)) (ix2 n e)) (Ideal.ofBits .f32 0x3F800000#32) from rfl).trans ?_
  rw [spread_at, first_at, taken_at, Cert.Reference4Ideal.Proj.one32]
  have h : Host.cos (angles p) (ix2 n (⟨e.val % 4, by omega⟩ : Fin 4)) = cs p n (⟨e.val % 4, by omega⟩ : Fin 4) :=
    congrArg (FloatOps.hostUnary (F := Ideal) (φ := .f32) .cos) (angles_at p n _)
  rw [h]
  split <;> rfl

theorem sines_at (p : IVec S8x4096 32) (n : Fin 32768) (e : Fin 256) :
    sines (angles p) (ix2 n e) = if e.val % 32 < 4 then -sn p n (⟨e.val % 4, by omega⟩ : Fin 4)
      else if e.val % 32 < 8 then sn p n (⟨e.val % 4, by omega⟩ : Fin 4) else (0 : EReal) := by
  refine (show sines (angles p) (ix2 n e) = Scalar.select (broadcastInDim S32768x256 ![1] bcast_S256_S32768x256_1 (fun i => lit3 (S256.rowMajor i)) (ix2 n e))
    (-(taken (Host.sin (angles p)) (ix2 n e))) (Scalar.select (broadcastInDim S32768x256 ![1] bcast_S256_S32768x256_1 (fun i => lit2 (S256.rowMajor i)) (ix2 n e))
      (taken (Host.sin (angles p)) (ix2 n e)) (Ideal.ofBits .f32 0x00000000#32)) from rfl).trans ?_
  rw [spread_at, third_at, spread_at, second_at, taken_at, Cert.Reference4Ideal.Proj.zero32]
  have h : Host.sin (angles p) (ix2 n (⟨e.val % 4, by omega⟩ : Fin 4)) = sn p n (⟨e.val % 4, by omega⟩ : Fin 4) :=
    congrArg (FloatOps.hostUnary (F := Ideal) (φ := .f32) .sin) (angles_at p n _)
  rw [h]
  split
  · rfl
  · split <;> rfl

end Cert.Kernel4Ideal.Proj

end

end
-- ==== Proof.ProjVal.lean ====
/-
  The input projection call: each of its seven result arrays is the reference's.
-/
module

public import proofs.«01_k».proof.Proof.Gen.Kernel4Ideal.Value
public import proofs.«01_k».proof.Proof.ProjPoint
public import proofs.«01_k».proof.Proof.ProjParts

@[expose] public section

set_option maxRecDepth 16384
set_option maxHeartbeats 1000000

noncomputable section

namespace Cert.Kernel4Ideal.Proj

open Idealize.ShloMosaic Idealize.ShloMosaic.TcCoe
open Cert.Kernel4Ideal Cert.Kernel4Ideal.Gen
open Cert.Reference4Ideal.Proj (cs sn z row)
open Cert.Reference4Ideal.Read

/-- A column, its partner and the two tables give the rotation. -/
theorem turn_cases (P R : Fin 256 → EReal) (C S : Fin 4 → EReal)
    (ha : ∀ (h : Fin 8) (d : Fin 4), R (⟨32 * h.val + d.val, by omega⟩ : Fin 256)
      = P (⟨32 * h.val + d.val, by omega⟩ : Fin 256) * C d - P (⟨32 * h.val + (4 + d.val), by omega⟩ : Fin 256) * S d)
    (hb : ∀ (h : Fin 8) (d : Fin 4), R (⟨32 * h.val + (4 + d.val), by omega⟩ : Fin 256)
      = P (⟨32 * h.val + (4 + d.val), by omega⟩ : Fin 256) * C d + P (⟨32 * h.val + d.val, by omega⟩ : Fin 256) * S d)
    (hc : ∀ (h : Fin 8) (d : Fin 24), R (⟨32 * h.val + (8 + d.val), by omega⟩ : Fin 256) = P (⟨32 * h.val + (8 + d.val), by omega⟩ : Fin 256))
    (e : Fin 256) :
    P e * (if e.val % 32 < 8 then C (⟨e.val % 4, by omega⟩ : Fin 4) else 1)
      + (if e.val % 8 < 4 then P (⟨(e.val + 4) % 256, by omega⟩ : Fin 256) else P (⟨(e.val + 252) % 256, by omega⟩ : Fin 256))
        * (if e.val % 32 < 4 then -S (⟨e.val % 4, by omega⟩ : Fin 4) else if e.val % 32 < 8 then S (⟨e.val % 4, by omega⟩ : Fin 4) else 0) = R e := by
  by_cases h1 : e.val % 32 < 4
  · obtain ⟨h, d, hE⟩ : ∃ (h : Fin 8) (d : Fin 4), e = (⟨32 * h.val + d.val, by omega⟩ : Fin 256) :=
      ⟨⟨e.val / 32, by omega⟩, ⟨e.val % 32, h1⟩, Fin.ext (by show e.val = 32 * (e.val / 32) + e.val % 32; omega)⟩
    have he : e.val = 32 * h.val + d.val := congrArg Fin.val hE
    have hd : (⟨e.val % 4, by omega⟩ : Fin 4) = d := Fin.ext (by show e.val % 4 = d.val; omega)
    have hp : (⟨(e.val + 4) % 256, by omega⟩ : Fin 256) = (⟨32 * h.val + (4 + d.val), by omega⟩ : Fin 256) :=
      Fin.ext (by show (e.val + 4) % 256 = 32 * h.val + (4 + d.val); omega)
    rw [if_pos (by omega), if_pos (by omega), if_pos h1, hd, hp, mul_neg, ← sub_eq_add_neg, congrArg P hE, congrArg R hE]
    exact (ha h d).symm
  · by_cases h2 : e.val % 32 < 8
    · obtain ⟨h, d, hE⟩ : ∃ (h : Fin 8) (d : Fin 4), e = (⟨32 * h.val + (4 + d.val), by omega⟩ : Fin 256) :=
        ⟨⟨e.val / 32, by omega⟩, ⟨e.val % 32 - 4, by omega⟩, Fin.ext (by show e.val = 32 * (e.val / 32) + (4 + (e.val % 32 - 4)); omega)⟩
      have he : e.val = 32 * h.val + (4 + d.val) := congrArg Fin.val hE
      have hd : (⟨e.val % 4, by omega⟩ : Fin 4) = d := Fin.ext (by show e.val % 4 = d.val; omega)
      have hp : (⟨(e.val + 252) % 256, by omega⟩ : Fin 256) = (⟨32 * h.val + d.val, by omega⟩ : Fin 256) :=
        Fin.ext (by show (e.val + 252) % 256 = 32 * h.val + d.val; omega)
      rw [if_pos h2, if_neg (by omega), if_neg h1, if_pos h2, hd, hp, congrArg P hE, congrArg R hE]
      exact (hb h d).symm
    · obtain ⟨h, d, hE⟩ : ∃ (h : Fin 8) (d : Fin 24), e = (⟨32 * h.val + (8 + d.val), by omega⟩ : Fin 256) :=
        ⟨⟨e.val / 32, by omega⟩, ⟨e.val % 32 - 8, by omega⟩, Fin.ext (by show e.val = 32 * (e.val / 32) + (8 + (e.val % 32 - 8)); omega)⟩
      have he : e.val = 32 * h.val + (8 + d.val) := congrArg Fin.val hE
      rw [if_neg h2, if_neg h1, if_neg h2, mul_one, mul_zero, add_zero, congrArg P hE, congrArg R hE]
      exact (hc h d).symm

variable (m : (ℓ : Loc nD τ sig) → Buf (Elt Ideal) ℓ) (c : Dev nD)

abbrev A0 : Vec Ideal S8x4096x1024 .f32 := m ((c : Thread nD τ).loc main_arg0)
abbrev A1 : Vec Ideal S8x6x1024 .f32 := m ((c : Thread nD τ).loc main_arg1)
abbrev A2 : Vec Ideal S8x4096 .i32 := m ((c : Thread nD τ).loc main_arg2)
abbrev A3 : Vec Ideal S1024x3608 .f32 := m ((c : Thread nD τ).loc main_arg3)

/-- The block of rows of a point. -/
def blockOf (t : Fin grid0.N) : Fin 32 := grid0.coords t 0

/-- The row of the whole array that a row of a block is. -/
def rowAt (i : Fin 32) (r : Fin 1024) : Fin 32768 := ⟨1024 * i.val + r.val, by omega⟩

def jx0 (t : Fin grid0.N) : Fin 2 → ℕ := cc0_transform_0 (grid0.coords t)
theorem at0 : ∀ t : Fin grid0.N, jx0 t = ![(blockOf t).val, 0] := by decide +kernel
def jx1 (t : Fin grid0.N) : Fin 3 → ℕ := cc0_transform_1 (grid0.coords t)
theorem at1 : ∀ t : Fin grid0.N, jx1 t = ![(blockOf t).val / 4, 0, 0] := by decide +kernel
def jx2 (t : Fin grid0.N) : Fin 2 → ℕ := cc0_transform_2 (grid0.coords t)
theorem at2 : ∀ t : Fin grid0.N, jx2 t = ![0, 0] := by decide +kernel
def jx3 (t : Fin grid0.N) : Fin 2 → ℕ := cc0_transform_3 (grid0.coords t)
theorem at3 : ∀ t : Fin grid0.N, jx3 t = ![(blockOf t).val, 0] := by decide +kernel
def jx4 (t : Fin grid0.N) : Fin 2 → ℕ := cc0_transform_4 (grid0.coords t)
theorem at4 : ∀ t : Fin grid0.N, jx4 t = ![(blockOf t).val, 0] := by decide +kernel
def jx5 (t : Fin grid0.N) : Fin 2 → ℕ := cc0_transform_5 (grid0.coords t)
theorem at5 : ∀ t : Fin grid0.N, jx5 t = ![(blockOf t).val, 0] := by decide +kernel
def jx6 (t : Fin grid0.N) : Fin 2 → ℕ := cc0_transform_6 (grid0.coords t)
theorem at6 : ∀ t : Fin grid0.N, jx6 t = ![(blockOf t).val, 0] := by decide +kernel
def jx7 (t : Fin grid0.N) : Fin 2 → ℕ := cc0_transform_7 (grid0.coords t)
theorem at7 : ∀ t : Fin grid0.N, jx7 t = ![(blockOf t).val, 0] := by decide +kernel
def jx8 (t : Fin grid0.N) : Fin 2 → ℕ := cc0_transform_8 (grid0.coords t)
theorem at8 : ∀ t : Fin grid0.N, jx8 t = ![(blockOf t).val, 0] := by decide +kernel
def jx9 (t : Fin grid0.N) : Fin 2 → ℕ := cc0_transform_9 (grid0.coords t)
theorem at9 : ∀ t : Fin grid0.N, jx9 t = ![0, (blockOf t).val] := by decide +kernel
def jx10 (t : Fin grid0.N) : Fin 2 → ℕ := cc0_transform_10 (grid0.coords t)
theorem at10 : ∀ t : Fin grid0.N, jx10 t = ![(blockOf t).val, 0] := by decide +kernel
def jx11 (t : Fin grid0.N) : Fin 2 → ℕ := cc0_transform_11 (grid0.coords t)
theorem at11 : ∀ t : Fin grid0.N, jx11 t = ![(blockOf t).val, 0] := by decide +kernel

theorem read_rows (t : Fin cfg0.N) (r k : Fin 1024) :
    iblk m c 0 t (ix2 r k) = A0 m c (ix3 (⟨(rowAt (blockOf t) r).val / 4096, by omega⟩ : Fin 8) (⟨(rowAt (blockOf t) r).val % 4096, by omega⟩ : Fin 4096) k) := by
  refine Eq.trans ?_ ((congrFun (V_rows m c) (ix2 (rowAt (blockOf t) r) k)).trans (rows_of _ _ _))
  refine congrArg (V m c main_v37) (funext fun a => Fin.ext ?_)
  show jx0 t a * _ + 1 * ((ix2 r k : S1024x1024.Idx) a).val = _
  rw [at0]
  match a with
  | ⟨0, _⟩ => show (blockOf t).val * 1024 + 1 * r.val = 1024 * (blockOf t).val + r.val; omega
  | ⟨1, _⟩ => show 0 * 1024 + 1 * k.val = k.val; omega

theorem read_mod (t : Fin cfg0.N) (i : Fin 6) (k : Fin 1024) :
    iblk m c 1 t (ix3 0 i k) = A1 m c (ix3 (⟨(blockOf t).val / 4, by omega⟩ : Fin 8) i k) := by
  refine Eq.trans ?_ (congrFun (V_main_arg1 m c) _)
  refine congrArg (V m c main_arg1) (funext fun a => Fin.ext ?_)
  show jx1 t a * _ + 1 * ((ix3 0 i k : S1x6x1024.Idx) a).val = _
  rw [at1]
  match a with
  | ⟨0, _⟩ => exact (Nat.add_zero _).trans (Nat.mul_one _)
  | ⟨1, _⟩ => show 0 * 6 + 1 * i.val = i.val; omega
  | ⟨2, _⟩ => show 0 * 1024 + 1 * k.val = k.val; omega

theorem read_wide (t : Fin cfg0.N) (k : Fin 1024) (j : Fin 3712) : iblk m c 2 t (ix2 k j) = wide (A3 m c) (ix2 k j) := by
  refine Eq.trans ?_ (congrFun (V_wide m c) (ix2 k j))
  refine congrArg (V m c main_v44) (funext fun a => Fin.ext ?_)
  show jx2 t a * _ + 1 * ((ix2 k j : S1024x3712.Idx) a).val = _
  rw [at2]
  match a with
  | ⟨0, _⟩ => show 0 * 1024 + 1 * k.val = k.val; omega
  | ⟨1, _⟩ => show 0 * 3712 + 1 * j.val = j.val; omega

theorem read_cos (t : Fin cfg0.N) (r : Fin 1024) (e : Fin 256) : iblk m c 3 t (ix2 r e) = cosines (angles (A2 m c)) (ix2 (rowAt (blockOf t) r) e) := by
  refine Eq.trans ?_ (congrFun (V_cos m c) (ix2 (rowAt (blockOf t) r) e))
  refine congrArg (V m c main_v23) (funext fun a => Fin.ext ?_)
  show jx3 t a * _ + 1 * ((ix2 r e : S1024x256.Idx) a).val = _
  rw [at3]
  match a with
  | ⟨0, _⟩ => show (blockOf t).val * 1024 + 1 * r.val = 1024 * (blockOf t).val + r.val; omega
  | ⟨1, _⟩ => show 0 * 256 + 1 * e.val = e.val; omega

theorem read_sin (t : Fin cfg0.N) (r : Fin 1024) (e : Fin 256) : iblk m c 4 t (ix2 r e) = sines (angles (A2 m c)) (ix2 (rowAt (blockOf t) r) e) := by
  refine Eq.trans ?_ (congrFun (V_sin m c) (ix2 (rowAt (blockOf t) r) e))
  refine congrArg (V m c main_v36) (funext fun a => Fin.ext ?_)
  show jx4 t a * _ + 1 * ((ix2 r e : S1024x256.Idx) a).val = _
  rw [at4]
  match a with
  | ⟨0, _⟩ => show (blockOf t).val * 1024 + 1 * r.val = 1024 * (blockOf t).val + r.val; omega
  | ⟨1, _⟩ => show 0 * 256 + 1 * e.val = e.val; omega

/-- The modulated rows of a point. -/
def U (t : Fin cfg0.N) : FVec Ideal S1024x1024 .bf16 := k0_pay4 (F := Ideal) (iblk m c 1 t) (iblk m c 0 t)

theorem U_at (t : Fin cfg0.N) (r k : Fin 1024) :
    U m c t (ix2 r k) = row (A0 m c) (A1 m c) (⟨(rowAt (blockOf t) r).val / 4096, by omega⟩ : Fin 8) (⟨(rowAt (blockOf t) r).val % 4096, by omega⟩ : Fin 4096) k := by
  have hb : (⟨(rowAt (blockOf t) r).val / 4096, by omega⟩ : Fin 8) = (⟨(blockOf t).val / 4, by omega⟩ : Fin 8) :=
    Fin.ext (by show (1024 * (blockOf t).val + r.val) / 4096 = (blockOf t).val / 4; omega)
  refine (rows_at (iblk m c 1 t) (iblk m c 0 t) r k).trans ?_
  unfold row
  refine congrArg₂ (fun p q : EReal => p + q) (congrArg₂ (fun p q : EReal => p * q) (read_rows m c t r k) (congrArg (fun q : EReal => 1 + q) ?_)) ?_
  · rw [hb]
    exact read_mod m c t 1 k
  · rw [hb]
    exact read_mod m c t 0 k

/-- A column of a point's projection is a column of the reference's. -/
theorem sum_at (t : Fin cfg0.N) (r : Fin 1024) (f : Fin 1024 → EReal) (j : Fin 3608) (hf : ∀ k, f k = A3 m c (ix2 k j)) :
    ∑ k : Fin 1024, U m c t (ix2 r k) * f k = z (A0 m c) (A1 m c) (A3 m c) (rowAt (blockOf t) r) j :=
  Finset.sum_congr rfl fun k _ => congrArg₂ (fun p q : EReal => p * q) (U_at m c t r k) (hf k)

theorem wq (t : Fin cfg0.N) (k : Fin 1024) (e : Fin 256) :
    (View.ld (iblk m c 2 t) r0_6 (ix2 k e : S1024x256.Idx) : EReal) = A3 m c (ix2 k (⟨1800 + e.val, by omega⟩ : Fin 3608)) := by
  refine (View.ld_unit_apply_of (iblk m c 2 t) _ _ _ _ (ix2 k (⟨1024 + (⟨768 + e.val, by omega⟩ : Fin 2560).val, by show 1024 + (768 + e.val) < 3712; omega⟩ : Fin 3712)) fun a => ?_).trans ((read_wide m c t k _).trans ((wide_mid _ k (⟨768 + e.val, by omega⟩ : Fin 2560)).trans (congrArg (A3 m c) (funext fun a => Fin.ext ?_))))
  · match a with
    | ⟨0, _⟩ => exact (Nat.zero_add _).symm
    | ⟨1, _⟩ => show 1024 + (768 + e.val) = 1792 + e.val; omega
  · match a with
    | ⟨0, _⟩ => rfl
    | ⟨1, _⟩ => show 1032 + (768 + e.val) = 1800 + e.val; omega

theorem wk (t : Fin cfg0.N) (k : Fin 1024) (e : Fin 256) :
    (View.ld (iblk m c 2 t) r0_7 (ix2 k e : S1024x256.Idx) : EReal) = A3 m c (ix2 k (⟨2056 + e.val, by omega⟩ : Fin 3608)) := by
  refine (View.ld_unit_apply_of (iblk m c 2 t) _ _ _ _ (ix2 k (⟨1024 + (⟨1024 + e.val, by omega⟩ : Fin 2560).val, by show 1024 + (1024 + e.val) < 3712; omega⟩ : Fin 3712)) fun a => ?_).trans ((read_wide m c t k _).trans ((wide_mid _ k (⟨1024 + e.val, by omega⟩ : Fin 2560)).trans (congrArg (A3 m c) (funext fun a => Fin.ext ?_))))
  · match a with
    | ⟨0, _⟩ => exact (Nat.zero_add _).symm
    | ⟨1, _⟩ => show 1024 + (1024 + e.val) = 2048 + e.val; omega
  · match a with
    | ⟨0, _⟩ => rfl
    | ⟨1, _⟩ => show 1032 + (1024 + e.val) = 2056 + e.val; omega

theorem wv (t : Fin cfg0.N) (k : Fin 1024) (e : Fin 256) :
    (View.ld (iblk m c 2 t) r0_8 (ix2 k e : S1024x256.Idx) : EReal) = A3 m c (ix2 k (⟨2312 + e.val, by omega⟩ : Fin 3608)) := by
  refine (View.ld_unit_apply_of (iblk m c 2 t) _ _ _ _ (ix2 k (⟨1024 + (⟨1280 + e.val, by omega⟩ : Fin 2560).val, by show 1024 + (1280 + e.val) < 3712; omega⟩ : Fin 3712)) fun a => ?_).trans ((read_wide m c t k _).trans ((wide_mid _ k (⟨1280 + e.val, by omega⟩ : Fin 2560)).trans (congrArg (A3 m c) (funext fun a => Fin.ext ?_))))
  · match a with
    | ⟨0, _⟩ => exact (Nat.zero_add _).symm
    | ⟨1, _⟩ => show 1024 + (1280 + e.val) = 2304 + e.val; omega
  · match a with
    | ⟨0, _⟩ => rfl
    | ⟨1, _⟩ => show 1032 + (1280 + e.val) = 2312 + e.val; omega

theorem wg (t : Fin cfg0.N) (k : Fin 1024) (e : Fin 1024) :
    (View.ld (iblk m c 2 t) r0_10 (ix2 k e : S1024x1024.Idx) : EReal) = A3 m c (ix2 k (⟨2568 + e.val, by omega⟩ : Fin 3608)) := by
  refine (View.ld_unit_apply_of (iblk m c 2 t) _ _ _ _ (ix2 k (⟨1024 + (⟨1536 + e.val, by omega⟩ : Fin 2560).val, by show 1024 + (1536 + e.val) < 3712; omega⟩ : Fin 3712)) fun a => ?_).trans ((read_wide m c t k _).trans ((wide_mid _ k (⟨1536 + e.val, by omega⟩ : Fin 2560)).trans (congrArg (A3 m c) (funext fun a => Fin.ext ?_))))
  · match a with
    | ⟨0, _⟩ => exact (Nat.zero_add _).symm
    | ⟨1, _⟩ => show 1024 + (1536 + e.val) = 2560 + e.val; omega
  · match a with
    | ⟨0, _⟩ => rfl
    | ⟨1, _⟩ => show 1032 + (1536 + e.val) = 2568 + e.val; omega

theorem wc (t : Fin cfg0.N) (k : Fin 1024) (e : Fin 768) :
    (View.ld (iblk m c 2 t) r0_3 (ix2 k e : S1024x768.Idx) : EReal) = A3 m c (ix2 k (⟨1032 + e.val, by omega⟩ : Fin 3608)) := by
  refine (View.ld_unit_apply_of (iblk m c 2 t) _ _ _ _ (ix2 k (⟨1024 + (⟨0 + e.val, by omega⟩ : Fin 2560).val, by show 1024 + (0 + e.val) < 3712; omega⟩ : Fin 3712)) fun a => ?_).trans ((read_wide m c t k _).trans ((wide_mid _ k (⟨0 + e.val, by omega⟩ : Fin 2560)).trans (congrArg (A3 m c) (funext fun a => Fin.ext ?_))))
  · match a with
    | ⟨0, _⟩ => exact (Nat.zero_add _).symm
    | ⟨1, _⟩ => show 1024 + (0 + e.val) = 1024 + e.val; omega
  · match a with
    | ⟨0, _⟩ => rfl
    | ⟨1, _⟩ => show 1032 + (0 + e.val) = 1032 + e.val; omega

theorem wm (t : Fin cfg0.N) (k : Fin 1024) (e : Fin 1024) :
    (View.ld (iblk m c 2 t) r0_2 (ix2 k e : S1024x1024.Idx) : EReal) = A3 m c (ix2 k (⟨e.val, by omega⟩ : Fin 3608)) := by
  refine (View.ld_unit_apply_of (iblk m c 2 t) _ _ _ _ (ix2 k (⟨e.val, by omega⟩ : Fin 3712)) fun a => ?_).trans ((read_wide m c t k _).trans (wide_m _ k e))
  match a with
  | ⟨0, _⟩ => exact (Nat.zero_add _).symm
  | ⟨1, _⟩ => exact (Nat.zero_add _).symm

theorem ws (t : Fin cfg0.N) (k : Fin 1024) (e : Fin 128) :
    (View.ld (iblk m c 2 t) r0_11 (ix2 k e : S1024x128.Idx) : EReal) = wide (A3 m c) (ix2 k (⟨3584 + e.val, by omega⟩ : Fin 3712)) := by
  refine (View.ld_unit_apply_of (iblk m c 2 t) _ _ _ _ (ix2 k (⟨3584 + e.val, by omega⟩ : Fin 3712)) fun a => ?_).trans (read_wide m c t k _)
  match a with
  | ⟨0, _⟩ => exact (Nat.zero_add _).symm
  | ⟨1, _⟩ => rfl

abbrev outWin5 : Pipeline.Window sig grid0 := win0_5
theorem covers5 : outWin5.Covers := by decide +kernel
theorem emb5 (t : Fin grid0.N) (r : Fin 1024) (e : Fin 1024) :
    (outWin5.blk t).view.emb (ix2 r e : S1024x1024.Idx) = (ix2 (rowAt (blockOf t) r) e : S32768x1024.Idx) := by
  refine funext fun a => Fin.ext ?_
  refine (show ((outWin5.blk t).view.emb (ix2 r e : S1024x1024.Idx) a).val = jx5 t a * _ + 1 * ((ix2 r e : S1024x1024.Idx) a).val from rfl).trans ?_
  rw [at5]
  match a with
  | ⟨0, _⟩ => show (blockOf t).val * 1024 + 1 * r.val = 1024 * (blockOf t).val + r.val; omega
  | ⟨1, _⟩ => show 0 * 1024 + 1 * e.val = e.val; omega

theorem out_eq5 (x0 : Vec Ideal S1024x1024 .f32) (x1 : Vec Ideal S1x6x1024 .f32) (x2 : Vec Ideal S1024x3712 .bf16) (x3 x4 : Vec Ideal S1024x256 .f32) :
    out0_5 (F := Ideal) x0 x1 x2 x3 x4 = k0_pay5 (F := Ideal) x1 x0 (View.ld x2 r0_2) := by
  unfold out0_5
  rw [View.canon_unit_zero (by decide), View.ld_unit_zero (by decide), View.ld_unit_zero (by decide)]

theorem result5 : (dats m 0 c).arrAt 5 cfg0.N = val_main_v48 (F := Ideal) (A0 m c) (A1 m c) (A3 m c) := by
  refine (dats m 0 c).arrAt_eq_of_covers 5 _ covers5 fun t hf y => ?_
  obtain ⟨r, e, rfl⟩ : ∃ (r : Fin 1024) (e : Fin 1024), y = ix2 r e := ⟨y 0, y 1, funext fun a => by
    match a with
    | ⟨0, _⟩ => rfl
    | ⟨1, _⟩ => rfl⟩
  blk_simp
  rw [after0_5, out_eq5]
  refine Eq.trans ?_ (congrArg (val_main_v48 (F := Ideal) (A0 m c) (A1 m c) (A3 m c)) (emb5 t r e).symm)
  refine Eq.trans ?_ (Cert.Reference4Ideal.Proj.m_at (A0 m c) (A1 m c) (A3 m c) (rowAt (blockOf t) r) e).symm
  exact (pay5_at (iblk m c 1 t) (iblk m c 0 t) (View.ld (iblk m c 2 t) r0_2) r e).trans (sum_at m c t r _ _ fun k => wm m c t k e)

abbrev outWin6 : Pipeline.Window sig grid0 := win0_6
theorem covers6 : outWin6.Covers := by decide +kernel
theorem emb6 (t : Fin grid0.N) (r : Fin 1024) (e : Fin 768) :
    (outWin6.blk t).view.emb (ix2 r e : S1024x768.Idx) = (ix2 (rowAt (blockOf t) r) e : S32768x768.Idx) := by
  refine funext fun a => Fin.ext ?_
  refine (show ((outWin6.blk t).view.emb (ix2 r e : S1024x768.Idx) a).val = jx6 t a * _ + 1 * ((ix2 r e : S1024x768.Idx) a).val from rfl).trans ?_
  rw [at6]
  match a with
  | ⟨0, _⟩ => show (blockOf t).val * 1024 + 1 * r.val = 1024 * (blockOf t).val + r.val; omega
  | ⟨1, _⟩ => show 0 * 768 + 1 * e.val = e.val; omega

theorem out_eq6 (x0 : Vec Ideal S1024x1024 .f32) (x1 : Vec Ideal S1x6x1024 .f32) (x2 : Vec Ideal S1024x3712 .bf16) (x3 x4 : Vec Ideal S1024x256 .f32) :
    out0_6 (F := Ideal) x0 x1 x2 x3 x4 = k0_pay6 (F := Ideal) x1 x0 (View.ld x2 r0_3) := by
  unfold out0_6
  rw [View.canon_unit_zero (by decide), View.ld_unit_zero (by decide), View.ld_unit_zero (by decide)]

theorem result6 : (dats m 0 c).arrAt 6 cfg0.N = val_main_v49 (F := Ideal) (A0 m c) (A1 m c) (A3 m c) := by
  refine (dats m 0 c).arrAt_eq_of_covers 6 _ covers6 fun t hf y => ?_
  obtain ⟨r, e, rfl⟩ : ∃ (r : Fin 1024) (e : Fin 768), y = ix2 r e := ⟨y 0, y 1, funext fun a => by
    match a with
    | ⟨0, _⟩ => rfl
    | ⟨1, _⟩ => rfl⟩
  blk_simp
  rw [after0_6, out_eq6]
  refine Eq.trans ?_ (congrArg (val_main_v49 (F := Ideal) (A0 m c) (A1 m c) (A3 m c)) (emb6 t r e).symm)
  refine Eq.trans ?_ (Cert.Reference4Ideal.Proj.c_at (A0 m c) (A1 m c) (A3 m c) (rowAt (blockOf t) r) e).symm
  exact (pay6_at (iblk m c 1 t) (iblk m c 0 t) (View.ld (iblk m c 2 t) r0_3) r e).trans (sum_at m c t r _ _ fun k => wc m c t k e)

abbrev outWin10 : Pipeline.Window sig grid0 := win0_10
theorem covers10 : outWin10.Covers := by decide +kernel
theorem emb10 (t : Fin grid0.N) (r : Fin 1024) (e : Fin 1024) :
    (outWin10.blk t).view.emb (ix2 r e : S1024x1024.Idx) = (ix2 (rowAt (blockOf t) r) e : S32768x1024.Idx) := by
  refine funext fun a => Fin.ext ?_
  refine (show ((outWin10.blk t).view.emb (ix2 r e : S1024x1024.Idx) a).val = jx10 t a * _ + 1 * ((ix2 r e : S1024x1024.Idx) a).val from rfl).trans ?_
  rw [at10]
  match a with
  | ⟨0, _⟩ => show (blockOf t).val * 1024 + 1 * r.val = 1024 * (blockOf t).val + r.val; omega
  | ⟨1, _⟩ => show 0 * 1024 + 1 * e.val = e.val; omega

theorem out_eq10 (x0 : Vec Ideal S1024x1024 .f32) (x1 : Vec Ideal S1x6x1024 .f32) (x2 : Vec Ideal S1024x3712 .bf16) (x3 x4 : Vec Ideal S1024x256 .f32) :
    out0_10 (F := Ideal) x0 x1 x2 x3 x4 = k0_pay2 (F := Ideal) (k0_pay4 x1 x0) (View.ld x2 r0_10) := by
  unfold out0_10 k0_pay16
  rw [View.canon_unit_zero (by decide), View.ld_unit_zero (by decide), View.ld_unit_zero (by decide)]

theorem result10 : (dats m 0 c).arrAt 10 cfg0.N = val_main_v87 (F := Ideal) (A0 m c) (A1 m c) (A3 m c) := by
  refine (dats m 0 c).arrAt_eq_of_covers 10 _ covers10 fun t hf y => ?_
  obtain ⟨r, e, rfl⟩ : ∃ (r : Fin 1024) (e : Fin 1024), y = ix2 r e := ⟨y 0, y 1, funext fun a => by
    match a with
    | ⟨0, _⟩ => rfl
    | ⟨1, _⟩ => rfl⟩
  blk_simp
  rw [after0_10, out_eq10]
  refine Eq.trans ?_ (congrArg (val_main_v87 (F := Ideal) (A0 m c) (A1 m c) (A3 m c)) (emb10 t r e).symm)
  refine Eq.trans ?_ (Cert.Reference4Ideal.Proj.g_at (A0 m c) (A1 m c) (A3 m c) (rowAt (blockOf t) r) e).symm
  exact (pay2_at (U m c t) (View.ld (iblk m c 2 t) r0_10) r e).trans (sum_at m c t r _ _ fun k => wg m c t k e)

abbrev outWin11 : Pipeline.Window sig grid0 := win0_11
theorem covers11 : outWin11.Covers := by decide +kernel
theorem emb11 (t : Fin grid0.N) (r : Fin 1024) (e : Fin 128) :
    (outWin11.blk t).view.emb (ix2 r e : S1024x128.Idx) = (ix2 (rowAt (blockOf t) r) e : S32768x128.Idx) := by
  refine funext fun a => Fin.ext ?_
  refine (show ((outWin11.blk t).view.emb (ix2 r e : S1024x128.Idx) a).val = jx11 t a * _ + 1 * ((ix2 r e : S1024x128.Idx) a).val from rfl).trans ?_
  rw [at11]
  match a with
  | ⟨0, _⟩ => show (blockOf t).val * 1024 + 1 * r.val = 1024 * (blockOf t).val + r.val; omega
  | ⟨1, _⟩ => show 0 * 128 + 1 * e.val = e.val; omega

theorem out_eq11 (x0 : Vec Ideal S1024x1024 .f32) (x1 : Vec Ideal S1x6x1024 .f32) (x2 : Vec Ideal S1024x3712 .bf16) (x3 x4 : Vec Ideal S1024x256 .f32) :
    out0_11 (F := Ideal) x0 x1 x2 x3 x4 = k0_pay3 (F := Ideal) (k0_pay4 x1 x0) (View.ld x2 r0_11) := by
  unfold out0_11 k0_pay16
  rw [View.canon_unit_zero (by decide), View.ld_unit_zero (by decide), View.ld_unit_zero (by decide)]

theorem small_eq (t : Fin cfg0.N) (r : Fin 1024) (e : Fin 128) :
    ∑ k : Fin 1024, U m c t (ix2 r k) * (View.ld (iblk m c 2 t) r0_11 (ix2 k e : S1024x128.Idx) : EReal) = val_main_v47 (F := Ideal) (A0 m c) (A1 m c) (A3 m c) (ix2 (rowAt (blockOf t) r) e) := by
  by_cases h1 : e.val < 8
  · refine Eq.trans ?_ (Cert.Reference4Ideal.Proj.s_at_a (A0 m c) (A1 m c) (A3 m c) (rowAt (blockOf t) r) (⟨e.val, h1⟩ : Fin 8)).symm
    exact sum_at m c t r _ _ fun k => (ws m c t k e).trans (wide_dt _ k (⟨e.val, h1⟩ : Fin 8))
  · by_cases h2 : e.val < 24
    · have he : (⟨8 + (⟨e.val - 8, by omega⟩ : Fin 16).val, by show 8 + (e.val - 8) < 128; omega⟩ : Fin 128) = e := Fin.ext (by show 8 + (e.val - 8) = e.val; omega)
      refine Eq.trans ?_ ((Cert.Reference4Ideal.Proj.s_at_b (A0 m c) (A1 m c) (A3 m c) (rowAt (blockOf t) r) (⟨e.val - 8, by omega⟩ : Fin 16)).symm.trans (congrArg (fun i => val_main_v47 (F := Ideal) (A0 m c) (A1 m c) (A3 m c) (ix2 (rowAt (blockOf t) r) i)) he))
      refine sum_at m c t r _ _ fun k => (ws m c t k e).trans (Eq.trans (congrArg (fun i => wide (A3 m c) (ix2 k i)) (Fin.ext ?_)) (wide_ga _ k (⟨e.val - 8, by omega⟩ : Fin 16)))
      show 3584 + e.val = 3592 + (e.val - 8)
      omega
    · have he : (⟨24 + (⟨e.val - 24, by omega⟩ : Fin 104).val, by show 24 + (e.val - 24) < 128; omega⟩ : Fin 128) = e := Fin.ext (by show 24 + (e.val - 24) = e.val; omega)
      refine Eq.trans ?_ ((Cert.Reference4Ideal.Proj.s_at_c (A0 m c) (A1 m c) (A3 m c) (rowAt (blockOf t) r) (⟨e.val - 24, by omega⟩ : Fin 104)).symm.trans (congrArg (fun i => val_main_v47 (F := Ideal) (A0 m c) (A1 m c) (A3 m c) (ix2 (rowAt (blockOf t) r) i)) he))
      refine Finset.sum_eq_zero fun k _ => ?_
      have hz : @Eq EReal (View.ld (iblk m c 2 t) r0_11 (ix2 k e : S1024x128.Idx)) 0 :=
        (ws m c t k e).trans (Eq.trans (congrArg (fun i => wide (A3 m c) (ix2 k i)) (Fin.ext (by show 3584 + e.val = 3608 + (e.val - 24); omega))) (wide_pad _ k (⟨e.val - 24, by omega⟩ : Fin 104)))
      exact (congrArg (fun q : EReal => U m c t (ix2 r k) * q) hz).trans (mul_zero _)

theorem result11 : (dats m 0 c).arrAt 11 cfg0.N = val_main_v47 (F := Ideal) (A0 m c) (A1 m c) (A3 m c) := by
  refine (dats m 0 c).arrAt_eq_of_covers 11 _ covers11 fun t hf y => ?_
  obtain ⟨r, e, rfl⟩ : ∃ (r : Fin 1024) (e : Fin 128), y = ix2 r e := ⟨y 0, y 1, funext fun a => by
    match a with
    | ⟨0, _⟩ => rfl
    | ⟨1, _⟩ => rfl⟩
  blk_simp
  rw [after0_11, out_eq11]
  refine Eq.trans ?_ (congrArg (val_main_v47 (F := Ideal) (A0 m c) (A1 m c) (A3 m c)) (emb11 t r e).symm)
  exact (pay3_at (U m c t) (View.ld (iblk m c 2 t) r0_11) r e).trans (small_eq m c t r e)

abbrev outWin7 : Pipeline.Window sig grid0 := win0_7
theorem covers7 : outWin7.Covers := by decide +kernel
theorem emb7 (t : Fin grid0.N) (r : Fin 1024) (e : Fin 256) :
    (outWin7.blk t).view.emb (ix2 r e : S1024x256.Idx) = (ix2 (rowAt (blockOf t) r) e : S32768x256.Idx) := by
  refine funext fun a => Fin.ext ?_
  refine (show ((outWin7.blk t).view.emb (ix2 r e : S1024x256.Idx) a).val = jx7 t a * _ + 1 * ((ix2 r e : S1024x256.Idx) a).val from rfl).trans ?_
  rw [at7]
  match a with
  | ⟨0, _⟩ => show (blockOf t).val * 1024 + 1 * r.val = 1024 * (blockOf t).val + r.val; omega
  | ⟨1, _⟩ => show 0 * 256 + 1 * e.val = e.val; omega

theorem out_eq7 (x0 : Vec Ideal S1024x1024 .f32) (x1 : Vec Ideal S1x6x1024 .f32) (x2 : Vec Ideal S1024x3712 .bf16) (x3 x4 : Vec Ideal S1024x256 .f32) :
    out0_7 (F := Ideal) x0 x1 x2 x3 x4 = k0_pay14 (F := Ideal) (k0_pay4 x1 x0) (Scalar.select (Scalar.cmpi .eq 8#32 0#32) 1#32 8#32) k0_pay7 k0_pay8 k0_pay9 k0_pay10 x3 x4 (View.ld x2 r0_6) := by
  unfold out0_7 k0_pay20 k0_pay19 k0_pay18 k0_pay17 k0_pay16
  rw [View.canon_unit_zero (by decide), View.ld_unit_zero (by decide), View.ld_unit_zero (by decide), View.ld_unit_zero (by decide), View.ld_unit_zero (by decide)]

theorem prj_q (t : Fin cfg0.N) (r : Fin 1024) (e : Fin 256) :
    prj (U m c t) (View.ld (iblk m c 2 t) r0_6) (ix2 r e) = val_main_v17 (F := Ideal) (A0 m c) (A1 m c) (A3 m c) (ix2 (rowAt (blockOf t) r) e) :=
  ((prj_at _ _ r e).trans (sum_at m c t r _ _ fun k => wq m c t k e)).trans (Cert.Reference4Ideal.Proj.v17_at (A0 m c) (A1 m c) (A3 m c) (rowAt (blockOf t) r) e).symm

theorem turned_q (t : Fin cfg0.N) (r : Fin 1024) (e : Fin 256) :
    turned (prj (U m c t) (View.ld (iblk m c 2 t) r0_6)) (iblk m c 3 t) (iblk m c 4 t) lanes (ix2 r e)
      = val_main_v65 (F := Ideal) (A0 m c) (A1 m c) (A2 m c) (A3 m c) (ix2 (rowAt (blockOf t) r) e) := by
  refine (turned_at _ _ _ r e).trans ?_
  rw [read_cos, read_sin, cosines_at, sines_at]
  unfold swapped
  rw [prj_q, prj_q, prj_q]
  exact turn_cases (fun i => val_main_v17 (F := Ideal) (A0 m c) (A1 m c) (A3 m c) (ix2 (rowAt (blockOf t) r) i))
    (fun i => val_main_v65 (F := Ideal) (A0 m c) (A1 m c) (A2 m c) (A3 m c) (ix2 (rowAt (blockOf t) r) i)) (fun d => cs (A2 m c) (rowAt (blockOf t) r) d) (fun d => sn (A2 m c) (rowAt (blockOf t) r) d)
    (fun h d => Cert.Reference4Ideal.Proj.q_at_a (A0 m c) (A1 m c) (A2 m c) (A3 m c) _ h d) (fun h d => Cert.Reference4Ideal.Proj.q_at_b (A0 m c) (A1 m c) (A2 m c) (A3 m c) _ h d)
    (fun h d => Cert.Reference4Ideal.Proj.q_at_c (A0 m c) (A1 m c) (A2 m c) (A3 m c) _ h d) e

theorem result7 : (dats m 0 c).arrAt 7 cfg0.N = val_main_v68 (F := Ideal) (A0 m c) (A1 m c) (A2 m c) (A3 m c) := by
  refine (dats m 0 c).arrAt_eq_of_covers 7 _ covers7 fun t hf y => ?_
  obtain ⟨r, e, rfl⟩ : ∃ (r : Fin 1024) (e : Fin 256), y = ix2 r e := ⟨y 0, y 1, funext fun a => by
    match a with
    | ⟨0, _⟩ => rfl
    | ⟨1, _⟩ => rfl⟩
  blk_simp
  rw [after0_7, out_eq7]
  refine Eq.trans ?_ (congrArg (val_main_v68 (F := Ideal) (A0 m c) (A1 m c) (A2 m c) (A3 m c)) (emb7 t r e).symm)
  refine (pay14_eq (U m c t) (iblk m c 3 t) (iblk m c 4 t) (View.ld (iblk m c 2 t) r0_6) (ix2 r e)).trans ?_
  exact congrArg (fun q : EReal => q * Ideal.ofBits .f32 0x3E8293EE#32) (turned_q m c t r e)

abbrev outWin8 : Pipeline.Window sig grid0 := win0_8
theorem covers8 : outWin8.Covers := by decide +kernel
theorem emb8 (t : Fin grid0.N) (r : Fin 1024) (e : Fin 256) :
    (outWin8.blk t).view.emb (ix2 r e : S1024x256.Idx) = (ix2 (rowAt (blockOf t) r) e : S32768x256.Idx) := by
  refine funext fun a => Fin.ext ?_
  refine (show ((outWin8.blk t).view.emb (ix2 r e : S1024x256.Idx) a).val = jx8 t a * _ + 1 * ((ix2 r e : S1024x256.Idx) a).val from rfl).trans ?_
  rw [at8]
  match a with
  | ⟨0, _⟩ => show (blockOf t).val * 1024 + 1 * r.val = 1024 * (blockOf t).val + r.val; omega
  | ⟨1, _⟩ => show 0 * 256 + 1 * e.val = e.val; omega

theorem out_eq8 (x0 : Vec Ideal S1024x1024 .f32) (x1 : Vec Ideal S1x6x1024 .f32) (x2 : Vec Ideal S1024x3712 .bf16) (x3 x4 : Vec Ideal S1024x256 .f32) :
    out0_8 (F := Ideal) x0 x1 x2 x3 x4 = k0_pay15 (F := Ideal) (k0_pay4 x1 x0) (Scalar.select (Scalar.cmpi .eq 8#32 0#32) 1#32 8#32) k0_pay7 k0_pay8 k0_pay9 k0_pay10 x3 x4 (View.ld x2 r0_7) := by
  unfold out0_8 k0_pay20 k0_pay19 k0_pay18 k0_pay17 k0_pay16
  rw [View.canon_unit_zero (by decide), View.ld_unit_zero (by decide), View.ld_unit_zero (by decide), View.ld_unit_zero (by decide), View.ld_unit_zero (by decide)]

theorem prj_k (t : Fin cfg0.N) (r : Fin 1024) (e : Fin 256) :
    prj (U m c t) (View.ld (iblk m c 2 t) r0_7) (ix2 r e) = val_main_v18 (F := Ideal) (A0 m c) (A1 m c) (A3 m c) (ix2 (rowAt (blockOf t) r) e) :=
  ((prj_at _ _ r e).trans (sum_at m c t r _ _ fun k => wk m c t k e)).trans (Cert.Reference4Ideal.Proj.v18_at (A0 m c) (A1 m c) (A3 m c) (rowAt (blockOf t) r) e).symm

theorem turned_k (t : Fin cfg0.N) (r : Fin 1024) (e : Fin 256) :
    turned (prj (U m c t) (View.ld (iblk m c 2 t) r0_7)) (iblk m c 3 t) (iblk m c 4 t) lanes (ix2 r e)
      = val_main_v84 (F := Ideal) (A0 m c) (A1 m c) (A2 m c) (A3 m c) (ix2 (rowAt (blockOf t) r) e) := by
  refine (turned_at _ _ _ r e).trans ?_
  rw [read_cos, read_sin, cosines_at, sines_at]
  unfold swapped
  rw [prj_k, prj_k, prj_k]
  exact turn_cases (fun i => val_main_v18 (F := Ideal) (A0 m c) (A1 m c) (A3 m c) (ix2 (rowAt (blockOf t) r) i))
    (fun i => val_main_v84 (F := Ideal) (A0 m c) (A1 m c) (A2 m c) (A3 m c) (ix2 (rowAt (blockOf t) r) i)) (fun d => cs (A2 m c) (rowAt (blockOf t) r) d) (fun d => sn (A2 m c) (rowAt (blockOf t) r) d)
    (fun h d => Cert.Reference4Ideal.Proj.k_at_a (A0 m c) (A1 m c) (A2 m c) (A3 m c) _ h d) (fun h d => Cert.Reference4Ideal.Proj.k_at_b (A0 m c) (A1 m c) (A2 m c) (A3 m c) _ h d)
    (fun h d => Cert.Reference4Ideal.Proj.k_at_c (A0 m c) (A1 m c) (A2 m c) (A3 m c) _ h d) e

theorem result8 : (dats m 0 c).arrAt 8 cfg0.N = val_main_v85 (F := Ideal) (A0 m c) (A1 m c) (A2 m c) (A3 m c) := by
  refine (dats m 0 c).arrAt_eq_of_covers 8 _ covers8 fun t hf y => ?_
  obtain ⟨r, e, rfl⟩ : ∃ (r : Fin 1024) (e : Fin 256), y = ix2 r e := ⟨y 0, y 1, funext fun a => by
    match a with
    | ⟨0, _⟩ => rfl
    | ⟨1, _⟩ => rfl⟩
  blk_simp
  rw [after0_8, out_eq8]
  refine Eq.trans ?_ (congrArg (val_main_v85 (F := Ideal) (A0 m c) (A1 m c) (A2 m c) (A3 m c)) (emb8 t r e).symm)
  refine (pay15_eq (U m c t) (iblk m c 3 t) (iblk m c 4 t) (View.ld (iblk m c 2 t) r0_7) (ix2 r e)).trans ?_
  exact turned_k m c t r e

abbrev outWin9 : Pipeline.Window sig grid0 := win0_9
theorem covers9 : outWin9.Covers := by decide +kernel
theorem emb9 (t : Fin grid0.N) (e : Fin 512) (r : Fin 1024) :
    (outWin9.blk t).view.emb (ix2 e r : S512x1024.Idx) = (ix2 e (rowAt (blockOf t) r) : S512x32768.Idx) := by
  refine funext fun a => Fin.ext ?_
  refine (show ((outWin9.blk t).view.emb (ix2 e r : S512x1024.Idx) a).val = jx9 t a * _ + 1 * ((ix2 e r : S512x1024.Idx) a).val from rfl).trans ?_
  rw [at9]
  match a with
  | ⟨0, _⟩ => show 0 * 512 + 1 * e.val = e.val; omega
  | ⟨1, _⟩ => show (blockOf t).val * 1024 + 1 * r.val = 1024 * (blockOf t).val + r.val; omega

theorem out_eq9 (x0 : Vec Ideal S1024x1024 .f32) (x1 : Vec Ideal S1x6x1024 .f32) (x2 : Vec Ideal S1024x3712 .bf16) (x3 x4 : Vec Ideal S1024x256 .f32) :
    out0_9 (F := Ideal) x0 x1 x2 x3 x4 = k0_pay1 (F := Ideal) (k0_pay4 x1 x0) (View.ld x2 r0_8) := by
  unfold out0_9 k0_pay16
  rw [View.canon_unit_zero (by decide), View.ld_unit_zero (by decide), View.ld_unit_zero (by decide)]

theorem tall_eq (t : Fin cfg0.N) (e : Fin 512) (r : Fin 1024) :
    stacked (across (U m c t) (View.ld (iblk m c 2 t) r0_8)) rim (ix2 e r) = val_main_v86 (F := Ideal) (A0 m c) (A1 m c) (A3 m c) (ix2 e (rowAt (blockOf t) r)) := by
  by_cases h1 : e.val % 128 < 64
  · obtain ⟨h, d, he⟩ : ∃ (h : Fin 4) (d : Fin 64), e.val = 128 * h.val + d.val :=
      ⟨⟨e.val / 128, by omega⟩, ⟨e.val % 128, h1⟩, by show e.val = 128 * (e.val / 128) + e.val % 128; omega⟩
    have hE : e = (⟨128 * h.val + d.val, by omega⟩ : Fin 512) := Fin.ext he
    rw [hE, stacked_val, across_at, prj_at]
    exact (sum_at m c t r _ _ fun k => wv m c t k (⟨64 * h.val + d.val, by omega⟩ : Fin 256)).trans (Cert.Reference4Ideal.Proj.v_at_a (A0 m c) (A1 m c) (A3 m c) h d (rowAt (blockOf t) r)).symm
  · obtain ⟨h, d, he⟩ : ∃ (h : Fin 4) (d : Fin 64), e.val = 128 * h.val + 64 + d.val :=
      ⟨⟨e.val / 128, by omega⟩, ⟨e.val % 128 - 64, by omega⟩, by show e.val = 128 * (e.val / 128) + 64 + (e.val % 128 - 64); omega⟩
    have hE : e = (⟨128 * h.val + 64 + d.val, by omega⟩ : Fin 512) := Fin.ext he
    rw [hE, stacked_rim, rim_at]
    exact (Cert.Reference4Ideal.Proj.v_at_b (A0 m c) (A1 m c) (A3 m c) h d (rowAt (blockOf t) r)).symm

theorem result9 : (dats m 0 c).arrAt 9 cfg0.N = val_main_v86 (F := Ideal) (A0 m c) (A1 m c) (A3 m c) := by
  refine (dats m 0 c).arrAt_eq_of_covers 9 _ covers9 fun t hf y => ?_
  obtain ⟨e, r, rfl⟩ : ∃ (e : Fin 512) (r : Fin 1024), y = ix2 e r := ⟨y 0, y 1, funext fun a => by
    match a with
    | ⟨0, _⟩ => rfl
    | ⟨1, _⟩ => rfl⟩
  blk_simp
  rw [after0_9, out_eq9]
  refine Eq.trans ?_ (congrArg (val_main_v86 (F := Ideal) (A0 m c) (A1 m c) (A3 m c)) (emb9 t e r).symm)
  exact (pay1_eq (U m c t) (View.ld (iblk m c 2 t) r0_8) (ix2 e r)).trans (tall_eq m c t e r)

end Cert.Kernel4Ideal.Proj

end

end
-- ==== Proof.More.lean ====
/-
  The claims about the modulation call and the input projection call.
-/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.ModVal
public import proofs.«01_k».proof.Proof.ProjVal
public import Idealize.ShloMosaic.Lib.Quiescent
public import Idealize.ShloMosaic.Lib.Claim

@[expose] public section

set_option maxHeartbeats 4000000

noncomputable section

namespace Cert.More

open Idealize.ShloMosaic Idealize.ShloMosaic.TcCoe Idealize.SL.Sem

/-- The frame of the modulation's reference: it declares no semaphore. -/
theorem frame_reference3 : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- The frame of the input projection's reference: it declares no semaphore. -/
theorem frame_reference4 : Cert.quiescent_Reference4Ideal (hReference4Ideal := Cert.Reference4Ideal.Gen.facts) := fun m g _ =>
  (θ_run (Cert.Reference4Ideal.defs (F := Ideal)) _ _).mono (fun r h => ⟨fun c => (h c).2.2.2.2.2.2.2, sem_eq_zero_of_no_sems (by decide) r.2⟩)
    (Cert.Reference4Ideal.Value.run (F := Ideal) m g)

/-- The modulation's result array is the reference's, over the extended reals. -/
theorem same_values3 : Cert.algebraic_Kernel3Ideal_Reference3Ideal (hKernel3Ideal := Cert.Kernel3Ideal.Gen.facts) (hReference3Ideal := Cert.Reference3Ideal.Gen.facts) :=
    fun m g m' g' hpre hargs => by
  refine ⟨fun c => Cert.Reference3Ideal.Read.val_main_v7 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)), ?_,
    (θ_run _ _ _).mono (fun r h c => ⟨(h c).1.trans (Cert.Reference3Ideal.Read.val_main_v7_eq (F := Ideal) _ _ _), (h c).2⟩) (Cert.Reference3Ideal.Value.run (F := Ideal) m' g')⟩
  refine (θ_run _ _ _).mono (fun r h c => ⟨(h c).1.trans ?_, (h c).2⟩) (Cert.Kernel3Ideal.Value.run_blocks (F := Ideal) m g)
  obtain ⟨a0, a1, a2⟩ := hargs c
  beta_reduce
  rw [a0, a1, a2]
  exact Cert.Kernel3Ideal.Mod.result m c

/-- The input projection's seven result arrays are the reference's, over the extended reals. -/
theorem same_values4 : Cert.algebraic_Kernel4Ideal_Reference4Ideal (hKernel4Ideal := Cert.Kernel4Ideal.Gen.facts) (hReference4Ideal := Cert.Reference4Ideal.Gen.facts) :=
    fun m g m' g' hpre hargs => by
  refine ⟨fun c => Cert.Reference4Ideal.Read.val_main_v48 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)), fun c => Cert.Reference4Ideal.Read.val_main_v49 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)), fun c => Cert.Reference4Ideal.Read.val_main_v68 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), fun c => Cert.Reference4Ideal.Read.val_main_v85 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), fun c => Cert.Reference4Ideal.Read.val_main_v86 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)), fun c => Cert.Reference4Ideal.Read.val_main_v87 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)), fun c => Cert.Reference4Ideal.Read.val_main_v47 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)), ?_,
    (θ_run _ _ _).mono (fun r h c => ⟨(h c).1.trans (Cert.Reference4Ideal.Read.val_main_v48_eq (F := Ideal) _ _ _), (h c).2.1.trans (Cert.Reference4Ideal.Read.val_main_v49_eq (F := Ideal) _ _ _), (h c).2.2.1.trans (Cert.Reference4Ideal.Read.val_main_v68_eq (F := Ideal) m' c), (h c).2.2.2.1.trans (Cert.Reference4Ideal.Read.val_main_v85_eq (F := Ideal) m' c), (h c).2.2.2.2.1.trans (Cert.Reference4Ideal.Read.val_main_v86_eq (F := Ideal) _ _ _), (h c).2.2.2.2.2.1.trans (Cert.Reference4Ideal.Read.val_main_v87_eq (F := Ideal) _ _ _), (h c).2.2.2.2.2.2.1.trans (Cert.Reference4Ideal.Read.val_main_v47_eq (F := Ideal) _ _ _), (h c).2.2.2.2.2.2.2⟩) (Cert.Reference4Ideal.Value.run (F := Ideal) m' g')⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Kernel4Ideal.Value.run_blocks (F := Ideal) m g)
  · obtain ⟨a0, a1, a2, a3⟩ := hargs c
    beta_reduce
    rw [a0, a1, a3]
    exact Cert.Kernel4Ideal.Proj.result5 m c
  · obtain ⟨a0, a1, a2, a3⟩ := hargs c
    beta_reduce
    rw [a0, a1, a3]
    exact Cert.Kernel4Ideal.Proj.result6 m c
  · obtain ⟨a0, a1, a2, a3⟩ := hargs c
    beta_reduce
    rw [a0, a1, a2, a3]
    exact Cert.Kernel4Ideal.Proj.result7 m c
  · obtain ⟨a0, a1, a2, a3⟩ := hargs c
    beta_reduce
    rw [a0, a1, a2, a3]
    exact Cert.Kernel4Ideal.Proj.result8 m c
  · obtain ⟨a0, a1, a2, a3⟩ := hargs c
    beta_reduce
    rw [a0, a1, a3]
    exact Cert.Kernel4Ideal.Proj.result9 m c
  · obtain ⟨a0, a1, a2, a3⟩ := hargs c
    beta_reduce
    rw [a0, a1, a3]
    exact Cert.Kernel4Ideal.Proj.result10 m c
  · obtain ⟨a0, a1, a2, a3⟩ := hargs c
    beta_reduce
    rw [a0, a1, a3]
    exact Cert.Kernel4Ideal.Proj.result11 m c

end Cert.More

end
-- ==== Proof.BodyRun.lean ====
/-
  One run of the kernel's body. The scratch for the scores is the one buffer that the body fills only inside its loops,
  so the pieces that the run leaves in the result are stated as a function of what that scratch held at the start.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces that the body writes into its result, as a function of what the scores' scratch held, with the proof that the
    body runs and leaves them. -/
noncomputable def bodyRun (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S512x4096 .bf16) (harg4 : arg4.IsWhole) (arg5 : Memref sig .tc .vmem S4x128 .f32) (harg5 : arg5.IsWhole) (arg6 : Memref sig .tc .vmem S1x64 .f32) (harg6 : arg6.IsWhole) (arg7 : Memref sig .tc .vmem S512x256 .bf16) (harg7 : arg7.IsWhole) (arg8 : Memref sig .tc .vmem S8x512x128 .bf16) (harg8 : arg8.IsWhole) (arg9 : Memref sig .tc .vmem S8x8x512 .f32) (harg9 : arg9.IsWhole) (arg10 : Memref sig .tc .vmem S8x128x512 .f32) (harg10 : arg10.IsWhole) (arg11 : Memref sig .tc .vmem S8x512x512 .f32) (harg11 : arg11.IsWhole)
    (x0 : Vec F S512x256 .bf16) (x1 : Vec F S4096x256 .bf16) (x2 : Vec F S512x4096 .bf16) (x3 : Vec F S4x128 .f32) (x4 : Vec F S1x64 .f32) :
    { L5 : Vec F S8x512x512 .f32 → List (View.Piece (Elt F) S512x256 .bf16) //
      ∀ (E : Set ℕ) (K : PUnit → sProp 𝕄) (d : Vec F S8x512x512 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (L5 d)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11) K } := by
  refine ⟨?_, fun E K d => ?run⟩
  case run =>
    simp only [cc0_diff_attn_eq_skeleton]; unfold cc0_diff_attn_skel
    simp only [k0_part38_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Blk

end
-- ==== Proof.Trip.lean ====
/-
  One trip of the kernel's loop over the key blocks, read as a function of what the trip finds: for each of the eight
  (head, component) pairs the new running maximum and the new running sums.
-/
module

public import proofs.«01_k».proof.Proof.Gen.KernelIdeal.Loops
public import Idealize.ShloMosaic.Lib.WritesUnit
public import Idealize.ShloMosaic.Lib.VecWindow
public import Idealize.ShloMosaic.Lib.Pipeline.ReadBack

@[expose] public section

set_option maxRecDepth 16384

noncomputable section

namespace Cert.KernelIdeal.Blk

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The first key of the block that trip `k` reads, as the program's own words compute it. -/
def key0 (k : ℕ) : ℕ := BitVec.toNat (Scalar.indexCast (Scalar.muli (Scf.iv 0#32 1#32 k) 512#32))

theorem key0_eq : ∀ k : Fin 8, key0 k.val = 512 * k.val := by decide +kernel

theorem key0_le {k : ℕ} (h : k < 8) : key0 k + 512 ≤ 4096 := by
  have := key0_eq ⟨k, h⟩
  simp only at this
  omega

/-- A block of keys against the queries of one pair: the scores, keys down and queries across. -/
def blkSt (kb : Vec F S512x128 .bf16) (qm : Vec F S1x512x128 .bf16) : FVec F S512x512 .f32 :=
  shapeCast S512x512 (shapeCast S1x512x512
    (matmul dot_S512x128_S512x128_S512x512_1_1_0_0_n_n none (shapeCast S512x128 kb shapeCasts_S512x128_S512x128)
      (shapeCast S512x128 qm shapeCasts_S1x512x128_S512x128) (constant S512x512 .f32 0x00000000#32))
    shapeCasts_S512x512_S1x512x512) shapeCasts_S1x512x512_S512x512

/-- The running maximum brought up to date with a block of scores. -/
def newMax (st : FVec F S512x512 .f32) (mo : Vec F S1x8x512 .f32) : FVec F S8x512 .f32 :=
  have a : FVec F S8x512 .f32 := multiReduction .maximumf [0] S8x512 (shapeCast S64x8x512 st shapeCasts_S512x512_S64x8x512) 0xFF800000#32 reduces_S64x8x512_S8x512 (.inl rfl) rfl
  have b : FVec F S8x512 .f32 := maximumf a (dynamicRotate 0 4#32 none a rotates_S8x512_d0)
  have d : FVec F S8x512 .f32 := maximumf b (dynamicRotate 0 2#32 none b rotates_S8x512_d0)
  maximumf (shapeCast S8x512 mo shapeCasts_S1x8x512_S8x512) (maximumf d (dynamicRotate 0 1#32 none d rotates_S8x512_d0))

/-- The running sums brought up to date with a block of scores and the block's values. -/
def newAcc (vt : Vec F S128x512 .bf16) (st : FVec F S512x512 .f32) (mo : Vec F S1x8x512 .f32) (ao : Vec F S1x128x512 .f32) : FVec F S1x128x512 .f32 :=
  have alpha : FVec F S8x512 .f32 := exp2 (subf (shapeCast S8x512 mo shapeCasts_S1x8x512_S8x512) (newMax st mo))
  have p3 : FVec F S64x8x512 .f32 := exp2 (subf (shapeCast S64x8x512 st shapeCasts_S512x512_S64x8x512)
    (broadcastTo S64x8x512 (shapeCast S1x8x512 (newMax st mo) shapeCasts_S8x512_S1x8x512) broadcasts_S1x8x512_S64x8x512))
  have p : FVec F S512x512 .bf16 := truncf .bf16 (shapeCast S512x512 p3 shapeCasts_S64x8x512_S512x512) bitsLt_bf16_f32
  have a3 : FVec F S16x8x512 .f32 := mulf (shapeCast S16x8x512 (shapeCast S128x512 ao shapeCasts_S1x128x512_S128x512) shapeCasts_S128x512_S16x8x512)
    (broadcastTo S16x8x512 (shapeCast S1x8x512 alpha shapeCasts_S8x512_S1x8x512) broadcasts_S1x8x512_S16x8x512)
  shapeCast S1x128x512 (addf (shapeCast S128x512 a3 shapeCasts_S16x8x512_S128x512)
    (matmul dot_S128x512_S512x512_S128x512_1_0_0_1_n_n none (shapeCast S128x512 vt shapeCasts_S128x512_S128x512) p (constant S128x512 .f32 0x00000000#32))) shapeCasts_S128x512_S1x128x512

/-- Where pair `h`'s keys, values and slots lie. -/
def offK (k : ℕ) (h : Fin 8) : Fin 2 → ℕ := ![key0 k, 128 * (h.val / 4)]
def offV (k : ℕ) (h : Fin 8) : Fin 2 → ℕ := ![128 * (h.val / 2), key0 k]
def offH (h : Fin 8) : Fin 3 → ℕ := ![h.val, 0, 0]

theorem inbK {k : ℕ} (hk : k < 8) (h : Fin 8) : ∀ a, offK k h a + S512x128.size a ≤ S4096x256.size a := fun a => by
  have := key0_le hk
  match a with
  | 0 => exact this
  | 1 => show 128 * (h.val / 4) + 128 ≤ 256; omega

theorem inbV {k : ℕ} (hk : k < 8) (h : Fin 8) : ∀ a, offV k h a + S128x512.size a ≤ S512x4096.size a := fun a => by
  have := key0_le hk
  match a with
  | 0 => show 128 * (h.val / 2) + 128 ≤ 512; omega
  | 1 => exact this

theorem inbM : ∀ (h : Fin 8) (a : Fin 3), offH h a + (![1, 8, 512] : Fin 3 → ℕ) a ≤ S8x8x512.size a := by decide +kernel
theorem inbA : ∀ (h : Fin 8) (a : Fin 3), offH h a + (![1, 128, 512] : Fin 3 → ℕ) a ≤ S8x128x512.size a := by decide +kernel
theorem inbQ : ∀ (h : Fin 8) (a : Fin 3), offH h a + (![1, 512, 128] : Fin 3 → ℕ) a ≤ S8x512x128.size a := by decide +kernel

theorem trips_eq : ∀ i : grid0.Coords, (k0_t1_loop i).trips = (i 1).val := by decide +kernel

theorem trip_lt (i : grid0.Coords) (k : Fin (k0_t1_loop i).trips) : k.val < 8 :=
  lt_of_lt_of_le k.isLt (by rw [trips_eq]; exact (i 1).isLt.le)

section
variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S512x4096 .bf16) (harg4 : arg4.IsWhole) (arg5 : Memref sig .tc .vmem S4x128 .f32) (harg5 : arg5.IsWhole) (arg6 : Memref sig .tc .vmem S1x64 .f32) (harg6 : arg6.IsWhole) (arg7 : Memref sig .tc .vmem S512x256 .bf16) (harg7 : arg7.IsWhole) (arg8 : Memref sig .tc .vmem S8x512x128 .bf16) (harg8 : arg8.IsWhole) (arg9 : Memref sig .tc .vmem S8x8x512 .f32) (harg9 : arg9.IsWhole) (arg10 : Memref sig .tc .vmem S8x128x512 .f32) (harg10 : arg10.IsWhole) (arg11 : Memref sig .tc .vmem S8x512x512 .f32) (harg11 : arg11.IsWhole) (arg1 : BitVec 32) (v109 : FVec F S512x128 .bf16) (X_arg3 : BufTy.Contents (Elt F) arg3.view.ty) (X_arg4 : BufTy.Contents (Elt F) arg4.view.ty) (X_arg8 : BufTy.Contents (Elt F) arg8.view.ty) (k : Fin (k0_t1_loop i).trips)
  (f9 : BufTy.Contents (Elt F) arg9.view.ty) (f10 : BufTy.Contents (Elt F) arg10.view.ty) (f11 : BufTy.Contents (Elt F) arg11.view.ty)

/-- Pair `h`'s scores in trip `k`. -/
def stAt (k : Fin (k0_t1_loop i).trips) (h : Fin 8) : FVec F S512x512 .f32 :=
  blkSt (arg3.view.readAt (Elt F) (Rect.unit (s := S4096x256) (offK k.val h) S512x128.size (inbK (trip_lt i k) h)).toLoadRect X_arg3)
    (arg8.view.readAt (Elt F) (Rect.unit (s := S8x512x128) (offH h) ![1, 512, 128] (inbQ h)).toLoadRect X_arg8)

set_option maxHeartbeats 1000000 in
/-- What a trip stores: eight new maxima and eight new blocks of sums. -/
theorem trip_tiles :
    (tripL_k0_t1 (F := F) 𝒱 c bd i arg2 harg2 arg3 harg3 arg4 harg4 arg5 harg5 arg6 harg6 arg7 harg7 arg8 harg8 arg9 harg9 arg10 harg10 arg11 harg11 arg1 v109 X_arg3 X_arg4 X_arg8 k f9 f10 f11).1 = View.tilePieces ![1, 8, 512] offH inbM (fun h =>
        shapeCast S1x8x512 (newMax (stAt i arg3 arg8 X_arg3 X_arg8 k h)
          (arg9.view.readAt (Elt F) (Rect.unit (s := S8x8x512) (offH h) ![1, 8, 512] (inbM h)).toLoadRect f9)) shapeCasts_S8x512_S1x8x512) 8 le_rfl
    ∧ (tripL_k0_t1 (F := F) 𝒱 c bd i arg2 harg2 arg3 harg3 arg4 harg4 arg5 harg5 arg6 harg6 arg7 harg7 arg8 harg8 arg9 harg9 arg10 harg10 arg11 harg11 arg1 v109 X_arg3 X_arg4 X_arg8 k f9 f10 f11).2.1 = View.tilePieces ![1, 128, 512] offH inbA (fun h =>
        newAcc (arg4.view.readAt (Elt F) (Rect.unit (s := S512x4096) (offV k.val h) S128x512.size (inbV (trip_lt i k) h)).toLoadRect X_arg4)
          (stAt i arg3 arg8 X_arg3 X_arg8 k h)
          (arg9.view.readAt (Elt F) (Rect.unit (s := S8x8x512) (offH h) ![1, 8, 512] (inbM h)).toLoadRect f9)
          (arg10.view.readAt (Elt F) (Rect.unit (s := S8x128x512) (offH h) ![1, 128, 512] (inbA h)).toLoadRect f10)) 8 le_rfl := by
  unfold tripL_k0_t1 trip_k0_t1
  dsimp only
  sl_unfold_words
  simp (disch := decide) only [↓View.readCov_skip, ↓View.readCov_cons_toLoadRect]
  dsimp only [View.tilePieces, newMax, newAcc, stAt, blkSt, offK, offV, offH, key0, Nat.reduceDiv, Nat.reduceMul,
    k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140]
  exact ⟨rfl, rfl⟩

end

end Cert.KernelIdeal.Blk

end

end
-- ==== Proof.Loop.lean ====
/-
  The kernel's loop over the key blocks, read as one recursion per (head, component) pair: the pair's running maximum and
  running sums after so many blocks.
-/
module

public import proofs.«01_k».proof.Proof.Trip

@[expose] public section

set_option maxRecDepth 16384

noncomputable section

namespace Cert.KernelIdeal.Blk

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- Block `k` of the keys, the lanes of head pair `p`. -/
def kbOf (x1 : Vec F S4096x256 .bf16) (p k : ℕ) : Vec F S512x128 .bf16 :=
  VecWindow.window (s := S4096x256) x1 ![512 * min k 7, 128 * min p 1] S512x128.size (fun a => by
    match a with
    | 0 => show 512 * min k 7 + 512 ≤ 4096; omega
    | 1 => show 128 * min p 1 + 128 ≤ 256; omega)

/-- Block `k` of the values of head `g`, feature rows down. -/
def vtOf (x2 : Vec F S512x4096 .bf16) (g k : ℕ) : Vec F S128x512 .bf16 :=
  VecWindow.window (s := S512x4096) x2 ![128 * min g 3, 512 * min k 7] S128x512.size (fun a => by
    match a with
    | 0 => show 128 * min g 3 + 128 ≤ 512; omega
    | 1 => show 512 * min k 7 + 512 ≤ 4096; omega)

/-- One pair's running maximum and sums, brought up to date with a block. -/
def pairStep (st : FVec F S512x512 .f32) (vt : Vec F S128x512 .bf16) (s : Vec F S1x8x512 .f32 × Vec F S1x128x512 .f32) :
    Vec F S1x8x512 .f32 × Vec F S1x128x512 .f32 :=
  (shapeCast S1x8x512 (newMax st s.1) shapeCasts_S8x512_S1x8x512, newAcc vt st s.1 s.2)

/-- One pair's running maximum and sums after the first `k` blocks. -/
def pairRun (st : ℕ → FVec F S512x512 .f32) (vt : ℕ → Vec F S128x512 .bf16) (s : Vec F S1x8x512 .f32 × Vec F S1x128x512 .f32) :
    ℕ → Vec F S1x8x512 .f32 × Vec F S1x128x512 .f32
  | 0 => s
  | k + 1 => pairStep (st k) (vt k) (pairRun st vt s k)

/-- A load of one tile of a list of tiles that the first axis keeps apart reads that tile's payload. -/
theorem readAt_tile {sig : RefSig} {κ : Kind} {sp : Space} {s : Shape} {e : EltTy} {Val : EltTy → Type} (v : View sig κ sp s e)
    (f : v.ty.Contents Val) {NT : ℕ} (tsz : Fin s.rank → ℕ) (off : Fin NT → Fin s.rank → ℕ) (inb : ∀ i a, off i a + tsz a ≤ s.size a)
    (P : Fin NT → (⟨s.rank, tsz⟩ : Shape).Idx → Val e) (ax : Fin s.rank) (hoff : ∀ i, off i ax = i.val) (hsz : tsz ax = 1) (h : Fin NT)
    {o : Fin s.rank → ℕ} (ho : o = off h) (inb' : ∀ a, o a + tsz a ≤ s.size a) :
    v.readAt Val (Rect.unit o tsz inb').toLoadRect (v.writes Val f (View.tilePieces tsz off inb P NT le_rfl)) = P h := by
  subst ho
  rw [View.readAt_unit v _ inb' rfl inb']
  funext y
  have hy : ∀ a, ((Rect.unit (off h) tsz inb').emb y a).val = off h a + (y a).val := fun a => by
    show off h a + 1 * (y a).val = off h a + (y a).val
    omega
  refine View.read_tilePieces v f tsz off inb P NT le_rfl _ h h.isLt y hy ax fun i' hi' => ?_
  have h1 := hy ax
  have h2 : (y ax).val < tsz ax := (y ax).isLt
  have h3 : i'.val ≠ h.val := fun e => hi' (Fin.ext e)
  rw [h1, hoff, hoff, hsz]
  rw [hsz] at h2
  omega

section
variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S512x4096 .bf16) (harg4 : arg4.IsWhole) (arg5 : Memref sig .tc .vmem S4x128 .f32) (harg5 : arg5.IsWhole) (arg6 : Memref sig .tc .vmem S1x64 .f32) (harg6 : arg6.IsWhole) (arg7 : Memref sig .tc .vmem S512x256 .bf16) (harg7 : arg7.IsWhole) (arg8 : Memref sig .tc .vmem S8x512x128 .bf16) (harg8 : arg8.IsWhole) (arg9 : Memref sig .tc .vmem S8x8x512 .f32) (harg9 : arg9.IsWhole) (arg10 : Memref sig .tc .vmem S8x128x512 .f32) (harg10 : arg10.IsWhole) (arg11 : Memref sig .tc .vmem S8x512x512 .f32) (harg11 : arg11.IsWhole)

/-- The windows that trip `k` reads of the keys and the values. -/
theorem readK (k : Fin (k0_t1_loop i).trips) (h : Fin 8) (x1 : Vec F S4096x256 .bf16) :
    arg3.view.readAt (Elt F) (Rect.unit (s := S4096x256) (offK k.val h) S512x128.size (inbK (trip_lt i k) h)).toLoadRect (harg3.unread x1)
      = kbOf x1 (h.val / 4) k.val := by
  rw [View.readAt_unit arg3.view _ _ (off' := ![512 * min k.val 7, 128 * min (h.val / 4) 1]) (by
    have e := key0_eq ⟨k.val, trip_lt i k⟩
    have hk := trip_lt i k
    have := h.isLt
    simp only at e
    unfold offK
    rw [e, show min k.val 7 = k.val by omega, show min (h.val / 4) 1 = h.val / 4 by omega])]
  rw [Memref.IsWhole.read_unread]; rfl

theorem readV (k : Fin (k0_t1_loop i).trips) (h : Fin 8) (x2 : Vec F S512x4096 .bf16) :
    arg4.view.readAt (Elt F) (Rect.unit (s := S512x4096) (offV k.val h) S128x512.size (inbV (trip_lt i k) h)).toLoadRect (harg4.unread x2)
      = vtOf x2 (h.val / 2) k.val := by
  rw [View.readAt_unit arg4.view _ _ (off' := ![128 * min (h.val / 2) 3, 512 * min k.val 7]) (by
    have e := key0_eq ⟨k.val, trip_lt i k⟩
    have hk := trip_lt i k
    have := h.isLt
    simp only at e
    unfold offV
    rw [e, show min k.val 7 = k.val by omega, show min (h.val / 2) 3 = h.val / 2 by omega])]
  rw [Memref.IsWhole.read_unread]; rfl

variable (arg1 : BitVec 32) (v109 : FVec F S512x128 .bf16) (x1 : Vec F S4096x256 .bf16) (x2 : Vec F S512x4096 .bf16)
  (f8 : BufTy.Contents (Elt F) arg8.view.ty) (Q : Fin 8 → Vec F S1x512x128 .bf16)
  (f9 : BufTy.Contents (Elt F) arg9.view.ty) (f10 : BufTy.Contents (Elt F) arg10.view.ty) (f11 : BufTy.Contents (Elt F) arg11.view.ty)

/-- After `j` trips each pair's slots hold that pair's recursion, started from what the slots held. -/
theorem loop_slots (s : Fin 8 → Vec F S1x8x512 .f32 × Vec F S1x128x512 .f32)
    (h9 : ∀ h : Fin 8, arg9.view.readAt (Elt F) (Rect.unit (s := S8x8x512) (offH h) ![1, 8, 512] (inbM h)).toLoadRect f9 = (s h).1)
    (h10 : ∀ h : Fin 8, arg10.view.readAt (Elt F) (Rect.unit (s := S8x128x512) (offH h) ![1, 128, 512] (inbA h)).toLoadRect f10 = (s h).2) :
    ∀ (j : ℕ), j ≤ (k0_t1_loop i).trips → ∀ h : Fin 8,
      arg9.view.readAt (Elt F) (Rect.unit (s := S8x8x512) (offH h) ![1, 8, 512] (inbM h)).toLoadRect (arg9.view.writes (Elt F) f9 (pb_k0_t1 (F := F) 𝒱 c bd i arg2 harg2 arg3 harg3 arg4 harg4 arg5 harg5 arg6 harg6 arg7 harg7 arg8 harg8 arg9 harg9 arg10 harg10 arg11 harg11 arg1 v109 (harg3.unread x1) (harg4.unread x2) (arg8.view.writes (Elt F) f8 (View.tilePieces ![1, 512, 128] offH inbQ Q 8 le_rfl)) f9 f10 f11 j).1)
        = (pairRun (fun k => blkSt (kbOf x1 (h.val / 4) k) (Q h)) (fun k => vtOf x2 (h.val / 2) k) (s h) j).1
      ∧ arg10.view.readAt (Elt F) (Rect.unit (s := S8x128x512) (offH h) ![1, 128, 512] (inbA h)).toLoadRect (arg10.view.writes (Elt F) f10 (pb_k0_t1 (F := F) 𝒱 c bd i arg2 harg2 arg3 harg3 arg4 harg4 arg5 harg5 arg6 harg6 arg7 harg7 arg8 harg8 arg9 harg9 arg10 harg10 arg11 harg11 arg1 v109 (harg3.unread x1) (harg4.unread x2) (arg8.view.writes (Elt F) f8 (View.tilePieces ![1, 512, 128] offH inbQ Q 8 le_rfl)) f9 f10 f11 j).2.1)
        = (pairRun (fun k => blkSt (kbOf x1 (h.val / 4) k) (Q h)) (fun k => vtOf x2 (h.val / 2) k) (s h) j).2
  | 0, _, h => ⟨h9 h, h10 h⟩
  | j + 1, hj, h => by
    obtain ⟨e9, e10⟩ := loop_slots s h9 h10 j (Nat.le_of_succ_le hj) h
    have hs := pb_k0_t1_succ (F := F) 𝒱 c bd i arg2 harg2 arg3 harg3 arg4 harg4 arg5 harg5 arg6 harg6 arg7 harg7 arg8 harg8 arg9 harg9 arg10 harg10 arg11 harg11 arg1 v109 (harg3.unread x1) (harg4.unread x2) (arg8.view.writes (Elt F) f8 (View.tilePieces ![1, 512, 128] offH inbQ Q 8 le_rfl)) f9 f10 f11 ⟨j, hj⟩
    have tt := trip_tiles (F := F) 𝒱 c bd i arg2 harg2 arg3 harg3 arg4 harg4 arg5 harg5 arg6 harg6 arg7 harg7 arg8 harg8 arg9 harg9 arg10 harg10 arg11 harg11 arg1 v109 (harg3.unread x1) (harg4.unread x2) (arg8.view.writes (Elt F) f8 (View.tilePieces ![1, 512, 128] offH inbQ Q 8 le_rfl)) ⟨j, hj⟩
    have t9 := (congrArg (fun x => x.1) hs).trans (congrArg (· ++ _) (tt _ _ _).1)
    have t10 := (congrArg (fun x => x.2.1) hs).trans (congrArg (· ++ _) (tt _ _ _).2)
    dsimp only at t9 t10
    rw [t9, t10, View.writes_append, View.writes_append,
      readAt_tile arg9.view _ _ offH inbM _ 0 (fun _ => rfl) rfl h rfl (inbM h),
      readAt_tile arg10.view _ _ offH inbA _ 0 (fun _ => rfl) rfl h rfl (inbA h), e9, e10]
    have eS : stAt i arg3 arg8 (harg3.unread x1) (arg8.view.writes (Elt F) f8 (View.tilePieces ![1, 512, 128] offH inbQ Q 8 le_rfl)) ⟨j, hj⟩ h
        = blkSt (kbOf x1 (h.val / 4) j) (Q h) := by
      unfold stAt
      rw [readK i arg3 harg3 ⟨j, hj⟩ h x1,
        readAt_tile arg8.view _ _ offH inbQ _ 0 (fun _ => rfl) rfl h rfl (inbQ h)]
    rw [eS]
    exact ⟨rfl, congrArg (fun v => newAcc v _ _ _)
      (readV i arg4 harg4 ⟨j, hj⟩ h x2)⟩

end

end Cert.KernelIdeal.Blk

end

end
-- ==== Proof.BodyVal.lean ====
/-
  The value that one point of the grid stores: the block loop's recursion per pair, the diagonal block, and the finish of each
  head. It does not depend on what the scores' scratch held before.
-/
module

public import proofs.«01_k».proof.Proof.BodyRun
public import proofs.«01_k».proof.Proof.Loop

@[expose] public section

set_option maxRecDepth 16384

noncomputable section

namespace Cert.KernelIdeal.Blk

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The first key of the diagonal block, as the program's own words compute it. -/
def keyD (i : grid0.Coords) : ℕ := BitVec.toNat (Scalar.indexCast (Scalar.muli (BitVec.ofNat 32 (i 1).val) 512#32))

theorem keyD_eq : ∀ i : grid0.Coords, keyD i = 512 * (i 1).val := by decide +kernel

theorem keyD_le (i : grid0.Coords) : keyD i + 512 ≤ 4096 := by
  have h1 : (i 1).val < 8 := (i 1).isLt
  rw [keyD_eq]; omega

theorem trips_t2 : ∀ i : grid0.Coords, Scf.trips (Scalar.addi (0#32) (Scalar.muli (Scalar.divsi (Scalar.subi (BitVec.ofNat 32 (i 1).val) 0#32) 1#32) 1#32))
    (Scalar.addi (0#32) (Scalar.subi (BitVec.ofNat 32 (i 1).val) 0#32)) 1#32 = 0 := by decide +kernel

/-- A head pair's query lanes outside `lo ≤ lane < hi` set to nought. -/
def qmSel (qp : Vec F S512x128 .bf16) (lo hi : ℕ) : FVec F S1x512x128 .bf16 :=
  shapeCast S1x512x128 (select (broadcastTo S512x128 (shapeCast S1x128
      (andi (cmpi .sge (iota .tc S1x128 32 [1] iota_S1x128_d1_w32) (broadcast S1x128 (BitVec.ofNat 32 lo)))
        (cmpi .slt (iota .tc S1x128 32 [1] iota_S1x128_d1_w32) (broadcast S1x128 (BitVec.ofNat 32 hi)))) shapeCasts_S1x128_S1x128) broadcasts_S1x128_S512x128)
    (shapeCast S512x128 qp shapeCasts_S512x128_S512x128) (broadcast S512x128 (Scalar.ofBits .bf16 0x0000#16))) shapeCasts_S512x128_S1x512x128

/-- The diagonal block's scores, the keys after the query set to the least value. -/
def maskSt (st : FVec F S512x512 .f32) : FVec F S512x512 .f32 :=
  select (cmpi .sle (iota .tc S512x512 32 [0] iota_S512x512_d0_w32) (iota .tc S512x512 32 [1] iota_S512x512_d1_w32)) st
    (broadcast S512x512 (Scalar.ofBits .f32 0xFF800000#32))

/-- The weight of each head's second map. -/
def lamOf (x3 : Vec F S4x128 .f32) : FVec F S1x1 .f32 :=
  addf (subf
    (exp (shapeCast S1x1 (multiReduction .add [1] S1 (mulf (extractStridedSlice S1x128 ![0, 0] (shapeCast S4x128 x3 shapeCasts_S4x128_S4x128) slices_S4x128_o0_0_S1x128)
      (extractStridedSlice S1x128 ![1, 0] (shapeCast S4x128 x3 shapeCasts_S4x128_S4x128) slices_S4x128_o1_0_S1x128)) 0x00000000#32 reduces_S1x128_S1 (.inl rfl) rfl) shapeCasts_S1_S1x1))
    (exp (shapeCast S1x1 (multiReduction .add [1] S1 (mulf (extractStridedSlice S1x128 ![2, 0] (shapeCast S4x128 x3 shapeCasts_S4x128_S4x128) slices_S4x128_o2_0_S1x128)
      (extractStridedSlice S1x128 ![3, 0] (shapeCast S4x128 x3 shapeCasts_S4x128_S4x128) slices_S4x128_o3_0_S1x128)) 0x00000000#32 reduces_S1x128_S1 (.inl rfl) rfl) shapeCasts_S1_S1x1)))
    (broadcast S1x1 (Scalar.ofBits .f32 0x3E4CCCCD#32))

/-- A head's two sums, each over its denominator, the second weighed and taken off the first. -/
def diffH (lam : FVec F S1x1 .f32) (a1 a2 : Vec F S1x128x512 .f32) : FVec F S64x512 .f32 :=
  subf
    (divf (extractStridedSlice S64x512 ![0, 0] (shapeCast S128x512 a1 shapeCasts_S1x128x512_S128x512) slices_S128x512_o0_0_S64x512)
      (broadcastTo S64x512 (extractStridedSlice S1x512 ![64, 0] (shapeCast S128x512 a1 shapeCasts_S1x128x512_S128x512) slices_S128x512_o64_0_S1x512) broadcasts_S1x512_S64x512))
    (mulf (broadcastTo S64x512 lam broadcasts_S1x1_S64x512)
      (divf (extractStridedSlice S64x512 ![0, 0] (shapeCast S128x512 a2 shapeCasts_S1x128x512_S128x512) slices_S128x512_o0_0_S64x512)
        (broadcastTo S64x512 (extractStridedSlice S1x512 ![64, 0] (shapeCast S128x512 a2 shapeCasts_S1x128x512_S128x512) slices_S128x512_o64_0_S1x512) broadcasts_S1x512_S64x512)))

/-- A head's finish: the difference brought to unit mean square and weighed by the gain, queries down. -/
def finH (x4 : Vec F S1x64 .f32) (o : FVec F S64x512 .f32) : FVec F S512x64 .f32 :=
  mulf (transpose S512x64 [1, 0] (mulf o (broadcastTo S64x512 (rsqrt (addf
      (divf (shapeCast S1x512 (multiReduction .add [0] S512 (mulf o o) 0x00000000#32 reduces_S64x512_S512 (.inl rfl) rfl) shapeCasts_S512_S1x512)
        (broadcast S1x512 (Scalar.ofBits .f32 0x42800000#32)))
      (broadcast S1x512 (Scalar.ofBits .f32 0x358637BD#32)))) broadcasts_S1x512_S64x512)) transposes_S64x512_p1_0_S512x64)
    (broadcastTo S512x64 (mulf (shapeCast S1x64 x4 shapeCasts_S1x64_S1x64) (broadcast S1x64 (Scalar.ofBits .f32 0x3F4CCCCD#32))) broadcasts_S1x64_S512x64)

/-- The four heads side by side, from the eight pairs' final sums. -/
def headsOut (x3 : Vec F S4x128 .f32) (x4 : Vec F S1x64 .f32) (acc : Fin 8 → Vec F S1x128x512 .f32) : FVec F S512x256 .bf16 :=
  truncf .bf16 (concatenate S512x256 1 [⟨S512x64, finH x4 (diffH (lamOf x3) (acc 0) (acc 1))⟩, ⟨S512x64, finH x4 (diffH (lamOf x3) (acc 2) (acc 3))⟩,
    ⟨S512x64, finH x4 (diffH (lamOf x3) (acc 4) (acc 5))⟩, ⟨S512x64, finH x4 (diffH (lamOf x3) (acc 6) (acc 7))⟩] concatenates_S512x64_S512x64_S512x64_S512x64_S512x256_d1) bitsLt_bf16_f32

/-- The queries of a pair, its other lanes nought. -/
def qmOf (x0 : Vec F S512x256 .bf16) (h : Fin 8) : Vec F S1x512x128 .bf16 :=
  qmSel (VecWindow.window (s := S512x256) x0 ![0, 128 * (h.val / 4)] S512x128.size (fun a => by
    match a with
    | 0 => show 0 + 512 ≤ 512; omega
    | 1 => show 128 * (h.val / 4) + 128 ≤ 256; omega)) (32 * (h.val % 4)) (32 * (h.val % 4) + 32)

/-- The maxima and sums before the first block. -/
def start : Vec F S1x8x512 .f32 × Vec F S1x128x512 .f32 :=
  (fun _ => Scalar.ofBits .f32 0xFF800000#32, fun _ => Scalar.ofBits .f32 0x00000000#32)

/-- A pair's maxima and sums after the whole blocks before query block `t`. -/
def slotsOf (x0 : Vec F S512x256 .bf16) (x1 : Vec F S4096x256 .bf16) (x2 : Vec F S512x4096 .bf16) (t : ℕ) (h : Fin 8) :
    Vec F S1x8x512 .f32 × Vec F S1x128x512 .f32 :=
  pairRun (fun k => blkSt (kbOf x1 (h.val / 4) k) (qmOf x0 h)) (fun k => vtOf x2 (h.val / 2) k) start t

/-- A pair's final sums at query block `t`. -/
def accOf (x0 : Vec F S512x256 .bf16) (x1 : Vec F S4096x256 .bf16) (x2 : Vec F S512x4096 .bf16) (t : ℕ) (h : Fin 8) : Vec F S1x128x512 .f32 :=
  newAcc (vtOf x2 (h.val / 2) t) (maskSt (blkSt (kbOf x1 (h.val / 4) t) (qmOf x0 h))) (slotsOf x0 x1 x2 t h).1 (slotsOf x0 x1 x2 t h).2

/-- What query block `t` stores. -/
def blockOut (x0 : Vec F S512x256 .bf16) (x1 : Vec F S4096x256 .bf16) (x2 : Vec F S512x4096 .bf16) (x3 : Vec F S4x128 .f32) (x4 : Vec F S1x64 .f32) (t : ℕ) :
    FVec F S512x256 .bf16 :=
  headsOut x3 x4 (accOf x0 x1 x2 t)

theorem inbKD (i : grid0.Coords) (h : Fin 8) : ∀ a, (![keyD i, 128 * (h.val / 4)] : Fin 2 → ℕ) a + S512x128.size a ≤ S4096x256.size a := fun a => by
  have := keyD_le i
  match a with
  | 0 => exact this
  | 1 => show 128 * (h.val / 4) + 128 ≤ 256; omega

theorem inbVD (i : grid0.Coords) (h : Fin 8) : ∀ a, (![128 * (h.val / 2), keyD i] : Fin 2 → ℕ) a + S128x512.size a ≤ S512x4096.size a := fun a => by
  have := keyD_le i
  match a with
  | 0 => show 128 * (h.val / 2) + 128 ≤ 512; omega
  | 1 => exact this

theorem inbQD : ∀ (h : Fin 8) (a : Fin 2), (![0, 128 * (h.val / 4)] : Fin 2 → ℕ) a + (![512, 128] : Fin 2 → ℕ) a ≤ S512x256.size a := by decide +kernel

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S512x4096 .bf16) (harg4 : arg4.IsWhole) (arg5 : Memref sig .tc .vmem S4x128 .f32) (harg5 : arg5.IsWhole) (arg6 : Memref sig .tc .vmem S1x64 .f32) (harg6 : arg6.IsWhole) (arg7 : Memref sig .tc .vmem S512x256 .bf16) (harg7 : arg7.IsWhole) (arg8 : Memref sig .tc .vmem S8x512x128 .bf16) (harg8 : arg8.IsWhole) (arg9 : Memref sig .tc .vmem S8x8x512 .f32) (harg9 : arg9.IsWhole) (arg10 : Memref sig .tc .vmem S8x128x512 .f32) (harg10 : arg10.IsWhole) (arg11 : Memref sig .tc .vmem S8x512x512 .f32) (harg11 : arg11.IsWhole)
  (x0 : Vec F S512x256 .bf16) (x1 : Vec F S4096x256 .bf16) (x2 : Vec F S512x4096 .bf16) (x3 : Vec F S4x128 .f32) (x4 : Vec F S1x64 .f32) (d : Vec F S8x512x512 .f32)

/-- The pieces that the block loop leaves. -/
def loopPieces := pb_k0_t1 (F := F) Variants.none c none i arg2 harg2 arg3 harg3 arg4 harg4 arg5 harg5 arg6 harg6 arg7 harg7 arg8 harg8 arg9 harg9 arg10 harg10 arg11 harg11 (BitVec.ofNat 32 (i 1).val)
  (k0_pay141 (iota .tc S1x128 32 [1] iota_S1x128_d1_w32) (arg2.view.readAt (Elt F) (Rect.unit (s := S512x256) ![0, 128] ![512, 128] inb_S512x256_S512x128_0_128).toLoadRect (harg2.unread x0)))
  (harg3.unread x1) (harg4.unread x2)
  (arg8.view.writes (Elt F) arg8.view.junk (View.tilePieces ![1, 512, 128] offH inbQ (fun h =>
    qmSel (arg2.view.readAt (Elt F) (Rect.unit (s := S512x256) ![0, 128 * (h.val / 4)] ![512, 128] (inbQD h)).toLoadRect (harg2.unread x0)) (32 * (h.val % 4)) (32 * (h.val % 4) + 32)) 8 le_rfl))
  (arg9.view.writes (Elt F) arg9.view.junk [⟨Rect.unit (s := S8x8x512) ![0, 0, 0] ![8, 8, 512] inb_S8x8x512_S8x8x512_0_0_0, k0_pay143⟩])
  (arg10.view.writes (Elt F) arg10.view.junk [⟨Rect.unit (s := S8x128x512) ![0, 0, 0] ![8, 128, 512] inb_S8x128x512_S8x128x512_0_0_0, k0_pay144⟩])
  (harg11.unread d) (k0_t1_loop i).trips

/-- What a pair's slots read after the loop. -/
def slotM (h : Fin 8) : Vec F S1x8x512 .f32 :=
  arg9.view.readCov ((loopPieces c i arg2 harg2 arg3 harg3 arg4 harg4 arg5 harg5 arg6 harg6 arg7 harg7 arg8 harg8 arg9 harg9 arg10 harg10 arg11 harg11 x0 x1 x2 d).1 ++ [⟨Rect.unit (s := S8x8x512) ![0, 0, 0] ![8, 8, 512] inb_S8x8x512_S8x8x512_0_0_0, k0_pay143⟩])
    (Rect.unit (s := S8x8x512) (offH h) ![1, 8, 512] (inbM h)).toLoadRect
def slotA (h : Fin 8) : Vec F S1x128x512 .f32 :=
  arg10.view.readCov ((loopPieces c i arg2 harg2 arg3 harg3 arg4 harg4 arg5 harg5 arg6 harg6 arg7 harg7 arg8 harg8 arg9 harg9 arg10 harg10 arg11 harg11 x0 x1 x2 d).2.1 ++ [⟨Rect.unit (s := S8x128x512) ![0, 0, 0] ![8, 128, 512] inb_S8x128x512_S8x128x512_0_0_0, k0_pay144⟩])
    (Rect.unit (s := S8x128x512) (offH h) ![1, 128, 512] (inbA h)).toLoadRect

/-- A pair's final sums, of the slots and the loads of the diagonal block. -/
def accRaw (h : Fin 8) : Vec F S1x128x512 .f32 :=
  newAcc (arg4.view.readAt (Elt F) (Rect.unit (s := S512x4096) ![128 * (h.val / 2), keyD i] S128x512.size (inbVD i h)).toLoadRect (harg4.unread x2))
    (maskSt (blkSt (arg3.view.readAt (Elt F) (Rect.unit (s := S4096x256) ![keyD i, 128 * (h.val / 4)] S512x128.size (inbKD i h)).toLoadRect (harg3.unread x1))
      (qmSel (arg2.view.readAt (Elt F) (Rect.unit (s := S512x256) ![0, 128 * (h.val / 4)] ![512, 128] (inbQD h)).toLoadRect (harg2.unread x0)) (32 * (h.val % 4)) (32 * (h.val % 4) + 32))))
    (slotM c i arg2 harg2 arg3 harg3 arg4 harg4 arg5 harg5 arg6 harg6 arg7 harg7 arg8 harg8 arg9 harg9 arg10 harg10 arg11 harg11 x0 x1 x2 d h) (slotA c i arg2 harg2 arg3 harg3 arg4 harg4 arg5 harg5 arg6 harg6 arg7 harg7 arg8 harg8 arg9 harg9 arg10 harg10 arg11 harg11 x0 x1 x2 d h)

set_option maxHeartbeats 4000000 in
theorem pieces_raw : (bodyRun c i arg2 harg2 arg3 harg3 arg4 harg4 arg5 harg5 arg6 harg6 arg7 harg7 arg8 harg8 arg9 harg9 arg10 harg10 arg11 harg11 x0 x1 x2 x3 x4).1 d
    = [⟨Rect.unit (s := S512x256) ![0, 0] ![512, 256] inb_S512x256_S512x256_0_0,
        headsOut (arg5.view.readAt (Elt F) (Rect.unit (s := S4x128) ![0, 0] ![4, 128] inb_S4x128_S4x128_0_0).toLoadRect (harg5.unread x3))
          (arg6.view.readAt (Elt F) (Rect.unit (s := S1x64) ![0, 0] ![1, 64] inb_S1x64_S1x64_0_0).toLoadRect (harg6.unread x4))
          (accRaw c i arg2 harg2 arg3 harg3 arg4 harg4 arg5 harg5 arg6 harg6 arg7 harg7 arg8 harg8 arg9 harg9 arg10 harg10 arg11 harg11 x0 x1 x2 d)⟩] := by
  unfold bodyRun
  dsimp only
  sl_unfold_words
  simp (disch := decide) only [↓View.readCov_skip, ↓View.readCov_cons_toLoadRect]
  simp only [trips_t2, pb_k0_t2.eq_1, List.nil_append]
  dsimp only [headsOut, finH, diffH, lamOf, accRaw, slotM, slotA, loopPieces, View.tilePieces, newMax, newAcc, maskSt, blkSt, qmSel, offH, keyD,
    Nat.reduceDiv, Nat.reduceMul, Nat.reduceMod, Nat.reduceAdd, k0_pay1, k0_pay132, k0_pay133, k0_pay134, k0_pay135, k0_pay136, k0_pay137, k0_pay138, k0_pay139, k0_pay140, k0_pay141,
    k0_pay142, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198,
    k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230, k0_pay231,
    k0_pay232, k0_pay233, k0_pay234, k0_pay235, k0_pay236]
  exact rfl

theorem start_slots9 (h : Fin 8) : arg9.view.readAt (Elt F) (Rect.unit (s := S8x8x512) (offH h) ![1, 8, 512] (inbM h)).toLoadRect
    (arg9.view.writes (Elt F) arg9.view.junk [⟨Rect.unit (s := S8x8x512) ![0, 0, 0] ![8, 8, 512] inb_S8x8x512_S8x8x512_0_0_0, k0_pay143⟩]) = (start (F := F)).1 := by
  have e := View.read_writes_full (s := S8x8x512) (Val := Elt F) arg9.view arg9.view.junk (off := ![0, 0, 0]) inb_S8x8x512_S8x8x512_0_0_0 k0_pay143 []
  refine (View.readAt_unit arg9.view _ _ rfl (inbM h)).trans ((congrArg (fun z => VecWindow.window z _ _ (inbM h)) e).trans ?_)
  rfl

theorem start_slots10 (h : Fin 8) : arg10.view.readAt (Elt F) (Rect.unit (s := S8x128x512) (offH h) ![1, 128, 512] (inbA h)).toLoadRect
    (arg10.view.writes (Elt F) arg10.view.junk [⟨Rect.unit (s := S8x128x512) ![0, 0, 0] ![8, 128, 512] inb_S8x128x512_S8x128x512_0_0_0, k0_pay144⟩]) = (start (F := F)).2 := by
  have e := View.read_writes_full (s := S8x128x512) (Val := Elt F) arg10.view arg10.view.junk (off := ![0, 0, 0]) inb_S8x128x512_S8x128x512_0_0_0 k0_pay144 []
  refine (View.readAt_unit arg10.view _ _ rfl (inbA h)).trans ((congrArg (fun z => VecWindow.window z _ _ (inbA h)) e).trans ?_)
  rfl

theorem readQ (h : Fin 8) : arg2.view.readAt (Elt F) (Rect.unit (s := S512x256) ![0, 128 * (h.val / 4)] ![512, 128] (inbQD h)).toLoadRect (harg2.unread x0)
    = VecWindow.window (s := S512x256) x0 ![0, 128 * (h.val / 4)] S512x128.size (inbQD h) := by
  refine (View.readAt_unit arg2.view _ _ rfl (inbQD h)).trans ?_
  rw [Memref.IsWhole.read_unread]

theorem qmOf_eq (h : Fin 8) : qmSel (arg2.view.readAt (Elt F) (Rect.unit (s := S512x256) ![0, 128 * (h.val / 4)] ![512, 128] (inbQD h)).toLoadRect (harg2.unread x0))
    (32 * (h.val % 4)) (32 * (h.val % 4) + 32) = qmOf x0 h :=
  congrArg (fun q => qmSel q (32 * (h.val % 4)) (32 * (h.val % 4) + 32)) (readQ arg2 harg2 x0 h)

theorem slots_eq (h : Fin 8) : slotM c i arg2 harg2 arg3 harg3 arg4 harg4 arg5 harg5 arg6 harg6 arg7 harg7 arg8 harg8 arg9 harg9 arg10 harg10 arg11 harg11 x0 x1 x2 d h = (slotsOf x0 x1 x2 (i 1).val h).1 ∧ slotA c i arg2 harg2 arg3 harg3 arg4 harg4 arg5 harg5 arg6 harg6 arg7 harg7 arg8 harg8 arg9 harg9 arg10 harg10 arg11 harg11 x0 x1 x2 d h = (slotsOf x0 x1 x2 (i 1).val h).2 := by
  have e := loop_slots (F := F) Variants.none c none i arg2 harg2 arg3 harg3 arg4 harg4 arg5 harg5 arg6 harg6 arg7 harg7 arg8 harg8 arg9 harg9 arg10 harg10 arg11 harg11 (BitVec.ofNat 32 (i 1).val)
    (k0_pay141 (iota .tc S1x128 32 [1] iota_S1x128_d1_w32) (arg2.view.readAt (Elt F) (Rect.unit (s := S512x256) ![0, 128] ![512, 128] inb_S512x256_S512x128_0_128).toLoadRect (harg2.unread x0)))
    x1 x2 arg8.view.junk (fun h => qmSel (arg2.view.readAt (Elt F) (Rect.unit (s := S512x256) ![0, 128 * (h.val / 4)] ![512, 128] (inbQD h)).toLoadRect (harg2.unread x0)) (32 * (h.val % 4)) (32 * (h.val % 4) + 32))
    _ _ (harg11.unread d) (fun _ => start) (start_slots9 arg9) (start_slots10 arg10) _ le_rfl h
  unfold slotsOf
  rw [← qmOf_eq arg2 harg2 x0 h, ← trips_eq i]
  refine ⟨Eq.trans ?_ e.1, Eq.trans ?_ e.2⟩
  · unfold slotM View.readCov
    rw [View.writes_append]; rfl
  · unfold slotA View.readCov
    rw [View.writes_append]; rfl

theorem accRaw_eq (h : Fin 8) : accRaw c i arg2 harg2 arg3 harg3 arg4 harg4 arg5 harg5 arg6 harg6 arg7 harg7 arg8 harg8 arg9 harg9 arg10 harg10 arg11 harg11 x0 x1 x2 d h = accOf x0 x1 x2 (i 1).val h := by
  have hi : (i 1).val < 8 := (i 1).isLt
  unfold accRaw accOf
  rw [(slots_eq c i arg2 harg2 arg3 harg3 arg4 harg4 arg5 harg5 arg6 harg6 arg7 harg7 arg8 harg8 arg9 harg9 arg10 harg10 arg11 harg11 x0 x1 x2 d h).1, (slots_eq c i arg2 harg2 arg3 harg3 arg4 harg4 arg5 harg5 arg6 harg6 arg7 harg7 arg8 harg8 arg9 harg9 arg10 harg10 arg11 harg11 x0 x1 x2 d h).2, qmOf_eq arg2 harg2 x0 h]
  have ev : arg4.view.readAt (Elt F) (Rect.unit (s := S512x4096) ![128 * (h.val / 2), keyD i] S128x512.size (inbVD i h)).toLoadRect (harg4.unread x2) = vtOf x2 (h.val / 2) (i 1).val := by
    rw [View.readAt_unit arg4.view _ _ (off' := ![128 * min (h.val / 2) 3, 512 * min (i 1).val 7]) (by
      have := h.isLt
      rw [keyD_eq, show min (i 1).val 7 = (i 1).val by omega, show min (h.val / 2) 3 = h.val / 2 by omega])]
    rw [Memref.IsWhole.read_unread]; rfl
  have ek : arg3.view.readAt (Elt F) (Rect.unit (s := S4096x256) ![keyD i, 128 * (h.val / 4)] S512x128.size (inbKD i h)).toLoadRect (harg3.unread x1) = kbOf x1 (h.val / 4) (i 1).val := by
    rw [View.readAt_unit arg3.view _ _ (off' := ![512 * min (i 1).val 7, 128 * min (h.val / 4) 1]) (by
      have := h.isLt
      rw [keyD_eq, show min (i 1).val 7 = (i 1).val by omega, show min (h.val / 4) 1 = h.val / 4 by omega])]
    rw [Memref.IsWhole.read_unread]; rfl
  rw [ev, ek]

/-- What a point of the grid stores. -/
theorem pieces_eq : (bodyRun c i arg2 harg2 arg3 harg3 arg4 harg4 arg5 harg5 arg6 harg6 arg7 harg7 arg8 harg8 arg9 harg9 arg10 harg10 arg11 harg11 x0 x1 x2 x3 x4).1 d
    = [⟨Rect.unit (s := S512x256) ![0, 0] ![512, 256] inb_S512x256_S512x256_0_0, blockOut x0 x1 x2 x3 x4 (i 1).val⟩] := by
  rw [pieces_raw]
  have e5 : arg5.view.readAt (Elt F) (Rect.unit (s := S4x128) ![0, 0] ![4, 128] inb_S4x128_S4x128_0_0).toLoadRect (harg5.unread x3) = x3 :=
    (View.readAt_full (s := S4x128) arg5.view _ inb_S4x128_S4x128_0_0).trans (harg5.read_unread x3)
  have e6 : arg6.view.readAt (Elt F) (Rect.unit (s := S1x64) ![0, 0] ![1, 64] inb_S1x64_S1x64_0_0).toLoadRect (harg6.unread x4) = x4 :=
    (View.readAt_full (s := S1x64) arg6.view _ inb_S1x64_S1x64_0_0).trans (harg6.read_unread x4)
  rw [e5, e6, show accRaw c i arg2 harg2 arg3 harg3 arg4 harg4 arg5 harg5 arg6 harg6 arg7 harg7 arg8 harg8 arg9 harg9 arg10 harg10 arg11 harg11 x0 x1 x2 d = accOf x0 x1 x2 (i 1).val from funext (accRaw_eq c i arg2 harg2 arg3 harg3 arg4 harg4 arg5 harg5 arg6 harg6 arg7 harg7 arg8 harg8 arg9 harg9 arg10 harg10 arg11 harg11 x0 x1 x2 d)]
  rfl

/-- What the result's memref reads after it. -/
theorem out_eq (f : BufTy.Contents (Elt F) arg7.view.ty) :
    arg7.view.read (Elt F) (arg7.view.writes (Elt F) f ((bodyRun c i arg2 harg2 arg3 harg3 arg4 harg4 arg5 harg5 arg6 harg6 arg7 harg7 arg8 harg8 arg9 harg9 arg10 harg10 arg11 harg11 x0 x1 x2 x3 x4).1 d)) = blockOut x0 x1 x2 x3 x4 (i 1).val := by
  rw [pieces_eq]
  exact View.read_writes_full (s := S512x256) arg7.view f inb_S512x256_S512x256_0_0 _ []

end

end Cert.KernelIdeal.Blk

end

end
-- ==== Proof.Run.lean ====
/-
  The program's run: what each point of the grid leaves in its block of the result, and that every execution ends with the arguments
  unchanged and the result block by block at what the points stored.
-/
module

public import proofs.«01_k».proof.Proof.BodyVal
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block that point `t` stores, of its input blocks. -/
def outAt (c : Dev nD) (t : Fin cfg0.N) : Vec F S512x256 .bf16 :=
  blockOut (iblk m c 0 t) (iblk m c 1 t) (iblk m c 2 t) (iblk m c 3 t) (iblk m c 4 t) ((grid0.coords t) 1).val

/-- The run's data: every input's buffer keeps its block, the output's takes the stored block. -/
def runDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem runDat_A (c : Dev nD) (w : Fin cfg0.W) : (runDat m 0 c).A w = V m c (Pipeline.arrRef spec0 w) := by dsimp only [runDat]

theorem left0 (c : Dev nD) (t : Fin cfg0.N) : (runDat m 0 c).after 0 t = iblk m c 0 t := by dsimp only [runDat]
theorem left1 (c : Dev nD) (t : Fin cfg0.N) : (runDat m 0 c).after 1 t = iblk m c 1 t := by dsimp only [runDat]
theorem left2 (c : Dev nD) (t : Fin cfg0.N) : (runDat m 0 c).after 2 t = iblk m c 2 t := by dsimp only [runDat]
theorem left3 (c : Dev nD) (t : Fin cfg0.N) : (runDat m 0 c).after 3 t = iblk m c 3 t := by dsimp only [runDat]
theorem left4 (c : Dev nD) (t : Fin cfg0.N) : (runDat m 0 c).after 4 t = iblk m c 4 t := by dsimp only [runDat]
theorem left5 (c : Dev nD) (t : Fin cfg0.N) : (runDat m 0 c).after 5 t = outAt m c t := by dsimp only [runDat]

theorem found0 (c : Dev nD) (t : Fin cfg0.N) (d) : (runDat m 0 c).before 0 t d = iblk m c 0 t :=
  before0_0_of m (runDat m 0 c) (runDat_A m c 0) (left0 m c) t d
theorem found1 (c : Dev nD) (t : Fin cfg0.N) (d) : (runDat m 0 c).before 1 t d = iblk m c 1 t :=
  before0_1_of m (runDat m 0 c) (runDat_A m c 1) (left1 m c) t d
theorem found2 (c : Dev nD) (t : Fin cfg0.N) (d) : (runDat m 0 c).before 2 t d = iblk m c 2 t :=
  before0_2_of m (runDat m 0 c) (runDat_A m c 2) (left2 m c) t d
theorem found3 (c : Dev nD) (t : Fin cfg0.N) (d) : (runDat m 0 c).before 3 t d = iblk m c 3 t :=
  before0_3_of m (runDat m 0 c) (runDat_A m c 3) (left3 m c) t d
theorem found4 (c : Dev nD) (t : Fin cfg0.N) (d) : (runDat m 0 c).before 4 t d = iblk m c 4 t :=
  before0_4_of m (runDat m 0 c) (runDat_A m c 4) (left4 m c) t d

/-- What the body is called with at a point, and what it returns. -/
def pointPre (c : Dev nD) (t : Fin cfg0.N) : sProp 𝕄 :=
  iprop((runDat m 0 c).Φ t.castSucc ∗ (runDat m 0 c).owesAt () t.castSucc
    ∗ (∃ d, owns (c : Thread nD τ) (ms0_0 t) fullShare ((runDat m 0 c).before 0 t d))
    ∗ (∃ d, owns (c : Thread nD τ) (ms0_1 t) fullShare ((runDat m 0 c).before 1 t d))
    ∗ (∃ d, owns (c : Thread nD τ) (ms0_2 t) fullShare ((runDat m 0 c).before 2 t d))
    ∗ (∃ d, owns (c : Thread nD τ) (ms0_3 t) fullShare ((runDat m 0 c).before 3 t d))
    ∗ (∃ d, owns (c : Thread nD τ) (ms0_4 t) fullShare ((runDat m 0 c).before 4 t d))
    ∗ (∃ d, owns (c : Thread nD τ) (ms0_5 t) fullShare ((runDat m 0 c).before 5 t d)))

def pointPost (c : Dev nD) (t : Fin cfg0.N) : sProp 𝕄 :=
  iprop((runDat m 0 c).Φ t.succ ∗ (runDat m 0 c).owesAt () t.succ
    ∗ owns (c : Thread nD τ) (ms0_0 t) fullShare ((runDat m 0 c).after 0 t)
    ∗ owns (c : Thread nD τ) (ms0_1 t) fullShare ((runDat m 0 c).after 1 t)
    ∗ owns (c : Thread nD τ) (ms0_2 t) fullShare ((runDat m 0 c).after 2 t)
    ∗ owns (c : Thread nD τ) (ms0_3 t) fullShare ((runDat m 0 c).after 3 t)
    ∗ owns (c : Thread nD τ) (ms0_4 t) fullShare ((runDat m 0 c).after 4 t)
    ∗ owns (c : Thread nD τ) (ms0_5 t) fullShare ((runDat m 0 c).after 5 t))

set_option maxHeartbeats 800000 in
/-- The body at any point: the block it stores does not depend on what the scratch held. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4]
  rw [show (runDat m 0 c).Φ t.succ = (runDat m 0 c).Φ t.castSucc from rfl,
    show (runDat m 0 c).owesAt () t.succ = (runDat m 0 c).owesAt () t.castSucc from rfl,
    left0, left1, left2, left3, left4, left5]
  rw [show (runDat m 0 c).Φ t.castSucc = Pipeline.ΦA spec0 c from rfl, PhiA0_eq]
  unfold outAt
  iintro ⟨⟨⟨HS0, HS1, HS2, ⟨%d, HS3⟩⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ _ _ (iblk m c 0 t) (iblk m c 1 t) (iblk m c 2 t) (iblk m c 3 t) (iblk m c 4 t)).2 Set.univ _ d)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact out_eq _ _ _ _ _ _ _ _ _ _ _ _ _ _ _ _ _ _ _ _ _ _ _ _ _ _ _ _ _

theorem bodyRow (t : Fin cfg0.N) : defs₀ (F := F) .tc cfg0.body (cfg0.bodyArgs t (cfg0.slots t)) = bodyAt0 t := by
  unfold defs₀; rw [Defs.onTc_tc]

theorem point_obligation (c : Dev nD) : BodyObligation (runDat (F := F) m 0 c) (defs₀ (F := F)) Variants.none () Set.univ := fun t => by
  rw [bigSep_W0, bigSep_W0, bodyRow]
  exact triple_restated (point_sound m c t) rfl .rfl fun _ => .rfl

set_option backward.isDefEq.respectTransparency.types false in
/-- Every execution ends, with the arrays at what the run's data say and the counters at nought. -/
theorem run_ends : θ_run defs (onTc (τ := τ) (main (F := F))) (s₀ m ρ) (fun r => (Pipeline.FramePost cfgs (runDat m) 0 (V m)) r ∧ r.2.sem = fun _ => 0) :=
  Pipeline.θ_run_frame (Q' := _) cfgs (runDat m) (0 : Fin 1) launch0 defs₀ Variants.none m ρ main
    (hbody := fun c => (point_obligation m c).loose) (hshare := fun c => (runDat m 0 c).share_full fun _ => rfl)
    (howed := fun _ _ => rfl) (V := V m) (hmain := hmain m Variants.none) (hA := runDat_A m) (hΦ := fun _ _ => rfl)

theorem run_arrays : θ_run defs (onTc (τ := τ) (main (F := F))) (s₀ m ρ) (Pipeline.FramePost cfgs (runDat m) 0 (V m)) :=
  (θ_run defs _ _).mono (fun _ h => h.1) (run_ends m ρ)

/-- The frame: every execution ends, the arguments unchanged and the counters at nought. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (runDat m) (runDat_A m) (run_arrays m ρ)) ((θ_run defs _ _).mono (fun _ h => h.2) (run_ends m ρ))

/-- Distinct points store distinct blocks of the result. -/
theorem index_inj : ∀ t t' : Fin cfg0.N, win0_5.index t = win0_5.index t' → t = t' :=
  (by decide +kernel : ∀ t t' : Fin grid0.N, win0_5.index t = win0_5.index t' → t = t')

/-- Block `t` of the result after the run is what point `t` stored. -/
theorem result_block (c : Dev nD) (t : Fin cfg0.N) (hf : (cfg0.win 5).flush t = true) :
    ((cfg0.win 5).blk t).view.read (Elt F) ((runDat m 0 c).arrAt 5 cfg0.N) = (cfg0.win 5).cut (grid0.coords t) (outAt m c t) := by
  refine ((runDat m 0 c).read_blk_arrAt_eq_flushed 5
    (fun t t' _ _ hne => (cfg0.win 5).disjoint_blk fun h => hne (index_inj t t' h)) cfg0.N t t.isLt hf).trans ?_
  show (cfg0.win 5).cut (grid0.coords t) ((runDat m 0 c).after 5 t) = _
  rw [left5]

/-- The run with the result array named, and the arguments unchanged. -/
theorem run_result : θ_run defs (onTc (τ := τ) (main (F := F))) ⟨m, fun _ => 0, ρ⟩ fun r => ∀ c : Dev nD,
      r.2.mem ((c : Thread nD τ).loc main_v35) = (runDat m 0 c).arrAt 5 cfg0.N :=
  (θ_run defs _ _).mono (fun r h c => (h c).1 5) (run_arrays m ρ)

end Cert.KernelIdeal.Blk

end

end
-- ==== Proof.Twin.lean ====
/-
  The program and its idealized form have the same text here, so the program's frame is the run already proved.
-/
module

public import proofs.«01_k».proof.Proof.Run
public import proofs.«01_k».proof.Proof.Gen.Kernel.Launch
public import proofs.«01_k».proof.Defs

@[expose] public section

set_option maxRecDepth 16384

noncomputable section

namespace Cert.Twin

open Idealize.ShloMosaic Idealize.ShloMosaic.TcCoe Idealize.SL Idealize.SL.Sem

variable {F : FTy → Type} [FloatOps F]

set_option maxHeartbeats 2000000 in
theorem body_same : Cert.Kernel.defs₀ (F := F) = Cert.KernelIdeal.defs₀ (F := F) := by
  funext κ l a
  match κ with
  | .tc =>
    match l, a with
    | 0, (_, _) => rfl
  | .scScalar _ => rfl
  | .scVector _ _ => rfl

set_option maxHeartbeats 2000000 in
theorem defs_same : Cert.Kernel.defs (F := F) = Cert.KernelIdeal.defs (F := F) :=
  congrArg (Pipeline.defs (Cert.KernelIdeal.pcfgs (F := F))) body_same

set_option maxHeartbeats 2000000 in
theorem main_same : Cert.Kernel.main (F := F) = Cert.KernelIdeal.main (F := F) := rfl

set_option maxHeartbeats 4000000 in
theorem frame_program : Cert.quiescent_Kernel (hKernel := Cert.Kernel.Gen.facts) := fun m g _ => by
  have h := Cert.KernelIdeal.Blk.frame_holds (F := Bits) m g
  rw [← defs_same] at h
  exact h

end Cert.Twin

end

end
-- ==== Proof.Flash.lean ====
/-
  The running softmax, in real numbers: a lane keeps a running maximum and running weighted sums scaled by that maximum;
  one block of keys brings the pair up to date. What is kept does not depend on the maximum being one: any real number
  would do, and the quotient of two weighted sums forgets it.
-/
module

public import Idealize.ShloMosaic.PureOps.Ideal
public import Idealize.ShloMosaic.Lib.KernelVsHost.SublaneAllReduce

@[expose] public section

set_option maxRecDepth 16384

noncomputable section

namespace Cert.Flash

open Idealize.ShloMosaic Idealize.ShloMosaic.SublaneAllReduce

/-- The weight of a key of score `x`: two to the score, and nothing for a key that is masked out. -/
def wt (keep : Prop) [Decidable keep] (y : ℝ) : ℝ := if keep then (2 : ℝ) ^ y else 0

/-- The score that the running maximum sees. -/
def sc (keep : Prop) [Decidable keep] (y : ℝ) : EReal := if keep then (y : EReal) else ⊥

/-- A sum of real numbers, taken among the extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What a lane holds: the running maximum `M` and the running weighted sums `A`, with `S` the weighted sums unscaled. -/
def Holds {ι : Type*} (M : EReal) (A : ι → EReal) (S : ι → ℝ) : Prop :=
  (M = ⊥ ∧ ∀ r, A r = 0 ∧ S r = 0) ∨ ∃ m : ℝ, M = (m : EReal) ∧ ∀ r, A r = ((S r * (2 : ℝ) ^ (-m) : ℝ) : EReal)

theorem holds_start {ι : Type*} : Holds (ι := ι) ⊥ (fun _ => 0) (fun _ => 0) := .inl ⟨rfl, fun _ => ⟨rfl, rfl⟩⟩

/-- Two to a score less the maximum. -/
theorem exp2_sc (keep : Prop) [Decidable keep] (y m : ℝ) :
    Ideal.exp2 (sc keep y - (m : EReal)) = ((wt keep y * (2 : ℝ) ^ (-m) : ℝ) : EReal) := by
  unfold sc wt
  split
  · rw [← EReal.coe_sub, Ideal.exp2_coe, ← Real.rpow_add two_pos]
    rfl
  · rw [EReal.bot_sub, Ideal.exp2_bot, zero_mul, EReal.coe_zero]

/-- One block of keys: `n` of them, the scores `y`, the keys kept `keep`, the values `v`, the maximum moved to `m'`. -/
theorem holds_step {ι : Type*} {n : ℕ} {M : EReal} {A : ι → EReal} {S : ι → ℝ} (h : Holds M A S)
    (keep : Fin n → Prop) [∀ j, Decidable (keep j)] (y : Fin n → ℝ) (v : ι → Fin n → ℝ) (m' : ℝ) :
    Holds (m' : EReal)
      (fun r => A r * Ideal.exp2 (M - (m' : EReal)) + ∑ j, (v r j : EReal) * Ideal.exp2 (sc (keep j) (y j) - (m' : EReal)))
      (fun r => S r + ∑ j, v r j * wt (keep j) (y j)) := by
  refine .inr ⟨m', rfl, fun r => ?_⟩
  have hA : A r * Ideal.exp2 (M - (m' : EReal)) = ((S r * (2 : ℝ) ^ (-m') : ℝ) : EReal) := by
    rcases h with ⟨hM, hA⟩ | ⟨m, hM, hA⟩
    · rw [(hA r).1, (hA r).2, zero_mul, zero_mul, EReal.coe_zero]
    · rw [hA r, hM, ← EReal.coe_sub, Ideal.exp2_coe, ← EReal.coe_mul]
      congr 1
      show S r * 2 ^ (-m) * (2 : ℝ) ^ (m - m') = _
      rw [mul_assoc, ← Real.rpow_add two_pos]
      congr 2; ring
  show A r * Ideal.exp2 (M - (m' : EReal)) + ∑ j, (v r j : EReal) * Ideal.exp2 (sc (keep j) (y j) - (m' : EReal)) = _
  rw [hA]
  simp only [exp2_sc, ← EReal.coe_mul]
  rw [← coe_sum, ← EReal.coe_add, add_mul, Finset.sum_mul]
  congr 2
  exact Finset.sum_congr rfl fun j _ => by ring

/-- The new maximum is a real number as soon as one key of the block is kept. -/
theorem max_real {M X : EReal} (hM : M ≠ ⊤) (hX : X ≠ ⊤) (hX' : X ≠ ⊥) : ∃ m : ℝ, max M X = (m : EReal) := by
  have h1 : max M X ≠ ⊤ := by
    rcases max_choice M X with h | h <;> rw [h] <;> assumption
  have h2 : max M X ≠ ⊥ := fun h => hX' (le_bot_iff.mp (h ▸ le_max_right M X))
  exact ⟨(max M X).toReal, (EReal.coe_toReal h1 h2).symm⟩

theorem Holds.ne_top {ι : Type*} {M : EReal} {A : ι → EReal} {S : ι → ℝ} (h : Holds M A S) : M ≠ ⊤ := by
  rcases h with ⟨hM, -⟩ | ⟨m, hM, -⟩ <;> rw [hM] <;> simp

/-- A maximum over a finite family started from nothing: real when every member is below the top and one is above nothing. -/
theorem fold_max_real {ι : Type*} (s : Finset ι) (f : ι → EReal) (hf : ∀ i ∈ s, f i ≠ ⊤) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a (Finset.mem_insert_self a s)
    · exact ih fun i hi => hf i (Finset.mem_insert_of_mem hi)

theorem le_fold_max {ι : Type*} (s : Finset ι) (f : ι → EReal) {i : ι} (hi : i ∈ s) : f i ≤ s.fold max ⊥ f := by
  classical
  induction s using Finset.induction_on with
  | empty => simp at hi
  | insert a s ha ih =>
    rw [Finset.fold_insert ha]
    rcases Finset.mem_insert.mp hi with rfl | h
    · exact le_max_left _ _
    · exact (ih h).trans (le_max_right _ _)

/-- A maximum of eight, in the order that three rotations take it. -/
theorem combine8_ne_top (g : Fin 8 → EReal) (h : ∀ s, g s ≠ ⊤) : combine8 max g ≠ ⊤ := by
  have e := fold_univ_fin8 max ⊥ g
  rw [max_eq_right bot_le] at e
  rw [← e]
  exact fold_max_real _ _ fun i _ => h i

theorem le_combine8 (g : Fin 8 → EReal) (s : Fin 8) : g s ≤ combine8 max g := by
  have e := fold_univ_fin8 max ⊥ g
  rw [max_eq_right bot_le] at e
  rw [← e]
  exact le_fold_max _ _ (Finset.mem_univ s)

/-- The quotient of two weighted sums of a lane forgets the maximum. -/
theorem Holds.div {ι : Type*} {M : EReal} {A : ι → EReal} {S : ι → ℝ} (h : Holds M A S) (r l : ι) (hl : 0 < S l) :
    Ideal.div (A r) (A l) = ((S r / S l : ℝ) : EReal) := by
  rcases h with ⟨-, hA⟩ | ⟨m, -, hA⟩
  · exact absurd (hA l).2 hl.ne'
  · have hp : (0 : ℝ) < (2 : ℝ) ^ (-m) := Real.rpow_pos_of_pos two_pos _
    have hne : S l * (2 : ℝ) ^ (-m) ≠ 0 := (mul_pos hl hp).ne'
    rw [hA r, hA l]
    unfold Ideal.div
    rw [if_neg (by exact_mod_cast hne), ← EReal.coe_inv, ← EReal.coe_mul]
    congr 1
    field_simp

end Cert.Flash

end

end
-- ==== Proof.Step.lean ====
/-
  One block of keys, read at an index over the reals: the scores, the running maximum and the running sums.
-/
module

public import proofs.«01_k».proof.Proof.BodyVal
public import proofs.«01_k».proof.Proof.Flash
public import Idealize.ShloMosaic.Lib.Pointwise
public import Idealize.ShloMosaic.Lib.MatmulPlain

@[expose] public section

set_option maxRecDepth 16384

noncomputable section

namespace Cert.KernelIdeal.Blk

open Idealize.ShloMosaic Idealize.ShloMosaic.TcCoe Idealize.ShloMosaic.SublaneAllReduce
open Cert.KernelIdeal Cert.KernelIdeal.Gen Cert.Flash

theorem dotK : dot_S512x128_S512x128_S512x512_1_1_0_0_n_n = DotDims.transposedRhs 512 128 512 := rfl
theorem dotV : dot_S128x512_S512x512_S128x512_1_0_0_1_n_n = DotDims.plain 128 512 512 := rfl

theorem blkSt_apply (kb : Vec Ideal S512x128 .bf16) (qm : Vec Ideal S1x512x128 .bf16) (j c : Fin 512) :
    blkSt kb qm (ix2 j c) = ∑ d : Fin 128, kb (ix2 j d) * qm (ix3 0 c d) := by
  unfold blkSt
  rw [dotK]
  pointwise

theorem negInf : Ideal.ofBits .f32 0xFF800000#32 = (⊥ : EReal) := by simp [Ideal.ofBits, Ideal.ieee]

theorem zeroWord : Ideal.ofBits .bf16 0x0000#16 = (0 : EReal) := by simp [Ideal.ofBits, Ideal.ieee]

/-- The greatest score of a block's keys in sublane `s`. -/
def colMax (st : FVec Ideal S512x512 .f32) (s : Fin 8) (c : Fin 512) : EReal :=
  (Finset.univ : Finset (Fin 64)).fold max ⊥ fun a => st (ix2 (⟨a.val * 8 + s.val, by omega⟩ : Fin 512) c)

theorem newMax_apply (st : FVec Ideal S512x512 .f32) (mo : Vec Ideal S1x8x512 .f32) (s : Fin 8) (c : Fin 512) :
    newMax st mo (ix2 s c) = max (mo (ix3 0 s c)) (combine8 max fun s' => colMax st s' c) := by
  have e := sublaneAllMax_apply rotates_S8x512_d0
    (multiReduction .maximumf [0] S8x512 (shapeCast S64x8x512 st shapeCasts_S512x512_S64x8x512) 0xFF800000#32 reduces_S64x8x512_S8x512 (.inl rfl) rfl : FVec Ideal S8x512 .f32) s c
  have h1 : shapeCast S8x512 mo shapeCasts_S1x8x512_S8x512 (ix2 s c) = mo (ix3 0 s c) := by pointwise
  refine (congrArg₂ max h1 e).trans ?_
  refine congrArg (fun f => max (mo (ix3 0 s c)) (combine8 max f)) (funext fun s' => ?_)
  unfold colMax
  rw [← negInf]
  pointwise

theorem newAcc_apply (vt : Vec Ideal S128x512 .bf16) (st : FVec Ideal S512x512 .f32) (mo : Vec Ideal S1x8x512 .f32) (ao : Vec Ideal S1x128x512 .f32)
    (r : Fin 128) (c : Fin 512) :
    newAcc vt st mo ao (ix3 0 r c)
      = ao (ix3 0 r c) * Ideal.exp2 (mo (ix3 0 (⟨r.val % 8, by omega⟩ : Fin 8) c) - newMax st mo (ix2 (⟨r.val % 8, by omega⟩ : Fin 8) c))
        + ∑ j : Fin 512, vt (ix2 r j) * Ideal.exp2 (st (ix2 j c) - newMax st mo (ix2 (⟨j.val % 8, by omega⟩ : Fin 8) c)) := by
  unfold newAcc
  rw [dotV]
  generalize newMax st mo = M
  pointwise
  rfl

/-- The state of one query column: the eight sublanes of the maximum agree and the sums are held against it. -/
def Inv (c : Fin 512) (s : Vec Ideal S1x8x512 .f32 × Vec Ideal S1x128x512 .f32) (S : Fin 128 → ℝ) : Prop :=
  ∃ M : EReal, (∀ q : Fin 8, s.1 (ix3 0 q c) = M) ∧ Holds M (fun r : Fin 128 => s.2 (ix3 0 r c)) S

theorem inv_start (c : Fin 512) : Inv c (start (F := Ideal)) (fun _ => 0) := by
  refine ⟨⊥, fun q => negInf, ?_⟩
  have e : (fun r : Fin 128 => (start (F := Ideal)).2 (ix3 0 r c)) = fun _ => (0 : EReal) := by
    funext r
    show Ideal.ofBits .f32 0x00000000#32 = 0
    simp [Ideal.ofBits, Ideal.ieee]
  rw [e]
  exact holds_start

theorem inv_step (c : Fin 512) (s : Vec Ideal S1x8x512 .f32 × Vec Ideal S1x128x512 .f32) (S : Fin 128 → ℝ) (h : Inv c s S)
    (st : FVec Ideal S512x512 .f32) (vt : Vec Ideal S128x512 .bf16) (keep : Fin 512 → Prop) [∀ j, Decidable (keep j)] (y : Fin 512 → ℝ)
    (v : Fin 128 → Fin 512 → ℝ) (hst : ∀ j, st (ix2 j c) = sc (keep j) (y j)) (hvt : ∀ r j, vt (ix2 r j) = ((v r j : ℝ) : EReal))
    (j₀ : Fin 512) (hk : keep j₀) :
    Inv c (pairStep st vt s) (fun r => S r + ∑ j, v r j * wt (keep j) (y j)) := by
  obtain ⟨M, hm, hh⟩ := h
  have top : ∀ j, st (ix2 j c) ≠ ⊤ := fun j => by
    rw [hst]; unfold sc; split <;> simp
  have hX : (combine8 max fun s' => colMax st s' c) ≠ ⊤ :=
    combine8_ne_top _ fun s' => fold_max_real _ _ fun a _ => top _
  have hX' : (combine8 max fun s' => colMax st s' c) ≠ ⊥ := by
    have h1 : st (ix2 j₀ c) ≤ combine8 max fun s' => colMax st s' c := by
      refine le_trans ?_ (le_combine8 (fun s' => colMax st s' c) ⟨j₀.val % 8, by omega⟩)
      have := le_fold_max (Finset.univ : Finset (Fin 64)) (fun a => st (ix2 (⟨a.val * 8 + j₀.val % 8, by omega⟩ : Fin 512) c))
        (Finset.mem_univ (⟨j₀.val / 8, by omega⟩ : Fin 64))
      refine le_trans (le_of_eq ?_) this
      refine congrArg (fun j => st (ix2 j c)) (Fin.ext ?_)
      show j₀.val = j₀.val / 8 * 8 + j₀.val % 8
      omega
    have h2 : st (ix2 j₀ c) ≠ ⊥ := by
      rw [hst]; unfold sc; rw [if_pos hk]; simp
    intro h3
    rw [h3] at h1
    exact h2 (le_bot_iff.mp h1)
  obtain ⟨m', hm'⟩ := max_real hh.ne_top hX hX'
  have hn : ∀ q : Fin 8, newMax st s.1 (ix2 q c) = (m' : EReal) := fun q => by
    rw [newMax_apply, hm q, hm']
  refine ⟨(m' : EReal), fun q => ?_, ?_⟩
  · have e : shapeCast S1x8x512 (newMax st s.1) shapeCasts_S8x512_S1x8x512 (ix3 0 q c) = newMax st s.1 (ix2 q c) := by
      generalize newMax st s.1 = Z
      pointwise
    exact e.trans (hn q)
  · have := holds_step hh keep y v m'
    refine cast (congrArg (fun A => Holds (m' : EReal) A _) (funext fun r => ?_)) this
    refine Eq.symm ((newAcc_apply vt st s.1 s.2 r c).trans ?_)
    rw [hm, hn]
    refine congrArg₂ (· + ·) rfl (Finset.sum_congr rfl fun j _ => ?_)
    rw [hn, hst, hvt]

end Cert.KernelIdeal.Blk

end

end
-- ==== Proof.Cols.lean ====
/-
  The sums of a query column over all its keys, for real arrays: what the accumulators of a block of queries hold at the end.
-/
module

public import proofs.«01_k».proof.Proof.Step

@[expose] public section

set_option maxRecDepth 16384

noncomputable section

namespace Cert.KernelIdeal.Blk

open Idealize.ShloMosaic Idealize.ShloMosaic.TcCoe Idealize.ShloMosaic.SublaneAllReduce
open Cert.KernelIdeal Cert.KernelIdeal.Gen Cert.Flash

/-- The score of key `n` for query `q` of head component `h`. -/
def score (Q K : ℕ → ℕ → ℝ) (h q n : ℕ) : ℝ := ∑ e : Fin 32, K n (32 * h + e.val) * Q q (32 * h + e.val)

/-- The value-weighted sum of a query column, row `r` of the values, over the keys up to the query itself. -/
def colSum (Q K V : ℕ → ℕ → ℝ) (h q : ℕ) (q' : ℕ) (r : ℕ) : ℝ :=
  ∑ n : Fin 4096, V (128 * (h / 2) + r) n.val * wt (n.val ≤ q') (score Q K h q n.val)

theorem select_ofBool {α : Type} (b : Bool) (x y : α) : Scalar.select (BitVec.ofBool b) x y = if b = true then x else y := by
  cases b <;> rfl

theorem andi_ofBool (a b : Bool) : IntOp.andi (BitVec.ofBool a) (BitVec.ofBool b) = BitVec.ofBool (a && b) := by
  cases a <;> cases b <;> rfl

theorem qmOf_apply (x0 : Vec Ideal S512x256 .bf16) (h : Fin 8) (c : Fin 512) (d : Fin 128) :
    qmOf x0 h (ix3 0 c d) = if 32 * (h.val % 4) ≤ d.val ∧ d.val < 32 * (h.val % 4) + 32
      then x0 (ix2 c (⟨128 * (h.val / 4) + d.val, by omega⟩ : Fin 256)) else 0 := by
  unfold qmOf qmSel
  pointwise
  rw [WordCmp.cmpi_sge_ofNat (by omega) (by omega), WordCmp.cmpi_slt_ofNat (by omega) (by omega), andi_ofBool, select_ofBool]
  simp only [Bool.and_eq_true, decide_eq_true_eq]
  refine if_congr Iff.rfl ?_ rfl
  unfold VecWindow.window
  refine congrArg x0 (funext fun a => Fin.ext ?_)
  match a with
  | 0 => show 0 + 1 * c.val = c.val; omega
  | 1 => show 128 * (h.val / 4) + 1 * d.val = 128 * (h.val / 4) + d.val; omega

theorem maskSt_apply (st : FVec Ideal S512x512 .f32) (j c : Fin 512) :
    maskSt st (ix2 j c) = if j.val ≤ c.val then st (ix2 j c) else ⊥ := by
  unfold maskSt
  pointwise
  rw [WordCmp.cmpi_sle_ofNat (by omega) (by omega), select_ofBool, negInf]
  simp only [decide_eq_true_eq]

theorem kbOf_apply (x1 : Vec Ideal S4096x256 .bf16) (p k : ℕ) (hp : p ≤ 1) (hk : k ≤ 7) (j : Fin 512) (d : Fin 128) :
    kbOf x1 p k (ix2 j d) = x1 (ix2 (⟨512 * k + j.val, by omega⟩ : Fin 4096) (⟨128 * p + d.val, by omega⟩ : Fin 256)) := by
  unfold kbOf VecWindow.window
  refine congrArg x1 (funext fun a => Fin.ext ?_)
  match a with
  | 0 => show 512 * min k 7 + 1 * j.val = 512 * k + j.val; omega
  | 1 => show 128 * min p 1 + 1 * d.val = 128 * p + d.val; omega

theorem vtOf_apply (x2 : Vec Ideal S512x4096 .bf16) (g k : ℕ) (hg : g ≤ 3) (hk : k ≤ 7) (r : Fin 128) (j : Fin 512) :
    vtOf x2 g k (ix2 r j) = x2 (ix2 (⟨128 * g + r.val, by omega⟩ : Fin 512) (⟨512 * k + j.val, by omega⟩ : Fin 4096)) := by
  unfold vtOf VecWindow.window
  refine congrArg x2 (funext fun a => Fin.ext ?_)
  match a with
  | 0 => show 128 * min g 3 + 1 * r.val = 128 * g + r.val; omega
  | 1 => show 512 * min k 7 + 1 * j.val = 512 * k + j.val; omega

variable (x0 : Vec Ideal S512x256 .bf16) (x1 : Vec Ideal S4096x256 .bf16) (x2 : Vec Ideal S512x4096 .bf16) (Q K V : ℕ → ℕ → ℝ)

/-- A sum over 128 lanes of which 32 count. -/
theorem sum_lanes (f : ℕ → ℝ) (h : ℕ) :
    (∑ d : Fin 128, if 32 * (h % 4) ≤ d.val ∧ d.val < 32 * (h % 4) + 32 then f (128 * (h / 4) + d.val) else 0)
      = ∑ e : Fin 32, f (32 * h + e.val) := by
  rw [Fin.sum_univ_eq_sum_range (fun d => if 32 * (h % 4) ≤ d ∧ d < 32 * (h % 4) + 32 then f (128 * (h / 4) + d) else 0) 128,
    Fin.sum_univ_eq_sum_range (fun e => f (32 * h + e)) 32, ← Finset.sum_filter]
  refine (Finset.sum_bij (fun e _ => 32 * (h % 4) + e) (fun e he => ?_) (fun a _ b _ e => ?_) (fun d hd => ?_) (fun e _ => ?_)).symm
  · simp only [Finset.mem_range, Finset.mem_filter] at he ⊢; omega
  · omega
  · simp only [Finset.mem_range, Finset.mem_filter] at hd
    exact ⟨d - 32 * (h % 4), by simp only [Finset.mem_range]; omega, by show 32 * (h % 4) + (d - 32 * (h % 4)) = d; omega⟩
  · exact congrArg f (by omega)

theorem score_apply (hq : ∀ (c : Fin 512) (d : Fin 256), x0 (ix2 c d) = ((Q c.val d.val : ℝ) : EReal))
    (hk : ∀ (n : Fin 4096) (d : Fin 256), x1 (ix2 n d) = ((K n.val d.val : ℝ) : EReal)) (h : Fin 8) (k : ℕ) (hk7 : k ≤ 7) (j c : Fin 512) :
    blkSt (kbOf x1 (h.val / 4) k) (qmOf x0 h) (ix2 j c) = ((score Q K h.val c.val (512 * k + j.val) : ℝ) : EReal) := by
  rw [blkSt_apply]
  have e : ∀ d : Fin 128, kbOf x1 (h.val / 4) k (ix2 j d) * qmOf x0 h (ix3 0 c d)
      = ((if 32 * (h.val % 4) ≤ d.val ∧ d.val < 32 * (h.val % 4) + 32
          then K (512 * k + j.val) (128 * (h.val / 4) + d.val) * Q c.val (128 * (h.val / 4) + d.val) else 0 : ℝ) : EReal) := fun d => by
    rw [kbOf_apply x1 _ k (by omega) hk7, qmOf_apply, hk]
    split
    · rw [hq]; exact (EReal.coe_mul _ _).symm
    · simp
  rw [Finset.sum_congr rfl fun d _ => e d, ← coe_sum]
  exact congrArg _ (sum_lanes (fun d => K (512 * k + j.val) d * Q c.val d) h.val)

theorem wt_true (y : ℝ) {p : Prop} [Decidable p] (hp : p) : wt p y = (2 : ℝ) ^ y := by
  unfold wt; rw [if_pos hp]

theorem slots_inv (hq : ∀ (c : Fin 512) (d : Fin 256), x0 (ix2 c d) = ((Q c.val d.val : ℝ) : EReal))
    (hk : ∀ (n : Fin 4096) (d : Fin 256), x1 (ix2 n d) = ((K n.val d.val : ℝ) : EReal))
    (hv : ∀ (r : Fin 512) (n : Fin 4096), x2 (ix2 r n) = ((V r.val n.val : ℝ) : EReal)) (h : Fin 8) (c : Fin 512) (t : ℕ) (ht : t ≤ 7) :
    Inv c (slotsOf x0 x1 x2 t h)
      (fun r => ∑ n ∈ Finset.range (512 * t), V (128 * (h.val / 2) + r.val) n * (2 : ℝ) ^ score Q K h.val c.val n) := by
  induction t with
  | zero => exact cast (congrArg (Inv c _) (funext fun r => by simp)) (inv_start c)
  | succ t ih =>
    have := inv_step c _ _ (ih (by omega)) (blkSt (kbOf x1 (h.val / 4) t) (qmOf x0 h)) (vtOf x2 (h.val / 2) t) (fun _ => True)
      (fun j => score Q K h.val c.val (512 * t + j.val)) (fun r j => V (128 * (h.val / 2) + r.val) (512 * t + j.val))
      (fun j => by rw [score_apply x0 x1 Q K hq hk h t (by omega)]; unfold sc; rw [if_pos trivial])
      (fun r j => by rw [vtOf_apply x2 _ t (by omega) (by omega), hv]) 0 trivial
    refine cast (congrArg (Inv c _) (funext fun r => ?_)) this
    rw [show 512 * (t + 1) = 512 * t + 512 by omega, Finset.sum_range_add]
    refine congrArg₂ (· + ·) rfl ?_
    rw [← Fin.sum_univ_eq_sum_range (fun i => V (128 * (h.val / 2) + r.val) (512 * t + i) * (2 : ℝ) ^ score Q K h.val c.val (512 * t + i)) 512]
    exact Finset.sum_congr rfl fun j _ => by rw [wt_true _ trivial]

/-- What a block's accumulators hold: the sums over all keys up to the query. -/
theorem acc_inv (hq : ∀ (c : Fin 512) (d : Fin 256), x0 (ix2 c d) = ((Q c.val d.val : ℝ) : EReal))
    (hk : ∀ (n : Fin 4096) (d : Fin 256), x1 (ix2 n d) = ((K n.val d.val : ℝ) : EReal))
    (hv : ∀ (r : Fin 512) (n : Fin 4096), x2 (ix2 r n) = ((V r.val n.val : ℝ) : EReal)) (h : Fin 8) (c : Fin 512) (t : ℕ) (ht : t ≤ 7) :
    ∃ M : EReal, Holds M (fun r : Fin 128 => accOf x0 x1 x2 t h (ix3 0 r c))
      (fun r => colSum Q K V h.val c.val (512 * t + c.val) r.val) := by
  obtain ⟨M, -, hM⟩ := inv_step c _ _ (slots_inv x0 x1 x2 Q K V hq hk hv h c t ht) (maskSt (blkSt (kbOf x1 (h.val / 4) t) (qmOf x0 h)))
    (vtOf x2 (h.val / 2) t) (fun j => j.val ≤ c.val)
    (fun j => score Q K h.val c.val (512 * t + j.val)) (fun r j => V (128 * (h.val / 2) + r.val) (512 * t + j.val))
    (fun j => by rw [maskSt_apply, score_apply x0 x1 Q K hq hk h t ht]; rfl)
    (fun r j => by rw [vtOf_apply x2 _ t (by omega) ht, hv]) 0 (Nat.zero_le _)
  refine ⟨M, cast (congrArg (Holds M _) (funext fun r => ?_)) hM⟩
  unfold colSum
  rw [Fin.sum_univ_eq_sum_range (fun n => V (128 * (h.val / 2) + r.val) n * wt (n ≤ 512 * t + c.val) (score Q K h.val c.val n)) 4096,
    show 4096 = 512 * t + 512 + (4096 - (512 * t + 512)) by omega, Finset.sum_range_add, Finset.sum_range_add]
  have hz : ∑ x ∈ Finset.range (4096 - (512 * t + 512)), V (128 * (h.val / 2) + r.val) (512 * t + 512 + x)
      * wt (512 * t + 512 + x ≤ 512 * t + c.val) (score Q K h.val c.val (512 * t + 512 + x)) = 0 :=
    Finset.sum_eq_zero fun x _ => by
      unfold wt
      rw [if_neg (by omega), mul_zero]
  rw [hz, add_zero]
  refine congrArg₂ (· + ·) (Finset.sum_congr rfl fun n hn => ?_) ?_
  · rw [Finset.mem_range] at hn
    rw [wt_true _ (by omega)]
  · rw [← Fin.sum_univ_eq_sum_range (fun i => V (128 * (h.val / 2) + r.val) (512 * t + i)
      * wt (512 * t + i ≤ 512 * t + c.val) (score Q K h.val c.val (512 * t + i))) 512]
    refine Finset.sum_congr rfl fun j _ => congrArg₂ (· * ·) rfl ?_
    unfold wt
    exact if_congr (by omega) rfl rfl

end Cert.KernelIdeal.Blk

end

end
-- ==== Proof.Fin.lean ====
/-
  The end of a block: the two softmaxes of a head subtracted, its root mean square and gain, and the four heads side by side.
-/
module

public import proofs.«01_k».proof.Proof.Cols

@[expose] public section

set_option maxRecDepth 16384

noncomputable section

namespace Cert.KernelIdeal.Blk

open Idealize.ShloMosaic Idealize.ShloMosaic.TcCoe
open Cert.KernelIdeal Cert.KernelIdeal.Gen Cert.Flash

/-- A head's output at one place, from its column of 64 and the gain. -/
def normed (o : Fin 64 → EReal) (l : Fin 64) (g : EReal) : EReal :=
  o l * Ideal.rsqrt (Ideal.div (∑ r, o r * o r) (Ideal.ofBits .f32 0x42800000#32) + Ideal.ofBits .f32 0x358637BD#32)
    * (g * Ideal.ofBits .f32 0x3F4CCCCD#32)

theorem finH_apply (x4 : Vec Ideal S1x64 .f32) (o : FVec Ideal S64x512 .f32) (c : Fin 512) (l : Fin 64) :
    finH x4 o (ix2 c l) = normed (fun r => o (ix2 r c)) l (x4 (ix2 0 l)) := by
  unfold finH normed
  pointwise

theorem diffH_apply (lam : FVec Ideal S1x1 .f32) (a1 a2 : Vec Ideal S1x128x512 .f32) (r : Fin 64) (c : Fin 512) :
    diffH lam a1 a2 (ix2 r c) = Ideal.div (a1 (ix3 0 (⟨r.val, by omega⟩ : Fin 128) c)) (a1 (ix3 0 (64 : Fin 128) c))
      - lam (ix2 0 0) * Ideal.div (a2 (ix3 0 (⟨r.val, by omega⟩ : Fin 128) c)) (a2 (ix3 0 (64 : Fin 128) c)) := by
  unfold diffH
  pointwise

theorem lamOf_apply (x3 : Vec Ideal S4x128 .f32) : lamOf x3 (ix2 0 0)
    = Ideal.exp (∑ d : Fin 128, x3 (ix2 0 d) * x3 (ix2 1 d)) - Ideal.exp (∑ d : Fin 128, x3 (ix2 2 d) * x3 (ix2 3 d)) + Ideal.ofBits .f32 0x3E4CCCCD#32 := by
  unfold lamOf
  pointwise

theorem headsOut_apply (x3 : Vec Ideal S4x128 .f32) (x4 : Vec Ideal S1x64 .f32) (acc : Fin 8 → Vec Ideal S1x128x512 .f32) (c : Fin 512) (g : Fin 4) (l : Fin 64) :
    headsOut x3 x4 acc (ix2 c (⟨64 * g.val + l.val, by omega⟩ : Fin 256))
      = finH x4 (diffH (lamOf x3) (acc ⟨2 * g.val, by omega⟩) (acc ⟨2 * g.val + 1, by omega⟩)) (ix2 c l) := by
  unfold headsOut
  generalize lamOf x3 = L
  fin_cases g
  all_goals dsimp only [Fin.zero_eta, Fin.mk_one, Fin.reduceFinMk, Fin.val_zero]
  all_goals pointwise
  · rw [dif_neg (by omega), dif_neg (by omega), dif_pos (by omega)]
    exact congrArg (fun l : Fin 64 => finH x4 (diffH L (acc 4) (acc 5)) (ix2 c l)) (Fin.ext (by dsimp only; omega))
  · rw [dif_neg (by omega), dif_neg (by omega), dif_neg (by omega)]
    exact congrArg (fun l : Fin 64 => finH x4 (diffH L (acc 6) (acc 7)) (ix2 c l)) (Fin.ext (by dsimp only; omega))

/-- A head's column over the reals: the two weighted means, the second times `lam` taken off the first. -/
def diffR (Q K V : ℕ → ℕ → ℝ) (lam : ℝ) (g q q' r : ℕ) : ℝ :=
  colSum Q K V (2 * g) q q' r / colSum Q K V (2 * g) q q' 64
    - lam * (colSum Q K V (2 * g + 1) q q' r / colSum Q K V (2 * g + 1) q q' 64)

theorem blockOut_apply (x0 : Vec Ideal S512x256 .bf16) (x1 : Vec Ideal S4096x256 .bf16) (x2 : Vec Ideal S512x4096 .bf16) (x3 : Vec Ideal S4x128 .f32) (x4 : Vec Ideal S1x64 .f32)
    (Q K V : ℕ → ℕ → ℝ) (lam : ℝ) (hq : ∀ (c : Fin 512) (d : Fin 256), x0 (ix2 c d) = ((Q c.val d.val : ℝ) : EReal))
    (hk : ∀ (n : Fin 4096) (d : Fin 256), x1 (ix2 n d) = ((K n.val d.val : ℝ) : EReal))
    (hv : ∀ (r : Fin 512) (n : Fin 4096), x2 (ix2 r n) = ((V r.val n.val : ℝ) : EReal))
    (hones : ∀ (g : ℕ) (n : ℕ), g < 4 → n < 4096 → V (128 * g + 64) n = 1)
    (hl : lamOf x3 (ix2 0 0) = (lam : EReal)) (t : ℕ) (ht : t ≤ 7) (c : Fin 512) (g : Fin 4) (l : Fin 64) :
    blockOut x0 x1 x2 x3 x4 t (ix2 c (⟨64 * g.val + l.val, by omega⟩ : Fin 256))
      = normed (fun r : Fin 64 => ((diffR Q K V lam g.val c.val (512 * t + c.val) r.val : ℝ) : EReal)) l (x4 (ix2 0 l)) := by
  unfold blockOut
  rw [headsOut_apply, finH_apply]
  refine congrArg (fun o => normed o l (x4 (ix2 0 l))) (funext fun r => ?_)
  have pos : ∀ h : Fin 8, 0 < colSum Q K V h.val c.val (512 * t + c.val) 64 := fun h => by
    unfold colSum
    refine Finset.sum_pos' (fun n _ => ?_) ⟨⟨0, by omega⟩, Finset.mem_univ _, ?_⟩
    · rw [hones _ _ (by omega) n.isLt, one_mul]
      unfold wt
      split
      · positivity
      · exact le_refl _
    · rw [hones _ _ (by omega) (by omega), one_mul, wt_true _ (Nat.zero_le _)]
      positivity
  have quot : ∀ h : Fin 8, Ideal.div (accOf x0 x1 x2 t h (ix3 0 (⟨r.val, by omega⟩ : Fin 128) c)) (accOf x0 x1 x2 t h (ix3 0 (64 : Fin 128) c))
      = ((colSum Q K V h.val c.val (512 * t + c.val) r.val / colSum Q K V h.val c.val (512 * t + c.val) 64 : ℝ) : EReal) := fun h => by
    obtain ⟨M, hM⟩ := acc_inv x0 x1 x2 Q K V hq hk hv h c t ht
    exact hM.div ⟨r.val, by omega⟩ 64 (pos h)
  rw [diffH_apply, quot, quot, hl]
  unfold diffR
  rw [← EReal.coe_mul, ← EReal.coe_sub]

end Cert.KernelIdeal.Blk

end

end
-- ==== Proof.Host.lean ====
/-
  What the launch is given: the arrays that the host operations before it write, as functions of the arguments.
-/
module

public import proofs.«01_k».proof.Proof.Run
public import proofs.«01_k».proof.Proof.Fin
public import Idealize.ShloMosaic.Lib.StableHlo.ReadAt

@[expose] public section

set_option maxRecDepth 16384

noncomputable section

namespace Cert.KernelIdeal.Blk

open Idealize.ShloMosaic Idealize.ShloMosaic.TcCoe Idealize.ShloMosaic.Pipeline
open Cert.KernelIdeal Cert.KernelIdeal.Gen Cert.Flash

/-- The queries, scaled and laid out in rows. -/
def zqH (x0 : FVec Ideal S8x4096x4x2x32 .f32) : FVec Ideal S32768x256 .bf16 :=
  shapeCast S32768x256 (truncf .bf16 (mulf x0 (broadcastInDim S8x4096x4x2x32 ![] bcast_S_S8x4096x4x2x32
    (Host.divf (Host.rsqrt (constant S_ .f32 0x42000000#32)) (Host.log (constant S_ .f32 0x40000000#32))))) bitsLt_bf16_f32) shapeCasts_S8x4096x4x2x32_S32768x256

/-- The keys laid out in rows. -/
def zkH (x1 : FVec Ideal S8x4096x4x2x32 .f32) : FVec Ideal S32768x256 .bf16 :=
  shapeCast S32768x256 (truncf .bf16 x1 bitsLt_bf16_f32) shapeCasts_S8x4096x4x2x32_S32768x256

/-- The values laid out in columns. -/
def vtH (x2 : FVec Ideal S8x4096x4x64 .f32) : FVec Ideal S256x32768 .f32 :=
  transpose S256x32768 [1, 0] (shapeCast S32768x256 x2 shapeCasts_S8x4096x4x64_S32768x256) transposes_S32768x256_S256x32768_1_0

/-- A block of 64 rows, the first of ones and the others of zeros. -/
def onesH : FVec Ideal S64x32768 .f32 :=
  select (cmpi .eq (iotaInDim S64x32768 32 0) (broadcastInDim S64x32768 ![] bcast_S_S64x32768 (constantI S_ 32 0#32)))
    (broadcastInDim S64x32768 ![] bcast_S_S64x32768 (constant S_ .f32 0x3F800000#32)) (broadcastInDim S64x32768 ![] bcast_S_S64x32768 (constant S_ .f32 0x00000000#32))

/-- The values in columns, each head's 64 rows followed by the block with the row of ones. -/
def zvtH (x2 : FVec Ideal S8x4096x4x64 .f32) : FVec Ideal S512x32768 .bf16 :=
  truncf .bf16 (concatenate S512x32768 0 [⟨S64x32768, extractStridedSlice S64x32768 ![0, 0] (vtH x2) slices_S256x32768_S64x32768_0_0⟩, ⟨S64x32768, onesH⟩,
    ⟨S64x32768, extractStridedSlice S64x32768 ![64, 0] (vtH x2) slices_S256x32768_S64x32768_64_0⟩, ⟨S64x32768, onesH⟩,
    ⟨S64x32768, extractStridedSlice S64x32768 ![128, 0] (vtH x2) slices_S256x32768_S64x32768_128_0⟩, ⟨S64x32768, onesH⟩,
    ⟨S64x32768, extractStridedSlice S64x32768 ![192, 0] (vtH x2) slices_S256x32768_S64x32768_192_0⟩, ⟨S64x32768, onesH⟩]
    concatenates_S64x32768_S64x32768_S64x32768_S64x32768_S64x32768_S64x32768_S64x32768_S64x32768_S512x32768_d0) bitsLt_bf16_f32

variable (m : (ℓ : Loc nD τ sig) → Buf (Elt Ideal) ℓ) (c : Dev nD)

theorem V_zq : V m c main_v6 = zqH (m ((c : Thread nD τ).loc main_arg0)) := by
  unfold V
  after_reads_simp
  rfl

theorem V_zk : V m c main_v8 = zkH (m ((c : Thread nD τ).loc main_arg1)) := by
  unfold V
  after_reads_simp
  rfl

theorem cat8 {a0 a1 a2 a3 a4 a5 a6 a7 b0 b1 b2 b3 b4 b5 b6 b7 : FVec Ideal S64x32768 .f32} (h0 : a0 = b0) (h1 : a1 = b1) (h2 : a2 = b2) (h3 : a3 = b3)
    (h4 : a4 = b4) (h5 : a5 = b5) (h6 : a6 = b6) (h7 : a7 = b7) :
    (concatenate S512x32768 0 [⟨S64x32768, a0⟩, ⟨S64x32768, a1⟩, ⟨S64x32768, a2⟩, ⟨S64x32768, a3⟩, ⟨S64x32768, a4⟩, ⟨S64x32768, a5⟩, ⟨S64x32768, a6⟩, ⟨S64x32768, a7⟩]
      concatenates_S64x32768_S64x32768_S64x32768_S64x32768_S64x32768_S64x32768_S64x32768_S64x32768_S512x32768_d0 : FVec Ideal S512x32768 .f32)
    = concatenate S512x32768 0 [⟨S64x32768, b0⟩, ⟨S64x32768, b1⟩, ⟨S64x32768, b2⟩, ⟨S64x32768, b3⟩, ⟨S64x32768, b4⟩, ⟨S64x32768, b5⟩, ⟨S64x32768, b6⟩, ⟨S64x32768, b7⟩]
      concatenates_S64x32768_S64x32768_S64x32768_S64x32768_S64x32768_S64x32768_S64x32768_S64x32768_S512x32768_d0 := by
  rw [h0, h1, h2, h3, h4, h5, h6, h7]

theorem cat4 {a0 a1 a2 a3 b0 b1 b2 b3 : FVec Ideal S1x128 .f32} (h0 : a0 = b0) (h1 : a1 = b1) (h2 : a2 = b2) (h3 : a3 = b3) :
    (concatenate S4x128 0 [⟨S1x128, a0⟩, ⟨S1x128, a1⟩, ⟨S1x128, a2⟩, ⟨S1x128, a3⟩] concatenates_S1x128_S1x128_S1x128_S1x128_S4x128_d0 : FVec Ideal S4x128 .f32)
    = concatenate S4x128 0 [⟨S1x128, b0⟩, ⟨S1x128, b1⟩, ⟨S1x128, b2⟩, ⟨S1x128, b3⟩] concatenates_S1x128_S1x128_S1x128_S1x128_S4x128_d0 := by
  rw [h0, h1, h2, h3]

/-- What the buffers hold after the first `n` host operations. -/
abbrev firstOps (n : ℕ) (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10]) (fun b => m (c, b)) n (Proc.devRef .tc b)

theorem V_zvt : V m c main_v24 = zvtH (m ((c : Thread nD τ).loc main_arg2)) := by
  unfold V
  after_reads_simp
  unfold zvtH
  refine congrArg (fun x : FVec Ideal S512x32768 .f32 => (truncf .bf16 x bitsLt_bf16_f32 : FVec Ideal S512x32768 .bf16)) (cat8 ?_ ?_ ?_ ?_ ?_ ?_ ?_ ?_)
  · show firstOps m c 30 main_v15 = _
    unfold firstOps
    after_reads_simp
    rfl
  · show firstOps m c 30 main_v19 = _
    unfold firstOps
    after_reads_simp
    rfl
  · show firstOps m c 30 main_v16 = _
    unfold firstOps
    after_reads_simp
    rfl
  · show firstOps m c 30 main_v20 = _
    unfold firstOps
    after_reads_simp
    rfl
  · show firstOps m c 30 main_v17 = _
    unfold firstOps
    after_reads_simp
    rfl
  · show firstOps m c 30 main_v21 = _
    unfold firstOps
    after_reads_simp
    rfl
  · show firstOps m c 30 main_v18 = _
    unfold firstOps
    after_reads_simp
    rfl
  · show firstOps m c 30 main_v22 = _
    unfold firstOps
    after_reads_simp
    rfl

/-- A vector of 32 as a row of 128, zeros after it. -/
def padH (x : FVec Ideal S32 .f32) : FVec Ideal S1x128 .f32 :=
  pad S1x128 ![0, 0] ![0, 96] ![0, 0] (shapeCast S1x32 x shapeCasts_S32_S1x32) (sitofp .f32 (constantI S_ 32 0#32)) pads_S1x32_S1x128_000_0960 h_S_

def lampH (x3 x4 x5 x6 : FVec Ideal S32 .f32) : FVec Ideal S4x128 .f32 :=
  concatenate S4x128 0 [⟨S1x128, padH x3⟩, ⟨S1x128, padH x4⟩, ⟨S1x128, padH x5⟩, ⟨S1x128, padH x6⟩] concatenates_S1x128_S1x128_S1x128_S1x128_S4x128_d0

theorem V_gain : V m c main_v34 = shapeCast S1x64 (m ((c : Thread nD τ).loc main_arg7)) shapeCasts_S64_S1x64 := by
  unfold V
  after_reads_simp
  rfl

theorem V_lamp : V m c main_v33 = lampH (m ((c : Thread nD τ).loc main_arg3)) (m ((c : Thread nD τ).loc main_arg4)) (m ((c : Thread nD τ).loc main_arg5)) (m ((c : Thread nD τ).loc main_arg6)) := by
  unfold V
  after_reads_simp
  unfold lampH
  refine cat4 ?_ ?_ ?_ ?_
  · show firstOps m c 48 main_v26 = _
    unfold firstOps
    after_reads_simp
    rfl
  · show firstOps m c 48 main_v28 = _
    unfold firstOps
    after_reads_simp
    rfl
  · show firstOps m c 48 main_v30 = _
    unfold firstOps
    after_reads_simp
    rfl
  · show firstOps m c 48 main_v32 = _
    unfold firstOps
    after_reads_simp
    rfl

theorem zqH_apply (x0 : FVec Ideal S8x4096x4x2x32 .f32) (b : Fin 8) (n : Fin 4096) (h : Fin 4) (p : Fin 2) (e : Fin 32) :
    zqH x0 (ix2 (⟨4096 * b.val + n.val, by omega⟩ : Fin 32768) (⟨64 * h.val + 32 * p.val + e.val, by omega⟩ : Fin 256))
      = x0 (ix5 b n h p e) * Ideal.div (Ideal.rsqrt (Ideal.ofBits .f32 0x42000000#32)) (Ideal.log (Ideal.ofBits .f32 0x40000000#32)) := by
  unfold zqH
  refine (shapeCast_apply _ _ _ (ix5 b n h p e) ?_).trans rfl
  rw [Shape.rowMajor_val_five, Shape.rowMajor_val_two]
  show (((b.val * 4096 + n.val) * 4 + h.val) * 2 + p.val) * 32 + e.val = (4096 * b.val + n.val) * 256 + (64 * h.val + 32 * p.val + e.val)
  omega

theorem zkH_apply (x1 : FVec Ideal S8x4096x4x2x32 .f32) (b : Fin 8) (n : Fin 4096) (h : Fin 4) (p : Fin 2) (e : Fin 32) :
    zkH x1 (ix2 (⟨4096 * b.val + n.val, by omega⟩ : Fin 32768) (⟨64 * h.val + 32 * p.val + e.val, by omega⟩ : Fin 256)) = x1 (ix5 b n h p e) := by
  unfold zkH
  refine (shapeCast_apply _ _ _ (ix5 b n h p e) ?_).trans rfl
  rw [Shape.rowMajor_val_five, Shape.rowMajor_val_two]
  show (((b.val * 4096 + n.val) * 4 + h.val) * 2 + p.val) * 32 + e.val = (4096 * b.val + n.val) * 256 + (64 * h.val + 32 * p.val + e.val)
  omega

theorem padH_apply (x : FVec Ideal S32 .f32) (d : Fin 128) : padH x (ix2 0 d) = if h : d.val < 32 then x (ix1 ⟨d.val, h⟩) else 0 := by
  unfold padH
  pointwise
  refine dite_congr rfl (fun _ => rfl) fun _ => ?_
  show (((0#32 : BitVec 32).toInt : ℝ) : EReal) = 0
  norm_num

theorem lampH_apply (x3 x4 x5 x6 : FVec Ideal S32 .f32) (d : Fin 128) :
    lampH x3 x4 x5 x6 (ix2 0 d) = padH x3 (ix2 0 d) ∧ lampH x3 x4 x5 x6 (ix2 1 d) = padH x4 (ix2 0 d)
      ∧ lampH x3 x4 x5 x6 (ix2 2 d) = padH x5 (ix2 0 d) ∧ lampH x3 x4 x5 x6 (ix2 3 d) = padH x6 (ix2 0 d) := by
  unfold lampH
  generalize padH x3 = a0
  generalize padH x4 = a1
  generalize padH x5 = a2
  generalize padH x6 = a3
  refine ⟨?_, ?_, ?_, ?_⟩ <;> pointwise

theorem sum_pad (x y : FVec Ideal S32 .f32) : ∑ d : Fin 128, padH x (ix2 0 d) * padH y (ix2 0 d) = ∑ e : Fin 32, x (ix1 e) * y (ix1 e) := by
  have h : ∀ d : Fin 128, padH x (ix2 0 d) * padH y (ix2 0 d) = (fun d : ℕ => if h : d < 32 then x (ix1 ⟨d, h⟩) * y (ix1 ⟨d, h⟩) else 0) d.val := fun d => by
    rw [padH_apply, padH_apply]
    dsimp only
    split
    · rfl
    · exact mul_zero _
  rw [Finset.sum_congr rfl fun d _ => h d, Fin.sum_univ_eq_sum_range (fun d : ℕ => if h : d < 32 then x (ix1 ⟨d, h⟩) * y (ix1 ⟨d, h⟩) else 0) 128,
    show 128 = 32 + 96 from rfl, Finset.sum_range_add, ← Fin.sum_univ_eq_sum_range (fun d : ℕ => if h : d < 32 then x (ix1 ⟨d, h⟩) * y (ix1 ⟨d, h⟩) else 0) 32]
  rw [Finset.sum_eq_zero (s := Finset.range 96) fun d _ => dif_neg (by omega), add_zero]
  exact Finset.sum_congr rfl fun e _ => dif_pos e.isLt

/-- The kernel's factor on the second softmax. -/
theorem lam_apply (x3 x4 x5 x6 : FVec Ideal S32 .f32) : lamOf (F := Ideal) (lampH x3 x4 x5 x6) (ix2 0 0)
    = Ideal.exp (∑ e : Fin 32, x3 (ix1 e) * x4 (ix1 e)) - Ideal.exp (∑ e : Fin 32, x5 (ix1 e) * x6 (ix1 e)) + Ideal.ofBits .f32 0x3E4CCCCD#32 := by
  rw [lamOf_apply, ← sum_pad, ← sum_pad]
  simp only [fun d => (lampH_apply x3 x4 x5 x6 d).1, fun d => (lampH_apply x3 x4 x5 x6 d).2.1, fun d => (lampH_apply x3 x4 x5 x6 d).2.2.1, fun d => (lampH_apply x3 x4 x5 x6 d).2.2.2]

theorem onesH_apply (r : Fin 64) (n : Fin 32768) : onesH (ix2 r n) = if r.val = 0 then 1 else 0 := by
  unfold onesH
  pointwise
  have e : IntOp.cmpi CmpIPredicate.eq (BitVec.ofNat 32 r.val) 0#32 = BitVec.ofBool (decide (r.val = 0)) := by
    refine congrArg BitVec.ofBool (Bool.eq_iff_iff.mpr ?_)
    simp only [beq_iff_eq, decide_eq_true_eq]
    constructor
    · intro h
      have := congrArg BitVec.toNat h
      simp only [BitVec.toNat_ofNat] at this
      omega
    · intro h
      rw [h]
  rw [e, select_ofBool]
  simp only [decide_eq_true_eq]

theorem vtH_apply (x2 : FVec Ideal S8x4096x4x64 .f32) (b : Fin 8) (n : Fin 4096) (g : Fin 4) (r : Fin 64) :
    vtH x2 (ix2 (⟨64 * g.val + r.val, by omega⟩ : Fin 256) (⟨4096 * b.val + n.val, by omega⟩ : Fin 32768)) = x2 (ix4 b n g r) := by
  unfold vtH
  have e : (transpose S256x32768 [1, 0] (shapeCast S32768x256 x2 shapeCasts_S8x4096x4x64_S32768x256) transposes_S32768x256_S256x32768_1_0 : FVec Ideal S256x32768 .f32)
      (ix2 (⟨64 * g.val + r.val, by omega⟩ : Fin 256) (⟨4096 * b.val + n.val, by omega⟩ : Fin 32768))
      = shapeCast S32768x256 x2 shapeCasts_S8x4096x4x64_S32768x256 (ix2 (⟨4096 * b.val + n.val, by omega⟩ : Fin 32768) (⟨64 * g.val + r.val, by omega⟩ : Fin 256)) := by
    generalize (shapeCast S32768x256 x2 shapeCasts_S8x4096x4x64_S32768x256 : FVec Ideal S32768x256 .f32) = z
    pointwise
  refine e.trans (shapeCast_apply _ _ _ (ix4 b n g r) ?_)
  rw [Shape.rowMajor_val_four, Shape.rowMajor_val_two]
  show ((b.val * 4096 + n.val) * 4 + g.val) * 64 + r.val = (4096 * b.val + n.val) * 256 + (64 * g.val + r.val)
  omega

theorem cat8_at (a0 a1 a2 a3 a4 a5 a6 a7 : FVec Ideal S64x32768 .f32) (k : Fin 8) (r : Fin 64) (n : Fin 32768) :
    (concatenate S512x32768 0 [⟨S64x32768, a0⟩, ⟨S64x32768, a1⟩, ⟨S64x32768, a2⟩, ⟨S64x32768, a3⟩, ⟨S64x32768, a4⟩, ⟨S64x32768, a5⟩, ⟨S64x32768, a6⟩, ⟨S64x32768, a7⟩]
      concatenates_S64x32768_S64x32768_S64x32768_S64x32768_S64x32768_S64x32768_S64x32768_S64x32768_S512x32768_d0 : FVec Ideal S512x32768 .f32)
        (ix2 (⟨64 * k.val + r.val, by omega⟩ : Fin 512) n)
      = (![a0, a1, a2, a3, a4, a5, a6, a7] : Fin 8 → FVec Ideal S64x32768 .f32) k (ix2 r n) := by
  have at' : ∀ (a : FVec Ideal S64x32768 .f32) (r' : Fin 64), r'.val = r.val → a (ix2 r' n) = a (ix2 r n) := fun a r' h => by rw [Fin.ext h]
  generalize hi : (⟨64 * k.val + r.val, by omega⟩ : Fin 512) = i
  have hv : i.val = 64 * k.val + r.val := by rw [← hi]
  pointwise
  fin_cases k <;> dsimp only at hv <;> (repeat rw [dif_neg (by omega)]) <;> (try rw [dif_pos (by omega)]) <;> exact at' _ _ (by dsimp only; omega)

/-- The values with the row of ones, at head `g`'s row `r`. -/
theorem zvtH_val (x2 : FVec Ideal S8x4096x4x64 .f32) (b : Fin 8) (n : Fin 4096) (g : Fin 4) (r : Fin 64) :
    zvtH x2 (ix2 (⟨128 * g.val + r.val, by omega⟩ : Fin 512) (⟨4096 * b.val + n.val, by omega⟩ : Fin 32768)) = x2 (ix4 b n g r) := by
  rw [← vtH_apply x2 b n g r]
  unfold zvtH
  generalize vtH x2 = z
  have hi : (⟨128 * g.val + r.val, by omega⟩ : Fin 512) = ⟨64 * (⟨2 * g.val, by omega⟩ : Fin 8).val + r.val, by dsimp only; omega⟩ := Fin.ext (by dsimp only; omega)
  rw [hi]
  refine (cat8_at _ _ _ _ _ _ _ _ ⟨2 * g.val, by omega⟩ r _).trans ?_
  fin_cases g
  all_goals
    refine congrArg z (funext fun a => Fin.ext ?_)
    match a with
    | ⟨0, _⟩ => dsimp
    | ⟨1, _⟩ => dsimp; omega

theorem zvtH_one (x2 : FVec Ideal S8x4096x4x64 .f32) (n : Fin 32768) (g : Fin 4) (r : Fin 64) :
    zvtH x2 (ix2 (⟨128 * g.val + 64 + r.val, by omega⟩ : Fin 512) n) = if r.val = 0 then 1 else 0 := by
  rw [← onesH_apply r n]
  unfold zvtH
  generalize vtH x2 = z
  generalize onesH = o
  have hi : (⟨128 * g.val + 64 + r.val, by omega⟩ : Fin 512) = ⟨64 * (⟨2 * g.val + 1, by omega⟩ : Fin 8).val + r.val, by dsimp only; omega⟩ := Fin.ext (by dsimp only; omega)
  rw [hi]
  refine (cat8_at _ _ _ _ _ _ _ _ ⟨2 * g.val + 1, by omega⟩ r _).trans ?_
  fin_cases g <;> rfl

end Cert.KernelIdeal.Blk

end

end
-- ==== Proof.Ref.lean ====
/-
  The reference read at an index, for real arrays.
-/
module

public import proofs.«01_k».proof.Proof.Fin
public import proofs.«01_k».proof.Proof.Gen.ReferenceIdeal.Read

@[expose] public section

set_option maxRecDepth 16384

noncomputable section

namespace Cert.ReferenceIdeal.Read

open Idealize.ShloMosaic Idealize.ShloMosaic.TcCoe
open Cert.ReferenceIdeal Cert.ReferenceIdeal.Gen Cert.Flash

theorem v15_at (x0 x1 : FVec Ideal S8x4096x4x2x32 .f32) (b : Fin 8) (h : Fin 4) (c : Fin 2) (n j : Fin 4096) :
    val_main_v15 (F := Ideal) x0 x1 (ix5 b h c n j)
      = (∑ e : Fin 32, x0 (ix5 b n h c e) * x1 (ix5 b j h c e)) * Ideal.rsqrt (Ideal.ofBits .f32 0x42000000#32) := by
  rw [val_main_v15_apply, val_main_v14_apply, val_main_v13_apply, val_main_cst_2_apply, val_main_v12_apply]
  refine congrArg (· * Ideal.rsqrt (Ideal.ofBits .f32 0x42000000#32)) (Finset.sum_congr rfl fun e _ => ?_)
  rw [val_main_v8_apply, val_main_v9_apply]
  exact congrArg₂ (fun i j => x0 i * x1 j)
    (funext fun a => Fin.ext (by match a with | ⟨0, _⟩ => rfl | ⟨1, _⟩ => rfl | ⟨2, _⟩ => rfl | ⟨3, _⟩ => rfl | ⟨4, _⟩ => rfl))
    (funext fun a => Fin.ext (by match a with | ⟨0, _⟩ => rfl | ⟨1, _⟩ => rfl | ⟨2, _⟩ => rfl | ⟨3, _⟩ => rfl | ⟨4, _⟩ => rfl))

theorem v21_at (x0 x1 : FVec Ideal S8x4096x4x2x32 .f32) (b : Fin 8) (h : Fin 4) (c : Fin 2) (n j : Fin 4096) :
    val_main_v21 (F := Ideal) x0 x1 (ix5 b h c n j)
      = if j.val ≤ n.val then val_main_v15 (F := Ideal) x0 x1 (ix5 b h c n j) else ⊥ := by
  rw [val_main_v21_apply, val_main_call0_v2_apply, val_main_call0_v1_apply, val_main_call0_v0_apply, val_main_v20_apply, val_main_v19_apply, val_main_v18_apply,
    val_main_v17_apply, val_main_v16_apply, val_main_v11_apply, val_main_v11_apply, val_main_cst_3_apply]
  generalize val_main_v15 (F := Ideal) x0 x1 = z
  show Scalar.select (IntOp.cmpi .sle (BitVec.ofNat 32 j.val) (BitVec.ofNat 32 n.val)) _ _ = _
  rw [WordCmp.cmpi_sle_ofNat (by omega) (by omega), Cert.KernelIdeal.Blk.select_ofBool]
  simp only [decide_eq_true_eq]
  exact if_congr Iff.rfl rfl Cert.KernelIdeal.Blk.negInf

theorem v24_at (x0 x1 : FVec Ideal S8x4096x4x2x32 .f32) (b : Fin 8) (h : Fin 4) (c : Fin 2) (n : Fin 4096) :
    val_main_v24 (F := Ideal) x0 x1 (ix4 b h c n)
      = max ⊥ ((Finset.univ : Finset (Fin 4096)).fold max ⊥ fun j => val_main_v21 (F := Ideal) x0 x1 (ix5 b h c n j)) := by
  rw [val_main_v24_apply, val_main_v23_apply, val_main_cst_5_apply]
  unfold val_main_v22
  generalize val_main_v21 (F := Ideal) x0 x1 = z
  refine congrArg₂ (max : EReal → EReal → EReal) Cert.KernelIdeal.Blk.negInf ?_
  refine (Host.reduce_eq_fold_single (max : EReal → EReal → EReal) z _ reducesTo_S8x4x2x4096x4096_S8x4x2x4096_d4 (by decide) h_S_ _).trans ?_
  rw [val_main_cst_4_apply]
  refine congrArg₂ (fun (e : EReal) (f : Fin 4096 → EReal) => (Finset.univ : Finset (Fin 4096)).fold max e f) Cert.KernelIdeal.Blk.negInf (funext fun j => ?_)
  exact congrArg z (funext fun a => Fin.ext (by match a with | ⟨0, _⟩ => rfl | ⟨1, _⟩ => rfl | ⟨2, _⟩ => rfl | ⟨3, _⟩ => rfl | ⟨4, _⟩ => rfl))

theorem v28_at (x0 x1 : FVec Ideal S8x4096x4x2x32 .f32) (b : Fin 8) (h : Fin 4) (c : Fin 2) (n j : Fin 4096) :
    val_main_v28 (F := Ideal) x0 x1 (ix5 b h c n j)
      = Ideal.exp (val_main_v21 (F := Ideal) x0 x1 (ix5 b h c n j) - val_main_v24 (F := Ideal) x0 x1 (ix4 b h c n)) := by
  rw [val_main_v28_apply, val_main_v27_apply, val_main_v26_apply, val_main_v25_apply]
  generalize val_main_v21 (F := Ideal) x0 x1 = z
  generalize val_main_v24 (F := Ideal) x0 x1 = y
  refine congrArg (fun i => Ideal.exp (z (ix5 b h c n j) - y i)) ?_
  exact funext fun a => Fin.ext (by match a with | ⟨0, _⟩ => rfl | ⟨1, _⟩ => rfl | ⟨2, _⟩ => rfl | ⟨3, _⟩ => rfl)

theorem v32_at (x0 x1 : FVec Ideal S8x4096x4x2x32 .f32) (b : Fin 8) (h : Fin 4) (c : Fin 2) (n j : Fin 4096) :
    val_main_v32 (F := Ideal) x0 x1 (ix5 b h c n j)
      = Ideal.div (val_main_v28 (F := Ideal) x0 x1 (ix5 b h c n j)) (∑ j : Fin 4096, val_main_v28 (F := Ideal) x0 x1 (ix5 b h c n j)) := by
  rw [val_main_v32_apply, val_main_v31_apply, val_main_v30_apply, val_main_v29_apply, val_main_cst_6_apply]
  generalize val_main_v28 (F := Ideal) x0 x1 = z
  refine congrArg (Ideal.div (z (ix5 b h c n j))) ?_
  refine (congrArg (· + _) (show Ideal.ofBits .f32 0x00000000#32 = 0 by simp [Ideal.ofBits, Ideal.ieee])).trans ((zero_add _).trans ?_)
  refine Finset.sum_congr rfl fun k _ => congrArg z ?_
  exact funext fun a => Fin.ext (by match a with | ⟨0, _⟩ => rfl | ⟨1, _⟩ => rfl | ⟨2, _⟩ => rfl | ⟨3, _⟩ => rfl | ⟨4, _⟩ => rfl)

theorem sumLanes (f : S32.Idx → EReal) : ∑ j : S32.Idx, f j = ∑ e : Fin 32, f (ix1 e) :=
  (Fintype.sum_equiv ⟨fun e : Fin 32 => (ix1 e : S32.Idx), fun i => ⟨(i 0).val, (i 0).isLt⟩, fun e => rfl, fun i => funext fun a => Fin.ext (by match a with | ⟨0, _⟩ => rfl)⟩
    (fun e => f (ix1 e)) f fun _ => rfl).symm

theorem zero32 : Ideal.ofBits .f32 0x00000000#32 = (0 : EReal) := by simp [Ideal.ofBits, Ideal.ieee]

theorem v7_at (x3 x4 x5 x6 : FVec Ideal S32 .f32) (i : S_.Idx) : val_main_v7 (F := Ideal) x3 x4 x5 x6 i
    = (Ideal.exp (∑ e : Fin 32, x3 (ix1 e) * x4 (ix1 e)) - Ideal.exp (∑ e : Fin 32, x5 (ix1 e) * x6 (ix1 e))) + Ideal.ofBits .f32 0x3E4CCCCD#32 := by
  rw [val_main_v7_apply, val_main_v6_apply, val_main_v5_apply, val_main_v4_apply, val_main_v2_apply, val_main_v1_apply, val_main_cst_apply, val_main_cst_0_apply, val_main_cst_1_apply,
    sumLanes, sumLanes]
  show (Ideal.exp (Ideal.ofBits .f32 0x00000000#32 + _) - Ideal.exp (Ideal.ofBits .f32 0x00000000#32 + _)) + _ = _
  rw [zero32, zero_add, zero_add]
  rfl

theorem v41_at (x0 x1 : FVec Ideal S8x4096x4x2x32 .f32) (x2 : FVec Ideal S8x4096x4x64 .f32) (x3 x4 x5 x6 : FVec Ideal S32 .f32)
    (b : Fin 8) (h : Fin 4) (n : Fin 4096) (r : Fin 64) :
    val_main_v41 (F := Ideal) x0 x1 x2 x3 x4 x5 x6 (ix4 b n h r)
      = ∑ j : Fin 4096, (val_main_v32 (F := Ideal) x0 x1 (ix5 b h 0 n j)
          - val_main_v7 (F := Ideal) x3 x4 x5 x6 (fun a => a.elim0) * val_main_v32 (F := Ideal) x0 x1 (ix5 b h 1 n j)) * x2 (ix4 b j h r) := by
  rw [val_main_v41_apply, val_main_v40_apply]
  refine Finset.sum_congr rfl fun j _ => ?_
  rw [val_main_v39_apply, val_main_v38_apply, val_main_v37_apply, val_main_v36_apply, val_main_v35_apply, val_main_v34_apply, val_main_v33_apply, val_main_v10_apply]
  generalize val_main_v32 (F := Ideal) x0 x1 = z
  generalize val_main_v7 (F := Ideal) x3 x4 x5 x6 = w
  refine congrArg₂ (· * ·) (congrArg₂ (· - ·) (congrArg z ?_) (congrArg₂ (· * ·) (congrArg w ?_) (congrArg z ?_))) (congrArg x2 ?_)
  · funext a
    refine Fin.ext ?_
    match a with
    | ⟨0, _⟩ => show (((b.val * 4 + h.val) * 4096 + n.val) * 4096 + j.val) / 67108864 = b.val; omega
    | ⟨1, _⟩ => show (((b.val * 4 + h.val) * 4096 + n.val) * 4096 + j.val) / 16777216 % 4 = h.val; omega
    | ⟨2, _⟩ => rfl
    | ⟨3, _⟩ => show (((b.val * 4 + h.val) * 4096 + n.val) * 4096 + j.val) / 4096 % 4096 = n.val; omega
    | ⟨4, _⟩ => show (((b.val * 4 + h.val) * 4096 + n.val) * 4096 + j.val) % 4096 = j.val; omega
  · exact funext fun a => a.elim0
  · funext a
    refine Fin.ext ?_
    match a with
    | ⟨0, _⟩ => show (((b.val * 4 + h.val) * 4096 + n.val) * 4096 + j.val) / 67108864 = b.val; omega
    | ⟨1, _⟩ => show (((b.val * 4 + h.val) * 4096 + n.val) * 4096 + j.val) / 16777216 % 4 = h.val; omega
    | ⟨2, _⟩ => rfl
    | ⟨3, _⟩ => show (((b.val * 4 + h.val) * 4096 + n.val) * 4096 + j.val) / 4096 % 4096 = n.val; omega
    | ⟨4, _⟩ => show (((b.val * 4 + h.val) * 4096 + n.val) * 4096 + j.val) % 4096 = j.val; omega
  · exact funext fun a => Fin.ext (by match a with | ⟨0, _⟩ => rfl | ⟨1, _⟩ => rfl | ⟨2, _⟩ => rfl | ⟨3, _⟩ => rfl)

theorem v58_at (x0 x1 : FVec Ideal S8x4096x4x2x32 .f32) (x2 : FVec Ideal S8x4096x4x64 .f32) (x3 x4 x5 x6 : FVec Ideal S32 .f32) (x7 : FVec Ideal S64 .f32)
    (b : Fin 8) (h : Fin 4) (n : Fin 4096) (l : Fin 64) :
    val_main_v58 (F := Ideal) x0 x1 x2 x3 x4 x5 x6 x7 (ix2 (⟨4096 * b.val + n.val, by omega⟩ : Fin 32768) (⟨64 * h.val + l.val, by omega⟩ : Fin 256))
      = Cert.KernelIdeal.Blk.normed (fun r : Fin 64 => val_main_v41 (F := Ideal) x0 x1 x2 x3 x4 x5 x6 (ix4 b n h r)) l (x7 (ix1 l)) := by
  rw [val_main_v58_apply, val_main_v57_apply]
  have hi : idx_main_v57 (ix2 (⟨4096 * b.val + n.val, by omega⟩ : Fin 32768) (⟨64 * h.val + l.val, by omega⟩ : Fin 256)) = ix4 b n h l := by
    funext a
    refine Fin.ext ?_
    match a with
    | ⟨0, _⟩ => show ((4096 * b.val + n.val) * 256 + (64 * h.val + l.val)) / 1048576 = b.val; omega
    | ⟨1, _⟩ => show ((4096 * b.val + n.val) * 256 + (64 * h.val + l.val)) / 256 % 4096 = n.val; omega
    | ⟨2, _⟩ => show ((4096 * b.val + n.val) * 256 + (64 * h.val + l.val)) / 64 % 4 = h.val; omega
    | ⟨3, _⟩ => show ((4096 * b.val + n.val) * 256 + (64 * h.val + l.val)) % 64 = l.val; omega
  refine (congrArg (val_main_v56 (F := Ideal) x0 x1 x2 x3 x4 x5 x6 x7) hi).trans ?_
  rw [val_main_v56_apply, val_main_v55_apply, val_main_v54_apply, val_main_v53_apply, val_main_v52_apply, val_main_v51_apply, val_main_v50_apply, val_main_v49_apply,
    val_main_v48_apply, val_main_v47_apply, val_main_v46_apply, val_main_v45_apply, val_main_v44_apply, val_main_v43_apply, val_main_cst_7_apply, val_main_cst_8_apply,
    val_main_cst_9_apply, val_main_cst_10_apply]
  have hs : ∀ k : Fin 64, val_main_v42 (F := Ideal) x0 x1 x2 x3 x4 x5 x6 (idx_main_v43 (idx_main_v44 (idx_main_v50 (ix4 b n h l))) k)
      = val_main_v41 (F := Ideal) x0 x1 x2 x3 x4 x5 x6 (ix4 b n h k) * val_main_v41 (F := Ideal) x0 x1 x2 x3 x4 x5 x6 (ix4 b n h k) := fun k => by
    rw [val_main_v42_apply]
    refine congrArg (fun i => val_main_v41 (F := Ideal) x0 x1 x2 x3 x4 x5 x6 i * val_main_v41 (F := Ideal) x0 x1 x2 x3 x4 x5 x6 i) ?_
    exact funext fun a => Fin.ext (by match a with | ⟨0, _⟩ => rfl | ⟨1, _⟩ => rfl | ⟨2, _⟩ => rfl | ⟨3, _⟩ => rfl)
  rw [Finset.sum_congr rfl fun k _ => hs k]
  have hg : x7 (idx_main_v52 (idx_main_v53 (ix4 b n h l))) = x7 (ix1 l) :=
    congrArg x7 (funext fun a => Fin.ext (by match a with | ⟨0, _⟩ => rfl))
  rw [hg]
  generalize val_main_v41 (F := Ideal) x0 x1 x2 x3 x4 x5 x6 = z
  unfold Cert.KernelIdeal.Blk.normed
  have h0 : FloatOps.ofBits (F := Ideal) .f32 0x00000000#32 = (0 : EReal) := by simp [Ideal.ofBits, Ideal.ieee]
  rw [h0]
  refine Eq.trans ?_ (mul_assoc _ _ _)
  refine congrArg (fun s => z (ix4 b n h l) * Ideal.rsqrt (Ideal.div s (Ideal.ofBits .f32 0x42800000#32) + Ideal.ofBits .f32 0x358637BD#32) * x7 (ix1 l) * Ideal.ofBits .f32 0x3F4CCCCD#32) ?_
  exact zero_add _

end Cert.ReferenceIdeal.Read

end

end
-- ==== Proof.RefVal.lean ====
/-
  The reference's column of a head over the reals: the two softmaxes as weighted means.
-/
module

public import proofs.«01_k».proof.Proof.Ref

@[expose] public section

set_option maxRecDepth 16384

noncomputable section

namespace Cert.ReferenceIdeal.Read

open Idealize.ShloMosaic Idealize.ShloMosaic.TcCoe
open Cert.KernelIdeal.Blk (score colSum diffR wt_true)
open Cert.ReferenceIdeal Cert.ReferenceIdeal.Gen Cert.Flash

/-- The scale of the scores. -/
theorem scale_real : ∃ s : ℝ, Ideal.rsqrt (Ideal.ofBits .f32 0x42000000#32) = (s : EReal) := by
  have h : Ideal.ofBits .f32 0x42000000#32 = ((32 : ℝ) : EReal) := by
    simp [Ideal.ofBits, Ideal.ieee]
    rw [← EReal.coe_mul]
    norm_num
  refine ⟨(Real.sqrt 32)⁻¹, ?_⟩
  rw [h, Ideal.rsqrt_coe, if_neg (by norm_num), if_neg (by norm_num)]

theorem two_rpow (x : ℝ) : (2 : ℝ) ^ (x / Real.log 2) = Real.exp x := by
  rw [Real.rpow_def_of_pos (by norm_num)]
  congr 1
  field_simp

/-- A quotient of weights does not see what they are all multiplied by. -/
theorem weights_div (w : Fin 4096 → ℝ) (e : ℝ) (he : e ≠ 0) (j : Fin 4096) : w j * e / ∑ i, w i * e = w j / ∑ i, w i := by
  rw [← Finset.sum_mul, mul_div_mul_right _ _ he]

section
variable (x0 x1 : FVec Ideal S8x4096x4x2x32 .f32) (q k : ℕ → ℕ → ℝ) (s : ℝ)
  (hs : Ideal.rsqrt (Ideal.ofBits .f32 0x42000000#32) = (s : EReal))
  (hq : ∀ (b : Fin 8) (n : Fin 4096) (h : Fin 4) (c : Fin 2) (e : Fin 32), x0 (ix5 b n h c e) = ((q (4096 * b.val + n.val) (64 * h.val + 32 * c.val + e.val) : ℝ) : EReal))
  (hk : ∀ (b : Fin 8) (n : Fin 4096) (h : Fin 4) (c : Fin 2) (e : Fin 32), x1 (ix5 b n h c e) = ((k (4096 * b.val + n.val) (64 * h.val + 32 * c.val + e.val) : ℝ) : EReal))
  (b : Fin 8) (h : Fin 4) (c : Fin 2) (n : Fin 4096) (Q K : ℕ → ℕ → ℝ) (a : ℕ)
  (hQ : ∀ d, Q a d = q (4096 * b.val + n.val) d * (s / Real.log 2)) (hK : ∀ j d, K j d = k (4096 * b.val + j) d)

include hs hq hk hQ hK in
theorem v15_real (j : Fin 4096) : val_main_v15 (F := Ideal) x0 x1 (ix5 b h c n j)
    = ((score Q K (2 * h.val + c.val) a j.val * Real.log 2 : ℝ) : EReal) := by
  rw [v15_at, hs]
  have e : ∀ e : Fin 32, x0 (ix5 b n h c e) * x1 (ix5 b j h c e)
      = ((q (4096 * b.val + n.val) (64 * h.val + 32 * c.val + e.val) * k (4096 * b.val + j.val) (64 * h.val + 32 * c.val + e.val) : ℝ) : EReal) := fun e => by
    rw [hq, hk, EReal.coe_mul]
  rw [Finset.sum_congr rfl fun i _ => e i, ← coe_sum, ← EReal.coe_mul]
  refine congrArg _ ?_
  unfold score
  rw [Finset.sum_mul, Finset.sum_mul]
  refine Finset.sum_congr rfl fun i _ => ?_
  rw [hQ, hK, show 32 * (2 * h.val + c.val) + i.val = 64 * h.val + 32 * c.val + i.val by omega]
  have : Real.log 2 ≠ 0 := (Real.log_pos (by norm_num)).ne'
  field_simp

include hs hq hk hQ hK in
/-- The probabilities of a query: each key's weight over the sum of the weights. -/
theorem v32_real (j : Fin 4096) : val_main_v32 (F := Ideal) x0 x1 (ix5 b h c n j)
    = ((wt (j.val ≤ n.val) (score Q K (2 * h.val + c.val) a j.val) / ∑ i : Fin 4096, wt (i.val ≤ n.val) (score Q K (2 * h.val + c.val) a i.val) : ℝ) : EReal) := by
  have hz : ∀ j : Fin 4096, val_main_v21 (F := Ideal) x0 x1 (ix5 b h c n j) = if j.val ≤ n.val then ((score Q K (2 * h.val + c.val) a j.val * Real.log 2 : ℝ) : EReal) else ⊥ := fun j => by
    rw [v21_at, v15_real x0 x1 q k s hs hq hk b h c n Q K a hQ hK]
  have hm : ∃ m : ℝ, val_main_v24 (F := Ideal) x0 x1 (ix4 b h c n) = (m : EReal) := by
    rw [v24_at]
    refine max_real (by simp) (fold_max_real _ _ fun j _ => ?_) fun hb => ?_
    · rw [hz]
      split
      · exact EReal.coe_ne_top _
      · exact bot_ne_top
    · have h1 := le_fold_max (Finset.univ : Finset (Fin 4096)) (fun j => val_main_v21 (F := Ideal) x0 x1 (ix5 b h c n j)) (Finset.mem_univ (⟨0, by omega⟩ : Fin 4096))
      rw [hb] at h1
      have h2 := le_bot_iff.mp h1
      rw [hz, if_pos (Nat.zero_le _)] at h2
      exact EReal.coe_ne_bot _ h2
  obtain ⟨m, hm⟩ := hm
  have hw : ∀ j : Fin 4096, val_main_v28 (F := Ideal) x0 x1 (ix5 b h c n j)
      = ((wt (j.val ≤ n.val) (score Q K (2 * h.val + c.val) a j.val) * Real.exp (-m) : ℝ) : EReal) := fun j => by
    rw [v28_at, hz, hm]
    unfold wt
    split
    · rw [← EReal.coe_sub, Ideal.exp_coe]
      refine congrArg _ ?_
      rw [sub_eq_add_neg, Real.exp_add, ← two_rpow]
      refine congrArg (fun y => (2 : ℝ) ^ y * Real.exp (-m)) ?_
      have : Real.log 2 ≠ 0 := (Real.log_pos (by norm_num)).ne'
      field_simp
    · simp
  rw [v32_at, hw, Finset.sum_congr rfl fun j _ => hw j, ← coe_sum]
  have pos : 0 < ∑ i : Fin 4096, wt (i.val ≤ n.val) (score Q K (2 * h.val + c.val) a i.val) := by
    refine Finset.sum_pos' (fun i _ => ?_) ⟨⟨0, by omega⟩, Finset.mem_univ _, ?_⟩
    · unfold wt
      split
      · positivity
      · exact le_refl _
    · rw [wt_true _ (Nat.zero_le _)]
      positivity
  rw [Ideal.div_coe (by rw [← Finset.sum_mul]; exact (mul_pos pos (Real.exp_pos _)).ne'), ← EReal.coe_mul]
  refine congrArg _ ?_
  rw [mul_one_div]
  exact weights_div (fun i => wt (i.val ≤ n.val) (score Q K (2 * h.val + c.val) a i.val)) _ (Real.exp_pos _).ne' j

include hs hq hk hQ hK in
/-- The reference's column of a head. -/
theorem v41_real (x2 : FVec Ideal S8x4096x4x64 .f32) (x3 x4 x5 x6 : FVec Ideal S32 .f32) (v V : ℕ → ℕ → ℝ) (lam : ℝ)
    (hv : ∀ (b : Fin 8) (n : Fin 4096) (h : Fin 4) (r : Fin 64), x2 (ix4 b n h r) = ((v (4096 * b.val + n.val) (64 * h.val + r.val) : ℝ) : EReal))
    (hV : ∀ (h r j : ℕ), h < 4 → r < 64 → V (128 * h + r) j = v (4096 * b.val + j) (64 * h + r))
    (hone : ∀ (h j : ℕ), h < 4 → j < 4096 → V (128 * h + 64) j = 1)
    (hl : val_main_v7 (F := Ideal) x3 x4 x5 x6 (fun a => a.elim0) = (lam : EReal)) (r : Fin 64) :
    val_main_v41 (F := Ideal) x0 x1 x2 x3 x4 x5 x6 (ix4 b n h r) = ((diffR Q K V lam h.val a n.val r.val : ℝ) : EReal) := by
  rw [v41_at, hl]
  have e0 := v32_real x0 x1 q k s hs hq hk b h 0 n Q K a hQ hK
  have e1 := v32_real x0 x1 q k s hs hq hk b h 1 n Q K a hQ hK
  rw [Finset.sum_congr rfl fun j _ => (by rw [e0, e1, hv, ← EReal.coe_mul, ← EReal.coe_sub, ← EReal.coe_mul] :
    (val_main_v32 (F := Ideal) x0 x1 (ix5 b h 0 n j) - (lam : EReal) * val_main_v32 (F := Ideal) x0 x1 (ix5 b h 1 n j)) * x2 (ix4 b j h r)
      = (((wt (j.val ≤ n.val) (score Q K (2 * h.val + (0 : Fin 2).val) a j.val) / ∑ i : Fin 4096, wt (i.val ≤ n.val) (score Q K (2 * h.val + (0 : Fin 2).val) a i.val)
        - lam * (wt (j.val ≤ n.val) (score Q K (2 * h.val + (1 : Fin 2).val) a j.val) / ∑ i : Fin 4096, wt (i.val ≤ n.val) (score Q K (2 * h.val + (1 : Fin 2).val) a i.val)))
        * v (4096 * b.val + j.val) (64 * h.val + r.val) : ℝ) : EReal)), ← coe_sum]
  refine congrArg _ ?_
  have c1 : ∀ p : ℕ, p < 2 → colSum Q K V (2 * h.val + p) a n.val 64 = ∑ i : Fin 4096, wt (i.val ≤ n.val) (score Q K (2 * h.val + p) a i.val) := fun p hp => by
    unfold colSum
    refine Finset.sum_congr rfl fun i _ => ?_
    rw [show (2 * h.val + p) / 2 = h.val by omega, hone _ _ h.isLt i.isLt, one_mul]
  have c2 : ∀ p : ℕ, p < 2 → colSum Q K V (2 * h.val + p) a n.val r.val
      = ∑ i : Fin 4096, v (4096 * b.val + i.val) (64 * h.val + r.val) * wt (i.val ≤ n.val) (score Q K (2 * h.val + p) a i.val) := fun p hp => by
    unfold colSum
    refine Finset.sum_congr rfl fun i _ => ?_
    rw [show (2 * h.val + p) / 2 = h.val by omega, hV _ _ _ h.isLt r.isLt]
  unfold diffR
  have c10 := c1 0 (by omega)
  have c20 := c2 0 (by omega)
  rw [Nat.add_zero] at c10 c20
  rw [c10, c20, c1 1 (by omega), c2 1 (by omega)]
  simp only [Fin.val_zero, Fin.val_one, Nat.add_zero]
  rw [Finset.sum_div, Finset.sum_div, Finset.mul_sum, ← Finset.sum_sub_distrib]
  exact Finset.sum_congr rfl fun j _ => by ring
end

end Cert.ReferenceIdeal.Read

end

end
-- ==== Proof.Point.lean ====
/-
  One block of queries: what the kernel computes for it is the reference's value there.
-/
module

public import proofs.«01_k».proof.Proof.Host
public import proofs.«01_k».proof.Proof.RefVal

@[expose] public section

set_option maxRecDepth 16384

noncomputable section

namespace Cert.KernelIdeal.Blk

open Idealize.ShloMosaic Idealize.ShloMosaic.TcCoe
open Cert.KernelIdeal Cert.KernelIdeal.Gen Cert.Flash
open Cert.ReferenceIdeal.Read (val_main_v58 val_main_v7 v58_at v41_real v7_at scale_real)

/-- The kernel's scale of the queries, over the reals. -/
theorem scaleK (s : ℝ) (hs : Ideal.rsqrt (Ideal.ofBits .f32 0x42000000#32) = (s : EReal)) :
    Ideal.div (Ideal.rsqrt (Ideal.ofBits .f32 0x42000000#32)) (Ideal.log (Ideal.ofBits .f32 0x40000000#32)) = ((s / Real.log 2 : ℝ) : EReal) := by
  have h : Ideal.ofBits .f32 0x40000000#32 = ((2 : ℝ) : EReal) := by
    simp [Ideal.ofBits, Ideal.ieee]
    rw [← EReal.coe_mul]
    norm_num
  rw [hs, h, Ideal.log_coe, if_neg (by norm_num), Ideal.div_coe (Real.log_pos (by norm_num)).ne', ← EReal.coe_mul, mul_one_div]

/-- The factor on the second softmax is real. -/
theorem lam_real (x3 x4 x5 x6 : FVec Ideal S32 .f32) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∃ lam : ℝ, Ideal.exp (∑ e : Fin 32, x3 (ix1 e) * x4 (ix1 e)) - Ideal.exp (∑ e : Fin 32, x5 (ix1 e) * x6 (ix1 e)) + Ideal.ofBits .f32 0x3E4CCCCD#32 = (lam : EReal) := by
  choose y3 h3 using h3
  choose y4 h4 using h4
  choose y5 h5 using h5
  choose y6 h6 using h6
  have hc : ∃ a : ℝ, Ideal.ofBits .f32 0x3E4CCCCD#32 = (a : EReal) := by
    simp only [Ideal.ofBits, Ideal.ieee]
    simp
    exact ⟨_, (EReal.coe_mul _ _).symm⟩
  obtain ⟨a, ha⟩ := hc
  refine ⟨Real.exp (∑ e : Fin 32, y3 (ix1 e) * y4 (ix1 e)) - Real.exp (∑ e : Fin 32, y5 (ix1 e) * y6 (ix1 e)) + a, ?_⟩
  have p : ∀ e : Fin 32, x3 (ix1 e) * x4 (ix1 e) = ((y3 (ix1 e) * y4 (ix1 e) : ℝ) : EReal) := fun e => by rw [h3, h4, EReal.coe_mul]
  have p' : ∀ e : Fin 32, x5 (ix1 e) * x6 (ix1 e) = ((y5 (ix1 e) * y6 (ix1 e) : ℝ) : EReal) := fun e => by rw [h5, h6, EReal.coe_mul]
  rw [Finset.sum_congr rfl fun e _ => p e, Finset.sum_congr rfl fun e _ => p' e, ← coe_sum, ← coe_sum, Ideal.exp_coe, Ideal.exp_coe, ha, ← EReal.coe_sub, ← EReal.coe_add]

theorem point (x0 x1 : FVec Ideal S8x4096x4x2x32 .f32) (x2 : FVec Ideal S8x4096x4x64 .f32) (x3 x4 x5 x6 : FVec Ideal S32 .f32) (x7 : FVec Ideal S64 .f32)
    (f0 : ∀ i, ∃ r : ℝ, x0 i = (r : EReal)) (f1 : ∀ i, ∃ r : ℝ, x1 i = (r : EReal)) (f2 : ∀ i, ∃ r : ℝ, x2 i = (r : EReal))
    (f3 : ∀ i, ∃ r : ℝ, x3 i = (r : EReal)) (f4 : ∀ i, ∃ r : ℝ, x4 i = (r : EReal)) (f5 : ∀ i, ∃ r : ℝ, x5 i = (r : EReal)) (f6 : ∀ i, ∃ r : ℝ, x6 i = (r : EReal))
    (b t : Fin 8) (X0 : Vec Ideal S512x256 .bf16) (X1 : Vec Ideal S4096x256 .bf16) (X2 : Vec Ideal S512x4096 .bf16) (X4 : Vec Ideal S1x64 .f32)
    (e0 : ∀ (i : Fin 512) (d : Fin 256), X0 (ix2 i d) = zqH x0 (ix2 (⟨4096 * b.val + (512 * t.val + i.val), by omega⟩ : Fin 32768) d))
    (e1 : ∀ (n : Fin 4096) (d : Fin 256), X1 (ix2 n d) = zkH x1 (ix2 (⟨4096 * b.val + n.val, by omega⟩ : Fin 32768) d))
    (e2 : ∀ (r : Fin 512) (n : Fin 4096), X2 (ix2 r n) = zvtH x2 (ix2 r (⟨4096 * b.val + n.val, by omega⟩ : Fin 32768)))
    (e4 : ∀ l : Fin 64, X4 (ix2 0 l) = x7 (ix1 l)) (i : Fin 512) (g : Fin 4) (l : Fin 64) :
    blockOut X0 X1 X2 (lampH x3 x4 x5 x6) X4 t.val (ix2 i (⟨64 * g.val + l.val, by omega⟩ : Fin 256))
      = val_main_v58 (F := Ideal) x0 x1 x2 x3 x4 x5 x6 x7 (ix2 (⟨4096 * b.val + (512 * t.val + i.val), by omega⟩ : Fin 32768) (⟨64 * g.val + l.val, by omega⟩ : Fin 256)) := by
  obtain ⟨s, hs⟩ := scale_real
  obtain ⟨lam, hl⟩ := lam_real x3 x4 x5 x6 f3 f4 f5 f6
  choose y0 f0 using f0
  choose y1 f1 using f1
  choose y2 f2 using f2
  let q : ℕ → ℕ → ℝ := fun N d => y0 (ix5 (⟨N / 4096 % 8, by omega⟩ : Fin 8) (⟨N % 4096, by omega⟩ : Fin 4096) (⟨d / 64 % 4, by omega⟩ : Fin 4) (⟨d / 32 % 2, by omega⟩ : Fin 2) (⟨d % 32, by omega⟩ : Fin 32))
  let k : ℕ → ℕ → ℝ := fun N d => y1 (ix5 (⟨N / 4096 % 8, by omega⟩ : Fin 8) (⟨N % 4096, by omega⟩ : Fin 4096) (⟨d / 64 % 4, by omega⟩ : Fin 4) (⟨d / 32 % 2, by omega⟩ : Fin 2) (⟨d % 32, by omega⟩ : Fin 32))
  let v : ℕ → ℕ → ℝ := fun N d => y2 (ix4 (⟨N / 4096 % 8, by omega⟩ : Fin 8) (⟨N % 4096, by omega⟩ : Fin 4096) (⟨d / 64 % 4, by omega⟩ : Fin 4) (⟨d % 64, by omega⟩ : Fin 64))
  have at5 : ∀ (b : Fin 8) (n : Fin 4096) (h : Fin 4) (c : Fin 2) (e : Fin 32),
      (ix5 (⟨(4096 * b.val + n.val) / 4096 % 8, by omega⟩ : Fin 8) (⟨(4096 * b.val + n.val) % 4096, by omega⟩ : Fin 4096)
        (⟨(64 * h.val + 32 * c.val + e.val) / 64 % 4, by omega⟩ : Fin 4) (⟨(64 * h.val + 32 * c.val + e.val) / 32 % 2, by omega⟩ : Fin 2) (⟨(64 * h.val + 32 * c.val + e.val) % 32, by omega⟩ : Fin 32) : S8x4096x4x2x32.Idx)
      = ix5 b n h c e := fun b n h c e => by
    congr 1 <;> exact Fin.ext (by dsimp only; omega)
  have at4 : ∀ (b : Fin 8) (n : Fin 4096) (h : Fin 4) (r : Fin 64),
      (ix4 (⟨(4096 * b.val + n.val) / 4096 % 8, by omega⟩ : Fin 8) (⟨(4096 * b.val + n.val) % 4096, by omega⟩ : Fin 4096)
        (⟨(64 * h.val + r.val) / 64 % 4, by omega⟩ : Fin 4) (⟨(64 * h.val + r.val) % 64, by omega⟩ : Fin 64) : S8x4096x4x64.Idx)
      = ix4 b n h r := fun b n h r => by
    congr 1 <;> exact Fin.ext (by dsimp only; omega)
  have hq : ∀ (b : Fin 8) (n : Fin 4096) (h : Fin 4) (c : Fin 2) (e : Fin 32), x0 (ix5 b n h c e) = ((q (4096 * b.val + n.val) (64 * h.val + 32 * c.val + e.val) : ℝ) : EReal) := fun b n h c e => by
    rw [f0]; exact congrArg (fun i => ((y0 i : ℝ) : EReal)) (at5 b n h c e).symm
  have hk : ∀ (b : Fin 8) (n : Fin 4096) (h : Fin 4) (c : Fin 2) (e : Fin 32), x1 (ix5 b n h c e) = ((k (4096 * b.val + n.val) (64 * h.val + 32 * c.val + e.val) : ℝ) : EReal) := fun b n h c e => by
    rw [f1]; exact congrArg (fun i => ((y1 i : ℝ) : EReal)) (at5 b n h c e).symm
  have hv : ∀ (b : Fin 8) (n : Fin 4096) (h : Fin 4) (r : Fin 64), x2 (ix4 b n h r) = ((v (4096 * b.val + n.val) (64 * h.val + r.val) : ℝ) : EReal) := fun b n h r => by
    rw [f2]; exact congrArg (fun i => ((y2 i : ℝ) : EReal)) (at4 b n h r).symm
  let Q : ℕ → ℕ → ℝ := fun i d => q (4096 * b.val + (512 * t.val + i)) d * (s / Real.log 2)
  let K : ℕ → ℕ → ℝ := fun n d => k (4096 * b.val + n) d
  let V : ℕ → ℕ → ℝ := fun r n => if r % 128 < 64 then v (4096 * b.val + n) (64 * (r / 128) + r % 128) else if r % 128 = 64 then 1 else 0
  have split : ∀ d : Fin 256, ∃ (h : Fin 4) (c : Fin 2) (e : Fin 32), d = ⟨64 * h.val + 32 * c.val + e.val, by omega⟩ := fun d =>
    ⟨⟨d.val / 64, by omega⟩, ⟨d.val / 32 % 2, by omega⟩, ⟨d.val % 32, by omega⟩, Fin.ext (by dsimp only; omega)⟩
  have kq : ∀ (i : Fin 512) (d : Fin 256), X0 (ix2 i d) = ((Q i.val d.val : ℝ) : EReal) := fun i d => by
    obtain ⟨h, c, e, rfl⟩ := split d
    rw [e0]
    refine (zqH_apply x0 b ⟨512 * t.val + i.val, by omega⟩ h c e).trans ?_
    rw [hq, scaleK s hs, ← EReal.coe_mul]
  have kk : ∀ (n : Fin 4096) (d : Fin 256), X1 (ix2 n d) = ((K n.val d.val : ℝ) : EReal) := fun n d => by
    obtain ⟨h, c, e, rfl⟩ := split d
    rw [e1]
    refine (zkH_apply x1 b n h c e).trans ?_
    rw [hk]
  have kv : ∀ (r : Fin 512) (n : Fin 4096), X2 (ix2 r n) = ((V r.val n.val : ℝ) : EReal) := fun r n => by
    rw [e2]
    by_cases hr : r.val % 128 < 64
    · have er : r = ⟨128 * (⟨r.val / 128, by omega⟩ : Fin 4).val + (⟨r.val % 128, hr⟩ : Fin 64).val, by dsimp only; omega⟩ := Fin.ext (by dsimp only; omega)
      refine (congrArg (fun r => zvtH x2 (ix2 r (⟨4096 * b.val + n.val, by omega⟩ : Fin 32768))) er).trans ((zvtH_val x2 b n _ _).trans ?_)
      rw [hv]
      show _ = (((if r.val % 128 < 64 then v (4096 * b.val + n.val) (64 * (r.val / 128) + r.val % 128) else if r.val % 128 = 64 then 1 else 0 : ℝ)) : EReal)
      rw [if_pos hr]
    · have er : r = ⟨128 * (⟨r.val / 128, by omega⟩ : Fin 4).val + 64 + (⟨r.val % 128 - 64, by omega⟩ : Fin 64).val, by dsimp only; omega⟩ := Fin.ext (by dsimp only; omega)
      refine (congrArg (fun r => zvtH x2 (ix2 r (⟨4096 * b.val + n.val, by omega⟩ : Fin 32768))) er).trans ((zvtH_one x2 _ _ _).trans ?_)
      show _ = (((if r.val % 128 < 64 then v (4096 * b.val + n.val) (64 * (r.val / 128) + r.val % 128) else if r.val % 128 = 64 then 1 else 0 : ℝ)) : EReal)
      rw [if_neg hr]
      by_cases h64 : r.val % 128 = 64
      · rw [if_pos h64, if_pos (by dsimp only; omega)]; rfl
      · rw [if_neg h64, if_neg (by dsimp only; omega)]; rfl
  have vval : ∀ (h r j : ℕ), h < 4 → r < 64 → V (128 * h + r) j = v (4096 * b.val + j) (64 * h + r) := fun h r j hh hr => by
    show (if (128 * h + r) % 128 < 64 then v (4096 * b.val + j) (64 * ((128 * h + r) / 128) + (128 * h + r) % 128) else _) = _
    rw [if_pos (by omega), show (128 * h + r) / 128 = h by omega, show (128 * h + r) % 128 = r by omega]
  have vone : ∀ (h j : ℕ), h < 4 → j < 4096 → V (128 * h + 64) j = 1 := fun h j hh hj => by
    show (if (128 * h + 64) % 128 < 64 then v (4096 * b.val + j) (64 * ((128 * h + 64) / 128) + (128 * h + 64) % 128) else if (128 * h + 64) % 128 = 64 then 1 else 0) = (1 : ℝ)
    rw [if_neg (by omega), if_pos (by omega)]
  rw [blockOut_apply X0 X1 X2 (lampH x3 x4 x5 x6) X4 Q K V lam kq kk kv vone ((lam_apply x3 x4 x5 x6).trans hl) t.val (by omega) i g l]
  refine Eq.trans ?_ (v58_at x0 x1 x2 x3 x4 x5 x6 x7 b g ⟨512 * t.val + i.val, by omega⟩ l).symm
  rw [e4]
  refine congrArg (fun o => normed o l (x7 (ix1 l))) (funext fun r => ?_)
  exact (v41_real x0 x1 q k s hs hq hk b g ⟨512 * t.val + i.val, by omega⟩ Q K i.val (fun d => rfl) (fun j d => rfl) x2 x3 x4 x5 x6 v V lam hv vval vone
    ((v7_at x3 x4 x5 x6 _).trans hl) r).symm

end Cert.KernelIdeal.Blk

end

end
-- ==== Proof.Value.lean ====
/-
  The kernel's result array is the reference's, for finite arguments.
-/
module

public import proofs.«01_k».proof.Proof.Point
public import Idealize.ShloMosaic.Lib.Pipeline.ValueKit.Geometry
public import Idealize.ShloMosaic.Lib.Pipeline.ValueKit.Point

@[expose] public section

set_option maxRecDepth 16384

noncomputable section

namespace Cert.KernelIdeal.Blk

open Idealize.ShloMosaic Idealize.ShloMosaic.TcCoe
open Cert.KernelIdeal Cert.KernelIdeal.Gen Cert.Flash

/-- The second coordinate of a grid point is the number of its block of queries. -/
theorem coord1 : ∀ t : Fin cfg0.N, ((grid0.coords t) 1).val = t.val % 8 := by decide +kernel
theorem points : ∀ t : Fin cfg0.N, t.val < 64 := by decide +kernel

theorem idx0 : ∀ t : Fin cfg0.N, win0_0.index t = ![t.val, 0] := by decide +kernel
theorem idx1 : ∀ t : Fin cfg0.N, win0_1.index t = ![t.val / 8, 0] := by decide +kernel
theorem idx2 : ∀ t : Fin cfg0.N, win0_2.index t = ![0, t.val / 8] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

variable (m : (ℓ : Loc nD τ sig) → Buf (Elt Ideal) ℓ) (c : Dev nD)

theorem block0 (t : Fin cfg0.N) (i : Fin 512) (d : Fin 256) :
    iblk m c 0 t (ix2 i d) = zqH (m ((c : Thread nD τ).loc main_arg0)) (ix2 (⟨512 * t.val + i.val, by have := points t; omega⟩ : Fin 32768) d) := by
  rw [← V_zq m c]
  blk_ext [iblk, V, idx0 t]

theorem block1 (t : Fin cfg0.N) (n : Fin 4096) (d : Fin 256) :
    iblk m c 1 t (ix2 n d) = zkH (m ((c : Thread nD τ).loc main_arg1)) (ix2 (⟨4096 * (t.val / 8) + n.val, by have := points t; omega⟩ : Fin 32768) d) := by
  rw [← V_zk m c]
  blk_ext [iblk, V, idx1 t]

theorem block2 (t : Fin cfg0.N) (r : Fin 512) (n : Fin 4096) :
    iblk m c 2 t (ix2 r n) = zvtH (m ((c : Thread nD τ).loc main_arg2)) (ix2 r (⟨4096 * (t.val / 8) + n.val, by have := points t; omega⟩ : Fin 32768)) := by
  rw [← V_zvt m c]
  blk_ext [iblk, V, idx2 t]

theorem block3 (t : Fin cfg0.N) :
    iblk m c 3 t = lampH (m ((c : Thread nD τ).loc main_arg3)) (m ((c : Thread nD τ).loc main_arg4)) (m ((c : Thread nD τ).loc main_arg5)) (m ((c : Thread nD τ).loc main_arg6)) := by
  rw [← V_lamp m c]
  refine funext fun y => ?_
  blk_ext [iblk, V, idx3 t]

theorem block4 (t : Fin cfg0.N) (l : Fin 64) :
    iblk m c 4 t (ix2 0 l) = m ((c : Thread nD τ).loc main_arg7) (ix1 l) := by
  have h : iblk m c 4 t = V m c main_v34 := by
    refine funext fun y => ?_
    blk_ext [iblk, V, idx4 t]
  rw [h, V_gain]
  refine shapeCast_apply _ _ _ _ ?_
  rw [Shape.rowMajor_val_two]
  refine (Shape.rowMajor_val_one _).trans ?_
  show l.val = 0 * 64 + l.val
  omega

theorem result (f0 : ∀ i, ∃ r : ℝ, m ((c : Thread nD τ).loc main_arg0) i = (r : EReal)) (f1 : ∀ i, ∃ r : ℝ, m ((c : Thread nD τ).loc main_arg1) i = (r : EReal))
    (f2 : ∀ i, ∃ r : ℝ, m ((c : Thread nD τ).loc main_arg2) i = (r : EReal)) (f3 : ∀ i, ∃ r : ℝ, m ((c : Thread nD τ).loc main_arg3) i = (r : EReal))
    (f4 : ∀ i, ∃ r : ℝ, m ((c : Thread nD τ).loc main_arg4) i = (r : EReal)) (f5 : ∀ i, ∃ r : ℝ, m ((c : Thread nD τ).loc main_arg5) i = (r : EReal))
    (f6 : ∀ i, ∃ r : ℝ, m ((c : Thread nD τ).loc main_arg6) i = (r : EReal)) :
    (runDat m 0 c).arrAt 5 cfg0.N = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (runDat m 0 c).arrAt_eq_of_covers 5 _ (by decide +kernel) fun t hf y => ?_
  blk_simp
  rw [left5]
  obtain ⟨i, d, rfl⟩ : ∃ (i : Fin 512) (d : Fin 256), y = (ix2 i d : S512x256.Idx) := ⟨y 0, y 1, funext fun a => by
    match a with
    | ⟨0, _⟩ => rfl
    | ⟨1, _⟩ => rfl⟩
  obtain ⟨g, l, rfl⟩ : ∃ (g : Fin 4) (l : Fin 64), d = ⟨64 * g.val + l.val, by omega⟩ :=
    ⟨⟨d.val / 64, by omega⟩, ⟨d.val % 64, by omega⟩, Fin.ext (by dsimp only; omega)⟩
  have ht := points t
  have e : (win0_5.blk t).view.emb (ix2 i (⟨64 * g.val + l.val, by omega⟩ : Fin 256) : S512x256.Idx)
      = (ix2 (⟨4096 * (t.val / 8) + (512 * (t.val % 8) + i.val), by omega⟩ : Fin 32768) (⟨64 * g.val + l.val, by omega⟩ : Fin 256) : S32768x256.Idx) := by
    refine funext fun a => Fin.ext ?_
    match a with
    | ⟨0, _⟩ =>
      blk_simp [idx5 t]
      show t.val * 512 + i.val = 4096 * (t.val / 8) + (512 * (t.val % 8) + i.val)
      omega
    | ⟨1, _⟩ =>
      blk_simp [idx5 t]
  rw [e]
  unfold outAt
  rw [block3, coord1]
  exact point _ _ _ _ _ _ _ _ f0 f1 f2 f3 f4 f5 f6 (⟨t.val / 8, by omega⟩ : Fin 8) (⟨t.val % 8, by omega⟩ : Fin 8) _ _ _ _
    (fun i d => (block0 m c t i d).trans (congrArg (fun r => zqH _ (ix2 r d)) (Fin.ext (by dsimp only; omega))))
    (fun n d => block1 m c t n d) (fun r n => block2 m c t r n) (fun l => block4 m c t l) i g l

/-- A number whose absolute value is below infinity is real. -/
theorem real_of_abs (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  simp [Ideal.cmp] at h
  induction x with
  | bot => simp at h
  | top => simp at h
  | coe r => exact ⟨r, rfl⟩

/-- Every element of an array whose absolute values are all below infinity is real. -/
theorem real_of_lt {s : Shape} (x : FVec Ideal s .f32) (z : FVec Ideal s .f32) (hz : ∀ i, z i = Ideal.ofBits .f32 0x7F800000#32)
    (h : cmpf .olt (Host.absf x) z = fun _ => 1#1) (i : s.Idx) : ∃ r : ℝ, x i = (r : EReal) := by
  have e := congrFun h i
  refine real_of_abs (x i) ?_
  change Ideal.cmp .olt (max (x i) (-(x i))) (z i) = 1#1 at e
  rwa [hz] at e

end Cert.KernelIdeal.Blk

end

end
-- ==== Proof.lean ====
/- The claims about the calls for the attention, the experts, the modulation and the input projection. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_regions
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel2Ideal.Launch
public import proofs.«01_k».proof.Proof.Gen.Kernel2.Launch
public import proofs.«01_k».proof.Proof.Twin2
public import proofs.«01_k».proof.Proof.More
public import proofs.«01_k».proof.Proof.Twin
public import proofs.«01_k».proof.Proof.Value
public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.Proof

open Idealize.ShloMosaic Idealize.ShloMosaic.TcCoe Idealize.SL.Sem

/-- The kernel's frame, over the extended reals. -/
theorem frame_kernel : Cert.quiescent_KernelIdeal (hKernelIdeal := Cert.KernelIdeal.Gen.facts) := fun m g _ =>
  Cert.KernelIdeal.Blk.frame_holds (F := Ideal) m g

/-- The reference's frame: it declares no semaphore. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The kernel's result array is the reference's, over the extended reals, for finite arguments. -/
theorem same_values : Cert.algebraic_KernelIdeal_ReferenceIdeal_pre_finite (hKernelIdeal := Cert.KernelIdeal.Gen.facts) (hReferenceIdeal := Cert.ReferenceIdeal.Gen.facts)
    (hPre_finite := Cert.Pre_finite.Gen.facts) := fun m g m' g' hpre hargs => by
  refine ⟨fun c => Cert.ReferenceIdeal.Value.res_main_v58 m' c, ?_, Cert.ReferenceIdeal.Value.run (F := Ideal) m' g'⟩
  refine (θ_run _ _ _).mono (fun r h c => ⟨(h.1 c).trans ?_, h.2.1 c⟩)
    (θ_run_and (Cert.KernelIdeal.Blk.run_result (F := Ideal) m g) (Cert.KernelIdeal.Blk.frame_holds (F := Ideal) m g))
  obtain ⟨p0, p1, p2, p3, p4, p5, p6⟩ := hpre c
  obtain ⟨a0, a1, a2, a3, a4, a5, a6, a7⟩ := hargs c
  refine Eq.trans ?_ (Cert.ReferenceIdeal.Read.val_main_v58_eq (F := Ideal) m' c).symm
  rw [a0, a1, a2, a3, a4, a5, a6, a7]
  exact Cert.KernelIdeal.Blk.result m c
    (Cert.KernelIdeal.Blk.real_of_lt _ _ (fun _ => rfl) p0) (Cert.KernelIdeal.Blk.real_of_lt _ _ (fun _ => rfl) p1)
    (Cert.KernelIdeal.Blk.real_of_lt _ _ (fun _ => rfl) p2) (Cert.KernelIdeal.Blk.real_of_lt _ _ (fun _ => rfl) p3)
    (Cert.KernelIdeal.Blk.real_of_lt _ _ (fun _ => rfl) p4) (Cert.KernelIdeal.Blk.real_of_lt _ _ (fun _ => rfl) p5)
    (Cert.KernelIdeal.Blk.real_of_lt _ _ (fun _ => rfl) p6)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_regions.Gen.facts,
  Cert.Twin.frame_program, frame_kernel, fun m g _ => frame_kernel m g trivial, frame_reference, fun m g _ => frame_reference m g trivial,
  Cert.Twin2.frame_program, Cert.Twin2.frame_kernel, Cert.Twin2.frame_reference, fun m g _ => Cert.Twin2.frame_reference m g trivial,
  fun m g _ => Cert.Kernel3.Gen.frame m g, fun m g _ => Cert.Kernel3Ideal.Gen.frame m g, Cert.More.frame_reference3,
  fun m g _ => Cert.Kernel4.Gen.frame m g, fun m g _ => Cert.Kernel4Ideal.Gen.frame m g, Cert.More.frame_reference4,
  trivial, same_values, trivial, Cert.Twin2.same_values, trivial, Cert.More.same_values3, trivial, Cert.More.same_values4⟩

end Cert.Proof

end
